-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_trained [hPre_trained : Cert.Pre_trained.Facts] (m : (ℓ : Loc Cert.KernelIdeal.nD Cert.KernelIdeal.τ Cert.KernelIdeal.sig) → Buf (Elt Ideal) ℓ) : Prop :=
  ∀ c : Dev Cert.KernelIdeal.nD,
    (Cert.Pre_trained.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_trained [hPre_trained : Cert.Pre_trained.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_trained.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_trained [hKernelIdeal : Cert.KernelIdeal.Facts] [hPre_trained : Cert.Pre_trained.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_trained m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_trained [hReferenceIdeal : Cert.ReferenceIdeal.Facts] [hPre_trained : Cert.Pre_trained.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_trained m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_trained [hKernelIdeal : Cert.KernelIdeal.Facts] [hReferenceIdeal : Cert.ReferenceIdeal.Facts] [hPre_trained : Cert.Pre_trained.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_trained m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v12_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v12_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_trained : Cert.Pre_trained.Facts),
    quiescent_Kernel (hKernel := hKernel)
    ∧ quiescent_KernelIdeal (hKernelIdeal := hKernelIdeal)
    ∧ quiescent_KernelIdeal_pre_trained (hKernelIdeal := hKernelIdeal) (hPre_trained := hPre_trained)
    ∧ quiescent_ReferenceIdeal (hReferenceIdeal := hReferenceIdeal)
    ∧ quiescent_ReferenceIdeal_pre_trained (hReferenceIdeal := hReferenceIdeal) (hPre_trained := hPre_trained)
    ∧ preserves_Kernel_KernelIdeal
    ∧ algebraic_KernelIdeal_ReferenceIdeal_pre_trained (hKernelIdeal := hKernelIdeal) (hReferenceIdeal := hReferenceIdeal) (hPre_trained := hPre_trained)
-- ==== Pre_trained.lean ====
abbrev S1024x256 : Shape := ⟨2, ![1024, 256]⟩
abbrev S256x256 : Shape := ⟨2, ![256, 256]⟩
abbrev S256 : Shape := ⟨1, ![256]⟩
abbrev S514x768 : Shape := ⟨2, ![514, 768]⟩
abbrev S256x768 : Shape := ⟨2, ![256, 768]⟩
abbrev S2x768 : Shape := ⟨2, ![2, 768]⟩
abbrev S256x513 : Shape := ⟨2, ![256, 513]⟩
abbrev S513 : Shape := ⟨1, ![513]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256x513 : S_.BroadcastsInDim S256x513 (![] : Fin 0 → Fin S256x513.rank)
  reducesTo_S256x513_S_d0_1 : S256x513.ReducesTo [0, 1] S_
  bcast_S_S256 : S_.BroadcastsInDim S256 (![] : Fin 0 → Fin S256.rank)
  reducesTo_S256_S_d0 : S256.ReducesTo [0] S_
  bcast_S_S2x768 : S_.BroadcastsInDim S2x768 (![] : Fin 0 → Fin S2x768.rank)
  reducesTo_S2x768_S_d0_1 : S2x768.ReducesTo [0, 1] S_
  bcast_S_S513 : S_.BroadcastsInDim S513 (![] : Fin 0 → Fin S513.rank)
  reducesTo_S513_S_d0 : S513.ReducesTo [0] S_

variable [Facts]

def fn_part1 {F : FTy → Type} [FloatOps F] (main_arg5 : FVec F S2x768 .f32) (main_arg7 : FVec F S513 .f32) (main_v13 : IVec S_ 1) (main_v15 : IVec S256 1) (main_c_5 : IVec S_ 1) : IVec S_ 1 :=
  let main_v16 : IVec S_ 1 := (fun x v => Host.reduce IntOp.andi x v reducesTo_S256_S_d0 h_S_) main_v15 main_c_5
  let main_v17 : IVec S_ 1 := andi main_v13 main_v16
  let main_cst_6 : FVec F S_ .f32 := constant S_ .f32 0x00000000#32
  let main_v18 : FVec F S2x768 .f32 := broadcastInDim S2x768 ![] bcast_S_S2x768 main_cst_6
  let main_v19 : IVec S2x768 1 := cmpf .oeq main_arg5 main_v18
  let main_c_7 : IVec S_ 1 := constantI S_ 1 1#1
  let main_v20 : IVec S_ 1 := (fun x v => Host.reduce IntOp.andi x v reducesTo_S2x768_S_d0_1 h_S_) main_v19 main_c_7
  let main_v21 : IVec S_ 1 := andi main_v17 main_v20
  let main_cst_8 : FVec F S_ .f32 := constant S_ .f32 0x00000000#32
  let main_v22 : FVec F S513 .f32 := broadcastInDim S513 ![] bcast_S_S513 main_cst_8
  let main_v23 : IVec S513 1 := cmpf .oeq main_arg7 main_v22
  let main_c_9 : IVec S_ 1 := constantI S_ 1 1#1
  let main_v24 : IVec S_ 1 := (fun x v => Host.reduce IntOp.andi x v reducesTo_S513_S_d0 h_S_) main_v23 main_c_9
  let main_v25 : IVec S_ 1 := andi main_v21 main_v24
  main_v25

def fn {F : FTy → Type} [FloatOps F] (main_arg0 : FVec F S1024x256 .f32) (main_arg1 : FVec F S256x256 .f32) (main_arg2 : FVec F S256 .f32) (main_arg3 : FVec F S514x768 .f32) (main_arg4 : FVec F S256x768 .f32) (main_arg5 : FVec F S2x768 .f32) (main_arg6 : FVec F S256x513 .f32) (main_arg7 : FVec F S513 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x513 .f32 := Host.absf main_arg6
  let main_cst_2 : FVec F S_ .f32 := constant S_ .f32 0x7F800000#32
  let main_v10 : FVec F S256x513 .f32 := broadcastInDim S256x513 ![] bcast_S_S256x513 main_cst_2
  let main_v11 : IVec S256x513 1 := cmpf .olt main_v9 main_v10
  let main_c_3 : IVec S_ 1 := constantI S_ 1 1#1
  let main_v12 : IVec S_ 1 := (fun x v => Host.reduce IntOp.andi x v reducesTo_S256x513_S_d0_1 h_S_) main_v11 main_c_3
  let main_v13 : IVec S_ 1 := andi main_v8 main_v12
  let main_cst_4 : FVec F S_ .f32 := constant S_ .f32 0x00000000#32
  let main_v14 : FVec F S256 .f32 := broadcastInDim S256 ![] bcast_S_S256 main_cst_4
  let main_v15 : IVec S256 1 := cmpf .oeq main_arg2 main_v14
  let main_c_5 : IVec S_ 1 := constantI S_ 1 1#1
  fn_part1 (F := F) main_arg5 main_arg7 main_v13 main_v15 main_c_5
-- ==== Kernel.lean ====
abbrev S1024x256 : Shape := ⟨2, ![1024, 256]⟩
abbrev S256x256 : Shape := ⟨2, ![256, 256]⟩
abbrev S256 : Shape := ⟨1, ![256]⟩
abbrev S514x768 : Shape := ⟨2, ![514, 768]⟩
abbrev S256x768 : Shape := ⟨2, ![256, 768]⟩
abbrev S2x768 : Shape := ⟨2, ![2, 768]⟩
abbrev S256x513 : Shape := ⟨2, ![256, 513]⟩
abbrev S513 : Shape := ⟨1, ![513]⟩
abbrev S_ : Shape := ⟨0, ![]⟩
abbrev S256x640 : Shape := ⟨2, ![256, 640]⟩
abbrev S256x1408 : Shape := ⟨2, ![256, 1408]⟩
abbrev S512x768 : Shape := ⟨2, ![512, 768]⟩
abbrev S1x640 : Shape := ⟨2, ![1, 640]⟩
abbrev S1 : Shape := ⟨1, ![1]⟩
abbrev S1x513 : Shape := ⟨2, ![1, 513]⟩
abbrev S1024x32 : Shape := ⟨2, ![1024, 32]⟩
abbrev S1024x32x514 : Shape := ⟨3, ![1024, 32, 514]⟩
abbrev S512x256 : Shape := ⟨2, ![512, 256]⟩
abbrev S512x32 : Shape := ⟨2, ![512, 32]⟩
abbrev S512x8x514 : Shape := ⟨3, ![512, 8, 514]⟩
abbrev S512x1 : Shape := ⟨2, ![512, 1]⟩
abbrev S1x768 : Shape := ⟨2, ![1, 768]⟩
abbrev S512x1408 : Shape := ⟨2, ![512, 1408]⟩
abbrev S512x640 : Shape := ⟨2, ![512, 640]⟩
abbrev S512 : Shape := ⟨1, ![512]⟩
abbrev S512x514 : Shape := ⟨2, ![512, 514]⟩
abbrev S512x1x514 : Shape := ⟨3, ![512, 1, 514]⟩
abbrev S512x512 : Shape := ⟨2, ![512, 512]⟩

abbrev nBuf : Space → Nat
  | .hbm => 28
  | .vmem => 17
  | .smem => 0
  | _ => 0

abbrev bufTy : (tb : Table) → Fin (tcTables nBuf tb) → BufTy
  | .hbm, ⟨0, _⟩ => ⟨S1024x256, .f32⟩
  | .hbm, ⟨1, _⟩ => ⟨S256x256, .f32⟩
  | .hbm, ⟨2, _⟩ => ⟨S256, .f32⟩
  | .hbm, ⟨3, _⟩ => ⟨S514x768, .f32⟩
  | .hbm, ⟨4, _⟩ => ⟨S256x768, .f32⟩
  | .hbm, ⟨5, _⟩ => ⟨S2x768, .f32⟩
  | .hbm, ⟨6, _⟩ => ⟨S256x513, .f32⟩
  | .hbm, ⟨7, _⟩ => ⟨S513, .f32⟩
  | .hbm, ⟨8, _⟩ => ⟨S_, .i32⟩
  | .hbm, ⟨9, _⟩ => ⟨S_, .f32⟩
  | .hbm, ⟨10, _⟩ => ⟨S256x640, .f32⟩
  | .hbm, ⟨11, _⟩ => ⟨S256x1408, .f32⟩
  | .hbm, ⟨12, _⟩ => ⟨S256x1408, .bf16⟩
  | .hbm, ⟨13, _⟩ => ⟨S512x768, .f32⟩
  | .hbm, ⟨14, _⟩ => ⟨S512x768, .bf16⟩
  | .hbm, ⟨15, _⟩ => ⟨S2x768, .f32⟩
  | .hbm, ⟨16, _⟩ => ⟨S2x768, .bf16⟩
  | .hbm, ⟨17, _⟩ => ⟨S256x256, .bf16⟩
  | .hbm, ⟨18, _⟩ => ⟨S_, .f32⟩
  | .hbm, ⟨19, _⟩ => ⟨S1x640, .f32⟩
  | .hbm, ⟨20, _⟩ => ⟨S_, .i32⟩
  | .hbm, ⟨21, _⟩ => ⟨S1, .i32⟩
  | .hbm, ⟨22, _⟩ => ⟨S_, .f32⟩
  | .hbm, ⟨23, _⟩ => ⟨S1x513, .f32⟩
  | .hbm, ⟨24, _⟩ => ⟨S1x640, .f32⟩
  | .hbm, ⟨25, _⟩ => ⟨S1024x32, .i32⟩
  | .hbm, ⟨26, _⟩ => ⟨S1024x32x514, .f32⟩
  | .hbm, ⟨27, _⟩ => ⟨S1024x32, .f32⟩
  | .local _ .vmem, ⟨0, _⟩ => ⟨S512x256, .f32⟩
  | .local _ .vmem, ⟨1, _⟩ => ⟨S512x256, .f32⟩
  | .local _ .vmem, ⟨2, _⟩ => ⟨S256x256, .bf16⟩
  | .local _ .vmem, ⟨3, _⟩ => ⟨S512x768, .bf16⟩
  | .local _ .vmem, ⟨4, _⟩ => ⟨S2x768, .bf16⟩
  | .local _ .vmem, ⟨5, _⟩ => ⟨S256x1408, .bf16⟩
  | .local _ .vmem, ⟨6, _⟩ => ⟨S1x640, .f32⟩
  | .local _ .vmem, ⟨7, _⟩ => ⟨S512x32, .i32⟩
  | .local _ .vmem, ⟨8, _⟩ => ⟨S512x32, .i32⟩
  | .local _ .vmem, ⟨9, _⟩ => ⟨S512x8x514, .f32⟩
  | .local _ .vmem, ⟨10, _⟩ => ⟨S512x8x514, .f32⟩
  | .local _ .vmem, ⟨11, _⟩ => ⟨S512x32, .f32⟩
  | .local _ .vmem, ⟨12, _⟩ => ⟨S512x32, .f32⟩
  | .local _ .vmem, ⟨13, _⟩ => ⟨S512x256, .f32⟩
  | .local _ .vmem, ⟨14, _⟩ => ⟨S512x768, .f32⟩
  | .local _ .vmem, ⟨15, _⟩ => ⟨S512x768, .f32⟩
  | .local _ .vmem, ⟨16, _⟩ => ⟨S512x1, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_c_0 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12_0 : Ref sig .tc := ⟨.hbm, 25, rfl⟩
abbrev main_v12_1 : Ref sig .tc := ⟨.hbm, 26, rfl⟩
abbrev main_v12_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x32 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x8x514 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S1024x256 : Shape := ⟨2, ![1024, 256]⟩
abbrev S256x256 : Shape := ⟨2, ![256, 256]⟩
abbrev S256 : Shape := ⟨1, ![256]⟩
abbrev S514x768 : Shape := ⟨2, ![514, 768]⟩
abbrev S256x768 : Shape := ⟨2, ![256, 768]⟩
abbrev S2x768 : Shape := ⟨2, ![2, 768]⟩
abbrev S256x513 : Shape := ⟨2, ![256, 513]⟩
abbrev S513 : Shape := ⟨1, ![513]⟩
abbrev S1x256 : Shape := ⟨2, ![1, 256]⟩
abbrev S_ : Shape := ⟨0, ![]⟩
abbrev S1 : Shape := ⟨1, ![1]⟩
abbrev S514 : Shape := ⟨1, ![514]⟩
abbrev S1x514 : Shape := ⟨2, ![1, 514]⟩
abbrev S1x1x1x514 : Shape := ⟨4, ![1, 1, 1, 514]⟩
abbrev S1024x1x1x514 : Shape := ⟨4, ![1024, 1, 1, 514]⟩
abbrev S1024x514 : Shape := ⟨2, ![1024, 514]⟩
abbrev S32x1024x514 : Shape := ⟨3, ![32, 1024, 514]⟩
abbrev S32x1024x513 : Shape := ⟨3, ![32, 1024, 513]⟩
abbrev S1x768 : Shape := ⟨2, ![1, 768]⟩
abbrev S768 : Shape := ⟨1, ![768]⟩
abbrev S1024x768 : Shape := ⟨2, ![1024, 768]⟩
abbrev S1024x513 : Shape := ⟨2, ![1024, 513]⟩
abbrev S1x513 : Shape := ⟨2, ![1, 513]⟩
abbrev S1024 : Shape := ⟨1, ![1024]⟩
abbrev S1024x1 : Shape := ⟨2, ![1024, 1]⟩
abbrev S1x1024x514 : Shape := ⟨3, ![1, 1024, 514]⟩
abbrev S1x1024x513 : Shape := ⟨3, ![1, 1024, 513]⟩
abbrev S1024x32x514 : Shape := ⟨3, ![1024, 32, 514]⟩
abbrev S1024x32x513 : Shape := ⟨3, ![1024, 32, 513]⟩
abbrev S1x1x514 : Shape := ⟨3, ![1, 1, 514]⟩
abbrev S1024x32 : Shape := ⟨2, ![1024, 32]⟩
abbrev S1024x31 : Shape := ⟨2, ![1024, 31]⟩
abbrev S1024x32x1 : Shape := ⟨3, ![1024, 32, 1]⟩
abbrev S1024x32x1x1 : Shape := ⟨4, ![1024, 32, 1, 1]⟩
abbrev S1x1x1x1 : Shape := ⟨4, ![1, 1, 1, 1]⟩

abbrev nBuf : Space → Nat
  | .hbm => 197
  | .vmem => 0
  | .smem => 0
  | _ => 0

abbrev hbmTy0_0 (i : Nat) : BufTy := match i % 128 with
  | 0 => ⟨S1024x256, .f32⟩
  | 1 => ⟨S256x256, .f32⟩
  | 2 => ⟨S256, .f32⟩
  | 3 => ⟨S514x768, .f32⟩
  | 4 => ⟨S256x768, .f32⟩
  | 5 => ⟨S2x768, .f32⟩
  | 6 => ⟨S256x513, .f32⟩
  | 7 => ⟨S513, .f32⟩
  | 8 => ⟨S1024x256, .f32⟩
  | 9 => ⟨S1x256, .f32⟩
  | 10 => ⟨S1024x256, .f32⟩
  | 11 => ⟨S1024x256, .f32⟩
  | 12 => ⟨S1024x256, .f32⟩
  | 13 => ⟨S1024x256, .f32⟩
  | 14 => ⟨S_, .f32⟩
  | 15 => ⟨S1024x256, .f32⟩
  | 16 => ⟨S1024x256, .f32⟩
  | 17 => ⟨S_, .f32⟩
  | 18 => ⟨S1024x256, .f32⟩
  | 19 => ⟨S1024x256, .f32⟩
  | 20 => ⟨S1024x256, .f32⟩
  | 21 => ⟨S_, .i32⟩
  | 22 => ⟨S1, .i32⟩
  | 23 => ⟨S514, .i32⟩
  | 24 => ⟨S1, .i32⟩
  | 25 => ⟨S514, .i32⟩
  | 26 => ⟨S514, .i1⟩
  | 27 => ⟨S514, .f32⟩
  | 28 => ⟨S1x514, .f32⟩
  | 29 => ⟨S1x1x1x514, .f32⟩
  | 30 => ⟨S1024x1x1x514, .f32⟩
  | 31 => ⟨S1024x514, .f32⟩
  | 32 => ⟨S_, .i32⟩
  | 33 => ⟨S1, .i32⟩
  | 34 => ⟨S514, .i32⟩
  | 35 => ⟨S1, .i32⟩
  | 36 => ⟨S514, .i32⟩
  | 37 => ⟨S514, .i1⟩
  | 38 => ⟨S514, .f32⟩
  | 39 => ⟨S_, .f32⟩
  | 40 => ⟨S32x1024x514, .f32⟩
  | 41 => ⟨S_, .f32⟩
  | 42 => ⟨S32x1024x513, .f32⟩
  | 43 => ⟨S_, .i32⟩
  | 44 => ⟨S2x768, .f32⟩
  | 45 => ⟨S514x768, .f32⟩
  | 46 => ⟨S256x768, .f32⟩
  | 47 => ⟨S256x513, .f32⟩
  | 48 => ⟨S513, .f32⟩
  | 49 => ⟨S_, .i32⟩
  | 50 => ⟨S1024x256, .f32⟩
  | 51 => ⟨S1024x514, .f32⟩
  | 52 => ⟨S32x1024x514, .f32⟩
  | 53 => ⟨S32x1024x513, .f32⟩
  | 54 => ⟨S_, .i32⟩
  | 55 => ⟨S_, .i1⟩
  | 56 => ⟨S1x768, .f32⟩
  | 57 => ⟨S768, .f32⟩
  | 58 => ⟨S1x768, .f32⟩
  | 59 => ⟨S768, .f32⟩
  | 60 => ⟨S1024x768, .f32⟩
  | 61 => ⟨S1x768, .f32⟩
  | 62 => ⟨S1024x768, .f32⟩
  | 63 => ⟨S1024x768, .f32⟩
  | 64 => ⟨S1024x768, .f32⟩
  | 65 => ⟨S1x768, .f32⟩
  | 66 => ⟨S1024x768, .f32⟩
  | 67 => ⟨S1024x768, .f32⟩
  | 68 => ⟨S1024x256, .f32⟩
  | 69 => ⟨S1024x256, .f32⟩
  | 70 => ⟨S1024x256, .f32⟩
  | 71 => ⟨S1024x256, .f32⟩
  | 72 => ⟨S1024x256, .f32⟩
  | 73 => ⟨S1024x256, .f32⟩
  | 74 => ⟨S1024x256, .f32⟩
  | 75 => ⟨S1024x256, .f32⟩
  | 76 => ⟨S1024x256, .f32⟩
  | 77 => ⟨S_, .f32⟩
  | 78 => ⟨S1024x256, .f32⟩
  | 79 => ⟨S1024x256, .f32⟩
  | 80 => ⟨S_, .f32⟩
  | 81 => ⟨S1024x256, .f32⟩
  | 82 => ⟨S1024x256, .f32⟩
  | 83 => ⟨S1024x256, .f32⟩
  | 84 => ⟨S1024x256, .f32⟩
  | 85 => ⟨S1024x256, .f32⟩
  | 86 => ⟨S_, .f32⟩
  | 87 => ⟨S1024x256, .f32⟩
  | 88 => ⟨S1024x256, .f32⟩
  | 89 => ⟨S_, .f32⟩
  | 90 => ⟨S1024x256, .f32⟩
  | 91 => ⟨S1024x256, .f32⟩
  | 92 => ⟨S1024x256, .f32⟩
  | 93 => ⟨S1024x256, .f32⟩
  | 94 => ⟨S1024x256, .f32⟩
  | 95 => ⟨S1024x256, .f32⟩
  | 96 => ⟨S_, .f32⟩
  | 97 => ⟨S1024x256, .f32⟩
  | 98 => ⟨S1024x256, .f32⟩
  | 99 => ⟨S1024x256, .f32⟩
  | 100 => ⟨S1024x256, .f32⟩
  | 101 => ⟨S1024x513, .f32⟩
  | 102 => ⟨S1x513, .f32⟩
  | 103 => ⟨S1024x513, .f32⟩
  | 104 => ⟨S1024x513, .f32⟩
  | 105 => ⟨S_, .f32⟩
  | 106 => ⟨S1024, .f32⟩
  | 107 => ⟨S_, .f32⟩
  | 108 => ⟨S1024, .f32⟩
  | 109 => ⟨S1024, .f32⟩
  | 110 => ⟨S1024x1, .f32⟩
  | 111 => ⟨S1024x513, .f32⟩
  | 112 => ⟨S1024x513, .f32⟩
  | 113 => ⟨S1024x513, .f32⟩
  | 114 => ⟨S_, .f32⟩
  | 115 => ⟨S1024, .f32⟩
  | 116 => ⟨S1024x1, .f32⟩
  | 117 => ⟨S1024x513, .f32⟩
  | 118 => ⟨S1024x513, .f32⟩
  | 119 => ⟨S1024x513, .i32⟩
  | 120 => ⟨S_, .f32⟩
  | 121 => ⟨S_, .i32⟩
  | 122 => ⟨S1024, .f32⟩
  | 123 => ⟨S1024, .i32⟩
  | 124 => ⟨S1024x1, .i32⟩
  | 125 => ⟨S1x514, .i32⟩
  | 126 => ⟨S1024x514, .i32⟩
  | 127 => ⟨S1024x514, .i32⟩
  | _ => ⟨S1024x256, .f32⟩

abbrev hbmTy0_1 (i : Nat) : BufTy := match i % 128 with
  | 0 => ⟨S1024x514, .i1⟩
  | 1 => ⟨S1024x514, .f32⟩
  | 2 => ⟨S1x1024x514, .f32⟩
  | 3 => ⟨S_, .i32⟩
  | 4 => ⟨S_, .i32⟩
  | 5 => ⟨S32x1024x514, .f32⟩
  | 6 => ⟨S1x1024x513, .f32⟩
  | 7 => ⟨S_, .i32⟩
  | 8 => ⟨S_, .i32⟩
  | 9 => ⟨S32x1024x513, .f32⟩
  | 10 => ⟨S_, .i32⟩
  | 11 => ⟨S_, .i32⟩
  | 12 => ⟨S1024x32x514, .f32⟩
  | 13 => ⟨S1024x32x513, .f32⟩
  | 14 => ⟨S1x1x514, .f32⟩
  | 15 => ⟨S1024x32x514, .f32⟩
  | 16 => ⟨S1024x32x514, .i1⟩
  | 17 => ⟨S_, .i1⟩
  | 18 => ⟨S1024x32, .i1⟩
  | 19 => ⟨S1024x32, .i32⟩
  | 20 => ⟨S_, .i32⟩
  | 21 => ⟨S_, .i32⟩
  | 22 => ⟨S1024x32, .i32⟩
  | 23 => ⟨S_, .i32⟩
  | 24 => ⟨S1024x32, .i32⟩
  | 25 => ⟨S1024x32, .i1⟩
  | 26 => ⟨S_, .i1⟩
  | 27 => ⟨S1024x1, .i1⟩
  | 28 => ⟨S1024x31, .i1⟩
  | 29 => ⟨S1024x32, .i1⟩
  | 30 => ⟨S1024x32x514, .i32⟩
  | 31 => ⟨S_, .f32⟩
  | 32 => ⟨S_, .i32⟩
  | 33 => ⟨S1024x32, .f32⟩
  | 34 => ⟨S1024x32, .i32⟩
  | 35 => ⟨S1024x32, .i1⟩
  | 36 => ⟨S1024x32, .i1⟩
  | 37 => ⟨S1024x32x1, .i32⟩
  | 38 => ⟨S_, .i32⟩
  | 39 => ⟨S1024x32x1, .i32⟩
  | 40 => ⟨S1024x32x1, .i1⟩
  | 41 => ⟨S_, .i32⟩
  | 42 => ⟨S1024x32x1, .i32⟩
  | 43 => ⟨S1024x32x1, .i32⟩
  | 44 => ⟨S1024x32x1, .i32⟩
  | 45 => ⟨S1024x32x1x1, .i32⟩
  | 46 => ⟨S1, .i32⟩
  | 47 => ⟨S_, .i32⟩
  | 48 => ⟨S1024x32x1x1, .i32⟩
  | 49 => ⟨S1024x32x1x1, .i1⟩
  | 50 => ⟨S1x1x1x1, .i32⟩
  | 51 => ⟨S1024x32x1x1, .i32⟩
  | 52 => ⟨S1024x32x1x1, .i1⟩
  | 53 => ⟨S1024x32x1x1, .i1⟩
  | 54 => ⟨S_, .i1⟩
  | 55 => ⟨S1024x32x1, .i1⟩
  | 56 => ⟨S1024x32x1, .f32⟩
  | 57 => ⟨S_, .f32⟩
  | 58 => ⟨S1024x32x1, .f32⟩
  | 59 => ⟨S1024x32x1, .f32⟩
  | 60 => ⟨S1024x32, .f32⟩
  | 61 => ⟨S1024x32, .i32⟩
  | 62 => ⟨S1024x32, .i32⟩
  | 63 => ⟨S1024x32x1, .i1⟩
  | 64 => ⟨S1024x32x1, .f32⟩
  | 65 => ⟨S1024x32x514, .f32⟩
  | 66 => ⟨S1024x32x514, .f32⟩
  | 67 => ⟨S1024x32, .f32⟩
  | 68 => ⟨S1024x32, .f32⟩
  | _ => ⟨S1024x256, .f32⟩

abbrev hbmTy (i : Nat) : BufTy := match i / 128 with
  | 0 => hbmTy0_0 i
  | 1 => hbmTy0_1 i
  | _ => ⟨S1024x256, .f32⟩

abbrev bufTy : (tb : Table) → Fin (tcTables nBuf tb) → BufTy
  | .hbm, ⟨i, _⟩ => hbmTy i
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v4 : Ref sig .tc := ⟨.hbm, 20, rfl⟩
abbrev main_c : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_c_0 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_v10 : Ref sig .tc := ⟨.hbm, 38, rfl⟩
abbrev main_cst : Ref sig .tc := ⟨.hbm, 39, rfl⟩
abbrev main_v11 : Ref sig .tc := ⟨.hbm, 40, rfl⟩
abbrev main_cst_1 : Ref sig .tc := ⟨.hbm, 41, rfl⟩
abbrev main_v12 : Ref sig .tc := ⟨.hbm, 42, rfl⟩
abbrev main_c_2 : Ref sig .tc := ⟨.hbm, 43, rfl⟩
abbrev main_v13_0 : Ref sig .tc := ⟨.hbm, 44, rfl⟩
abbrev main_v13_1 : Ref sig .tc := ⟨.hbm, 45, rfl⟩
abbrev main_v13_2 : Ref sig .tc := ⟨.hbm, 46, rfl⟩
abbrev main_v13_3 : Ref sig .tc := ⟨.hbm, 47, rfl⟩
abbrev main_v13_4 : Ref sig .tc := ⟨.hbm, 48, rfl⟩
abbrev main_v13_5 : Ref sig .tc := ⟨.hbm, 49, rfl⟩
abbrev main_v13_6 : Ref sig .tc := ⟨.hbm, 50, rfl⟩
abbrev main_v13_7 : Ref sig .tc := ⟨.hbm, 51, rfl⟩
abbrev main_v13_8 : Ref sig .tc := ⟨.hbm, 52, rfl⟩
abbrev main_v13_9 : Ref sig .tc := ⟨.hbm, 53, rfl⟩
abbrev main_while0c_c_15 : Ref sig .tc := ⟨.hbm, 54, rfl⟩
abbrev main_while0c_v41 : Ref sig .tc := ⟨.hbm, 55, rfl⟩
abbrev main_while0b_v41 : Ref sig .tc := ⟨.hbm, 56, rfl⟩
abbrev main_while0b_v42 : Ref sig .tc := ⟨.hbm, 57, rfl⟩
abbrev main_while0b_v43 : Ref sig .tc := ⟨.hbm, 58, rfl⟩
abbrev main_while0b_v44 : Ref sig .tc := ⟨.hbm, 59, rfl⟩
abbrev main_while0b_v45 : Ref sig .tc := ⟨.hbm, 60, rfl⟩
abbrev main_while0b_v46 : Ref sig .tc := ⟨.hbm, 61, rfl⟩
abbrev main_while0b_v47 : Ref sig .tc := ⟨.hbm, 62, rfl⟩
abbrev main_while0b_v48 : Ref sig .tc := ⟨.hbm, 63, rfl⟩
abbrev main_while0b_v49 : Ref sig .tc := ⟨.hbm, 64, rfl⟩
abbrev main_while0b_v50 : Ref sig .tc := ⟨.hbm, 65, rfl⟩
abbrev main_while0b_v51 : Ref sig .tc := ⟨.hbm, 66, rfl⟩
abbrev main_while0b_v52 : Ref sig .tc := ⟨.hbm, 67, rfl⟩
abbrev main_while0b_v53 : Ref sig .tc := ⟨.hbm, 68, rfl⟩
abbrev main_while0b_v54 : Ref sig .tc := ⟨.hbm, 69, rfl⟩
abbrev main_while0b_v55 : Ref sig .tc := ⟨.hbm, 70, rfl⟩
abbrev main_while0b_v56 : Ref sig .tc := ⟨.hbm, 71, rfl⟩
abbrev main_while0b_v57 : Ref sig .tc := ⟨.hbm, 72, rfl⟩
abbrev main_while0b_v58 : Ref sig .tc := ⟨.hbm, 73, rfl⟩
abbrev main_while0b_v59 : Ref sig .tc := ⟨.hbm, 74, rfl⟩
abbrev main_while0b_v60 : Ref sig .tc := ⟨.hbm, 75, rfl⟩
abbrev main_while0b_v61 : Ref sig .tc := ⟨.hbm, 76, rfl⟩
abbrev main_while0b_cst_15 : Ref sig .tc := ⟨.hbm, 77, rfl⟩
abbrev main_while0b_v62 : Ref sig .tc := ⟨.hbm, 78, rfl⟩
abbrev main_while0b_v63 : Ref sig .tc := ⟨.hbm, 79, rfl⟩
abbrev main_while0b_cst_16 : Ref sig .tc := ⟨.hbm, 80, rfl⟩
abbrev main_while0b_v64 : Ref sig .tc := ⟨.hbm, 81, rfl⟩
abbrev main_while0b_v65 : Ref sig .tc := ⟨.hbm, 82, rfl⟩
abbrev main_while0b_v66 : Ref sig .tc := ⟨.hbm, 83, rfl⟩
abbrev main_while0b_v67 : Ref sig .tc := ⟨.hbm, 84, rfl⟩
abbrev main_while0b_v68 : Ref sig .tc := ⟨.hbm, 85, rfl⟩
abbrev main_while0b_cst_17 : Ref sig .tc := ⟨.hbm, 86, rfl⟩
abbrev main_while0b_v69 : Ref sig .tc := ⟨.hbm, 87, rfl⟩
abbrev main_while0b_v70 : Ref sig .tc := ⟨.hbm, 88, rfl⟩
abbrev main_while0b_cst_18 : Ref sig .tc := ⟨.hbm, 89, rfl⟩
abbrev main_while0b_v71 : Ref sig .tc := ⟨.hbm, 90, rfl⟩
abbrev main_while0b_v72 : Ref sig .tc := ⟨.hbm, 91, rfl⟩
abbrev main_while0b_v73 : Ref sig .tc := ⟨.hbm, 92, rfl⟩
abbrev main_while0b_v74 : Ref sig .tc := ⟨.hbm, 93, rfl⟩
abbrev main_while0b_v75 : Ref sig .tc := ⟨.hbm, 94, rfl⟩
abbrev main_while0b_v76 : Ref sig .tc := ⟨.hbm, 95, rfl⟩
abbrev main_while0b_cst_19 : Ref sig .tc := ⟨.hbm, 96, rfl⟩
abbrev main_while0b_v77 : Ref sig .tc := ⟨.hbm, 97, rfl⟩
abbrev main_while0b_v78 : Ref sig .tc := ⟨.hbm, 98, rfl⟩
abbrev main_while0b_v79 : Ref sig .tc := ⟨.hbm, 99, rfl⟩
abbrev main_while0b_v80 : Ref sig .tc := ⟨.hbm, 100, rfl⟩
abbrev main_while0b_v81 : Ref sig .tc := ⟨.hbm, 101, rfl⟩
abbrev main_while0b_v82 : Ref sig .tc := ⟨.hbm, 102, rfl⟩
abbrev main_while0b_v83 : Ref sig .tc := ⟨.hbm, 103, rfl⟩
abbrev main_while0b_v84 : Ref sig .tc := ⟨.hbm, 104, rfl⟩
abbrev main_while0b_cst_20 : Ref sig .tc := ⟨.hbm, 105, rfl⟩
abbrev main_while0b_v85 : Ref sig .tc := ⟨.hbm, 106, rfl⟩
abbrev main_while0b_cst_21 : Ref sig .tc := ⟨.hbm, 107, rfl⟩
abbrev main_while0b_v86 : Ref sig .tc := ⟨.hbm, 108, rfl⟩
abbrev main_while0b_v87 : Ref sig .tc := ⟨.hbm, 109, rfl⟩
abbrev main_while0b_v88 : Ref sig .tc := ⟨.hbm, 110, rfl⟩
abbrev main_while0b_v89 : Ref sig .tc := ⟨.hbm, 111, rfl⟩
abbrev main_while0b_v90 : Ref sig .tc := ⟨.hbm, 112, rfl⟩
abbrev main_while0b_v91 : Ref sig .tc := ⟨.hbm, 113, rfl⟩
abbrev main_while0b_cst_22 : Ref sig .tc := ⟨.hbm, 114, rfl⟩
abbrev main_while0b_v92 : Ref sig .tc := ⟨.hbm, 115, rfl⟩
abbrev main_while0b_v93 : Ref sig .tc := ⟨.hbm, 116, rfl⟩
abbrev main_while0b_v94 : Ref sig .tc := ⟨.hbm, 117, rfl⟩
abbrev main_while0b_v95 : Ref sig .tc := ⟨.hbm, 118, rfl⟩
abbrev main_while0b_call3_v0 : Ref sig .tc := ⟨.hbm, 119, rfl⟩
abbrev main_while0b_call3_cst : Ref sig .tc := ⟨.hbm, 120, rfl⟩
abbrev main_while0b_call3_c : Ref sig .tc := ⟨.hbm, 121, rfl⟩
abbrev main_while0b_call3_v1_0 : Ref sig .tc := ⟨.hbm, 122, rfl⟩
abbrev main_while0b_v96 : Ref sig .tc := ⟨.hbm, 123, rfl⟩
abbrev main_while0b_call4_v0 : Ref sig .tc := ⟨.hbm, 124, rfl⟩
abbrev main_while0b_call4_v1 : Ref sig .tc := ⟨.hbm, 125, rfl⟩
abbrev main_while0b_call4_v2 : Ref sig .tc := ⟨.hbm, 126, rfl⟩
abbrev main_while0b_call4_v3 : Ref sig .tc := ⟨.hbm, 127, rfl⟩
abbrev main_while0b_call4_v4 : Ref sig .tc := ⟨.hbm, 128, rfl⟩
abbrev main_while0b_v97 : Ref sig .tc := ⟨.hbm, 129, rfl⟩
abbrev main_while0b_call5_v0 : Ref sig .tc := ⟨.hbm, 130, rfl⟩
abbrev main_while0b_call5_c : Ref sig .tc := ⟨.hbm, 131, rfl⟩
abbrev main_while0b_call5_c_0 : Ref sig .tc := ⟨.hbm, 132, rfl⟩
abbrev main_while0b_v98 : Ref sig .tc := ⟨.hbm, 133, rfl⟩
abbrev main_while0b_call6_v0 : Ref sig .tc := ⟨.hbm, 134, rfl⟩
abbrev main_while0b_call6_c : Ref sig .tc := ⟨.hbm, 135, rfl⟩
abbrev main_while0b_call6_c_0 : Ref sig .tc := ⟨.hbm, 136, rfl⟩
abbrev main_while0b_v99 : Ref sig .tc := ⟨.hbm, 137, rfl⟩
abbrev main_while0b_c_23 : Ref sig .tc := ⟨.hbm, 138, rfl⟩
abbrev main_while0b_v100 : Ref sig .tc := ⟨.hbm, 139, rfl⟩
abbrev main_v14 : Ref sig .tc := ⟨.hbm, 140, rfl⟩
abbrev main_v15 : Ref sig .tc := ⟨.hbm, 141, rfl⟩
abbrev main_v16 : Ref sig .tc := ⟨.hbm, 142, rfl⟩
abbrev main_v17 : Ref sig .tc := ⟨.hbm, 143, rfl⟩
abbrev main_v18 : Ref sig .tc := ⟨.hbm, 144, rfl⟩
abbrev main_c_3 : Ref sig .tc := ⟨.hbm, 145, rfl⟩
abbrev main_v19 : Ref sig .tc := ⟨.hbm, 146, rfl⟩
abbrev main_v20 : Ref sig .tc := ⟨.hbm, 147, rfl⟩
abbrev main_call7_call0_c : Ref sig .tc := ⟨.hbm, 148, rfl⟩
abbrev main_call7_call0_v0 : Ref sig .tc := ⟨.hbm, 149, rfl⟩
abbrev main_v21 : Ref sig .tc := ⟨.hbm, 150, rfl⟩
abbrev main_c_4 : Ref sig .tc := ⟨.hbm, 151, rfl⟩
abbrev main_v22 : Ref sig .tc := ⟨.hbm, 152, rfl⟩
abbrev main_v23 : Ref sig .tc := ⟨.hbm, 153, rfl⟩
abbrev main_c_5 : Ref sig .tc := ⟨.hbm, 154, rfl⟩
abbrev main_v24 : Ref sig .tc := ⟨.hbm, 155, rfl⟩
abbrev main_v25 : Ref sig .tc := ⟨.hbm, 156, rfl⟩
abbrev main_v26 : Ref sig .tc := ⟨.hbm, 157, rfl⟩
abbrev main_call8_v0 : Ref sig .tc := ⟨.hbm, 158, rfl⟩
abbrev main_call8_cst : Ref sig .tc := ⟨.hbm, 159, rfl⟩
abbrev main_call8_c : Ref sig .tc := ⟨.hbm, 160, rfl⟩
abbrev main_call8_v1_0 : Ref sig .tc := ⟨.hbm, 161, rfl⟩
abbrev main_v27 : Ref sig .tc := ⟨.hbm, 162, rfl⟩
abbrev main_v28 : Ref sig .tc := ⟨.hbm, 163, rfl⟩
abbrev main_v29 : Ref sig .tc := ⟨.hbm, 164, rfl⟩
abbrev main_v30 : Ref sig .tc := ⟨.hbm, 165, rfl⟩
abbrev main_call9_c : Ref sig .tc := ⟨.hbm, 166, rfl⟩
abbrev main_call9_v0 : Ref sig .tc := ⟨.hbm, 167, rfl⟩
abbrev main_call9_v1 : Ref sig .tc := ⟨.hbm, 168, rfl⟩
abbrev main_call9_c_0 : Ref sig .tc := ⟨.hbm, 169, rfl⟩
abbrev main_call9_v2 : Ref sig .tc := ⟨.hbm, 170, rfl⟩
abbrev main_call9_v3 : Ref sig .tc := ⟨.hbm, 171, rfl⟩
abbrev main_call9_v4 : Ref sig .tc := ⟨.hbm, 172, rfl⟩
abbrev main_call9_v5 : Ref sig .tc := ⟨.hbm, 173, rfl⟩
abbrev main_call9_c_1 : Ref sig .tc := ⟨.hbm, 174, rfl⟩
abbrev main_call9_c_2 : Ref sig .tc := ⟨.hbm, 175, rfl⟩
abbrev main_call9_v6 : Ref sig .tc := ⟨.hbm, 176, rfl⟩
abbrev main_call9_v7 : Ref sig .tc := ⟨.hbm, 177, rfl⟩
abbrev main_call9_v8 : Ref sig .tc := ⟨.hbm, 178, rfl⟩
abbrev main_call9_v9 : Ref sig .tc := ⟨.hbm, 179, rfl⟩
abbrev main_call9_v10 : Ref sig .tc := ⟨.hbm, 180, rfl⟩
abbrev main_call9_v11 : Ref sig .tc := ⟨.hbm, 181, rfl⟩
abbrev main_call9_c_3 : Ref sig .tc := ⟨.hbm, 182, rfl⟩
abbrev main_call9_v12 : Ref sig .tc := ⟨.hbm, 183, rfl⟩
abbrev main_call9_v13 : Ref sig .tc := ⟨.hbm, 184, rfl⟩
abbrev main_call9_cst : Ref sig .tc := ⟨.hbm, 185, rfl⟩
abbrev main_call9_v14 : Ref sig .tc := ⟨.hbm, 186, rfl⟩
abbrev main_v31 : Ref sig .tc := ⟨.hbm, 187, rfl⟩
abbrev main_v32 : Ref sig .tc := ⟨.hbm, 188, rfl⟩
abbrev main_v33 : Ref sig .tc := ⟨.hbm, 189, rfl⟩
abbrev main_v34 : Ref sig .tc := ⟨.hbm, 190, rfl⟩
abbrev main_v35 : Ref sig .tc := ⟨.hbm, 191, rfl⟩
abbrev main_v36 : Ref sig .tc := ⟨.hbm, 192, rfl⟩
abbrev main_v37 : Ref sig .tc := ⟨.hbm, 193, rfl⟩
abbrev main_v38 : Ref sig .tc := ⟨.hbm, 194, rfl⟩
abbrev main_v39 : Ref sig .tc := ⟨.hbm, 195, rfl⟩
abbrev main_v40 : Ref sig .tc := ⟨.hbm, 196, rfl⟩

abbrev nD : Nat := 1
abbrev τ : Topo := Topo.v7x

variable {F : FTy → Type} [FloatOps F]

abbrev main_while0_count : Scf.Loop 32 := ⟨0#32, 32#32, 1#32⟩
-- ==== Proof.KI.Step.lean ====
module

public import proofs.«01_k».proof.Proof.Gen.KernelIdeal.Skeleton
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic

variable {F : FTy → Type} [FloatOps F] [Named F]

/-- What the kernel carries from one step of the recurrence to the next, for the 512 rows of a block: the hidden state, the
    input half and the recurrent half of the next gates' pre-activations, and the flag of the rows that have ended. -/
structure Carry (F : FTy → Type) [FloatOps F] where
  h : FVec F S512x256 .f32
  xz : FVec F S512x768 .f32
  hz : FVec F S512x768 .f32
  fin : FVec F S512x1 .f32

/-- The weights one step reads: the output and recurrent weights side by side, the pad indicator, the input weights of
    the first 512 symbols and of symbol 512. -/
structure Wts (F : FTy → Type) [FloatOps F] where
  C : FVec F S256x1408 .bf16
  pm : FVec F S1x640 .f32
  K : FVec F S512x768 .bf16
  kx : FVec F S1x768 .bf16

/-- A step's logits, the padded columns at the mask. -/
def lgts (W : Wts F) (s : Carry F) : FVec F S512x640 .f32 := k0_pay11 s.h s.xz s.hz W.C W.pm
/-- Their maximum along each row. -/
def lmax (W : Wts F) (s : Carry F) : FVec F S512 .f32 := k0_pay13 s.h s.xz s.hz W.C W.pm
/-- The symbol each row chooses: the first column that attains the maximum. -/
def symb (W : Wts F) (s : Carry F) : IVec S512x1 32 := k0_pay15 (lgts W s) (lmax W s)
/-- The flag that the chosen symbol is the last one. -/
def eosb (W : Wts F) (s : Carry F) : IVec S512x1 1 := k0_pay20 (lgts W s) (lmax W s)
/-- One step of the recurrence. -/
def step (W : Wts F) (s : Carry F) : Carry F where
  h := k0_pay9 s.h s.xz s.hz
  xz := k0_pay25 (symb W s) (eosb W s) W.K W.kx
  hz := k0_pay12 s.h s.xz s.hz W.C
  fin := k0_pay22 s.fin (k0_pay21 (lgts W s) (lmax W s))

/-- The carry after `n` steps. -/
def steps (W : Wts F) (s : Carry F) : ℕ → Carry F
  | 0 => s
  | n + 1 => step W (steps W s n)

/-- The probability of the chosen symbol, zero on the rows that have ended. -/
def probOf (v36 : FVec F S512x640 .f32) (v38 : FVec F S512 .f32) (v6 : FVec F S512x1 .f32) : FVec F S512x1 .f32 :=
  select (k0_pay16 v6)
    (divf (broadcast S512x1 (Scalar.ofBits .f32 0x3F800000#32))
      (shapeCast S512x1 (multiReduction .add [1] S512 (exp (subf v36 (broadcastTo S512x640 (k0_pay14 v38) broadcasts_S512x1_S512x640)))
        0x00000000#32 reduces_S512x640_S512 (.inl rfl) rfl) shapeCasts_S512_S512x1))
    (broadcast S512x1 (Scalar.ofBits .f32 0x00000000#32))

/-- The mask of the column that step `j` of block column `a` writes. -/
def colMask (a j : BitVec 32) : IVec S512x32 1 :=
  cmpi .eq (iota .tc S512x32 32 [1] iota_S512x32_d1_w32) (broadcast S512x32 (Scalar.addi (Scalar.muli 8#32 a) j))

/-- The symbol a step writes, zero on the rows that have ended. -/
def symV (W : Wts F) (s : Carry F) : IVec S512x1 32 := select (k0_pay16 s.fin) (symb W s) (broadcast S512x1 0#32)
/-- The probability a step writes. -/
def probV (W : Wts F) (s : Carry F) : FVec F S512x1 .f32 := probOf (lgts W s) (lmax W s) s.fin

/-- The symbols' block with the step's column overwritten. -/
def putSym (W : Wts F) (s : Carry F) (a j : BitVec 32) (x : IVec S512x32 32) : IVec S512x32 32 :=
  select (colMask a j)
    (broadcastTo S512x32 (shapeCast S512x1 (symV W s) shapeCasts_S512x1_S512x1) broadcasts_S512x1_S512x32)
    (shapeCast S512x32 x shapeCasts_S512x32_S512x32)

/-- The probabilities' block with the step's column overwritten. -/
def putProb (W : Wts F) (s : Carry F) (a j : BitVec 32) (x : FVec F S512x32 .f32) : FVec F S512x32 .f32 :=
  select (colMask a j)
    (broadcastTo S512x32 (shapeCast S512x1 (probOf (lgts W s) (lmax W s) s.fin) shapeCasts_S512x1_S512x1) broadcasts_S512x1_S512x32)
    (shapeCast S512x32 x shapeCasts_S512x32_S512x32)

/-- The one-hot row a step writes into the tokens' block. -/
def tokRow (W : Wts F) (s : Carry F) : FVec F S512x1x514 .f32 :=
  k0_pay24 s.fin (symb W s) (k0_pay21 (lgts W s) (lmax W s))

/-- The symbols' block after the first `n` steps of a point. -/
def symAfter (W : Wts F) (s : Carry F) (a : BitVec 32) (x : IVec S512x32 32) : ℕ → IVec S512x32 32
  | 0 => x
  | n + 1 => putSym W (steps W s n) a (BitVec.ofNat 32 n) (symAfter W s a x n)

/-- The probabilities' block after the first `n` steps of a point. -/
def probAfter (W : Wts F) (s : Carry F) (a : BitVec 32) (x : FVec F S512x32 .f32) : ℕ → FVec F S512x32 .f32
  | 0 => x
  | n + 1 => putProb W (steps W s n) a (BitVec.ofNat 32 n) (probAfter W s a x n)

/-- The weights as a point reads them off its input blocks. -/
def wts (x2 : FVec F S512x768 .bf16) (x3 : FVec F S2x768 .bf16) (x4 : FVec F S256x1408 .bf16) (x5 : FVec F S1x640 .f32) : Wts F where
  C := x4
  pm := x5
  K := x2
  kx := View.ld (Val := Elt F) (e' := .bf16) x3 (Rect.unit (s := S2x768) ![0, 0] S1x768.size inb_S2x768_S1x768_0_0)

/-- The carry a run of steps starts from. -/
def start (x0 : FVec F S512x256 .f32) (x1 : FVec F S256x256 .bf16) (x3 : FVec F S2x768 .bf16) (x4 : FVec F S256x1408 .bf16) : Carry F where
  h := k0_pay5 x0 x1
  xz := k0_pay7 (View.ld (Val := Elt F) (e' := .bf16) x3 (Rect.unit (s := S2x768) ![1, 0] S1x768.size inb_S2x768_S1x768_1_0))
  hz := k0_pay6 x0 x1 (View.ld (Val := Elt F) (e' := .bf16) x4 (Rect.unit (s := S256x1408) ![0, 640] S256x768.size inb_S256x1408_S256x768_0_640))
  fin := k0_pay8

end Cert.KernelIdeal.Gen

end
-- ==== Proof.KI.SetUp.lean ====
module

public import proofs.«01_k».proof.Proof.Gen.KernelIdeal.Frame
public import proofs.«01_k».proof.Proof.Gen.KernelIdeal.Skeleton

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 4) — by arithmetic of the point. -/
theorem hcond0_0 : ∀ t : Fin cfg0.N, cond0_0 (grid0.coords t) ↔ t.val % 4 = 0 :=
  (fun t => by
    have ht : t.val < 8 := Nat.lt_of_lt_of_eq t.isLt N_0
    have e0 : (grid0.coords t 0).val = t.val / 4 % 2 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 4 = 0)

/-! ## The kernel body on any staging memrefs: a subtype the run finds -/

/-- Each window's current staging memref at point `t`, spelled as the pipeline passes it (`bodyAt0`), and its wholeness. -/
abbrev ms0_0 (t : Fin cfg0.N) : Memref sig .tc .vmem S512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x768 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x768 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1408 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x640 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x32 .i32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x8x514 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x32 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S512x256 .f32 := Memref.whole cc0_scratch0
abbrev scM0_1 : Memref sig .tc .vmem S512x768 .f32 := Memref.whole cc0_scratch1
abbrev scM0_2 : Memref sig .tc .vmem S512x768 .f32 := Memref.whole cc0_scratch2
abbrev scM0_3 : Memref sig .tc .vmem S512x1 .f32 := Memref.whole cc0_scratch3
/-- The scratch `arg11` the kernel carries between points, as a view: what it holds is stated through it. -/
abbrev VS0_0 : View sig .tc .vmem S512x256 .f32 := scM0_0.view
/-- The scratch `arg12` the kernel carries between points, as a view: what it holds is stated through it. -/
abbrev VS0_1 : View sig .tc .vmem S512x768 .f32 := scM0_1.view
/-- The scratch `arg13` the kernel carries between points, as a view: what it holds is stated through it. -/
abbrev VS0_2 : View sig .tc .vmem S512x768 .f32 := scM0_2.view
/-- The scratch `arg14` the kernel carries between points, as a view: what it holds is stated through it. -/
abbrev VS0_3 : View sig .tc .vmem S512x1 .f32 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Gen

end
-- ==== Proof.KI.RunA.lean ====
module

public import proofs.«01_k».proof.Proof.KI.SetUp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- The body's run where the branch on the first step is taken: the pieces its stores leave in the three outputs and
    in the four carried scratch buffers, given what the inputs hold and what the two outputs it reads held before, with
    the triple of the body. -/
noncomputable def kernelRun0_A (c : Dev nD) (i : grid0.Coords) (arg2 : Memref sig .tc .vmem S512x256 .f32) (harg2 : arg2.IsWhole) (arg3 : Memref sig .tc .vmem S256x256 .bf16) (harg3 : arg3.IsWhole) (arg4 : Memref sig .tc .vmem S512x768 .bf16) (harg4 : arg4.IsWhole) (arg5 : Memref sig .tc .vmem S2x768 .bf16) (harg5 : arg5.IsWhole) (arg6 : Memref sig .tc .vmem S256x1408 .bf16) (harg6 : arg6.IsWhole) (arg7 : Memref sig .tc .vmem S1x640 .f32) (harg7 : arg7.IsWhole) (arg8 : Memref sig .tc .vmem S512x32 .i32) (harg8 : arg8.IsWhole) (arg9 : Memref sig .tc .vmem S512x8x514 .f32) (harg9 : arg9.IsWhole) (arg10 : Memref sig .tc .vmem S512x32 .f32) (harg10 : arg10.IsWhole) (arg11 : Memref sig .tc .vmem S512x256 .f32) (harg11 : arg11.IsWhole) (arg12 : Memref sig .tc .vmem S512x768 .f32) (harg12 : arg12.IsWhole) (arg13 : Memref sig .tc .vmem S512x768 .f32) (harg13 : arg13.IsWhole) (arg14 : Memref sig .tc .vmem S512x1 .f32) (harg14 : arg14.IsWhole) (hc0 : cond0_0 i)
    (x0 : Vec F S512x256 .f32) (x1 : Vec F S256x256 .bf16) (x2 : Vec F S512x768 .bf16) (x3 : Vec F S2x768 .bf16) (x4 : Vec F S256x1408 .bf16) (x5 : Vec F S1x640 .f32) (x6 : Vec F S512x32 .i32) (x8 : Vec F S512x32 .f32) :
    Σ' (L6 : List (View.Piece (Elt F) S512x32 .i32)), Σ' (L7 : List (View.Piece (Elt F) S512x8x514 .f32)), Σ' (L8 : List (View.Piece (Elt F) S512x32 .f32)), Σ' (LS0 : List (View.Piece (Elt F) S512x256 .f32)), Σ' (LS1 : List (View.Piece (Elt F) S512x768 .f32)), Σ' (LS2 : List (View.Piece (Elt F) S512x768 .f32)), { LS3 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3)) -∗ K ⟨⟩))
          ⊢ wp frame (wpE (defs₀ (F := F)) Variants.none c none) E (cc0__loop_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, ?_, fun E K => ?run⟩
  case run =>
    simp only [cc0__loop_kernel_eq_skeleton]; unfold cc0__loop_kernel_skel
    simp only [k0_part20_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [HS0]; · iexists _; iexact HS0
    isplitl [HS1]; · iexists _; iexact HS1
    isplitl [HS2]; · iexists _; iexact HS2
    iexists _; iexact HS3

end Cert.KernelIdeal.Gen

end
-- ==== Proof.KI.RunB.lean ====
module

public import proofs.«01_k».proof.Proof.KI.SetUp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- The body's run where the branch on the first step is not taken: the pieces its stores leave in the three outputs and
    in the four carried scratch buffers, given what the inputs hold and what the two outputs it reads held before, with
    the triple of the body. -/
noncomputable def kernelRun0_B (c : Dev nD) (i : grid0.Coords) (arg2 : Memref sig .tc .vmem S512x256 .f32) (harg2 : arg2.IsWhole) (arg3 : Memref sig .tc .vmem S256x256 .bf16) (harg3 : arg3.IsWhole) (arg4 : Memref sig .tc .vmem S512x768 .bf16) (harg4 : arg4.IsWhole) (arg5 : Memref sig .tc .vmem S2x768 .bf16) (harg5 : arg5.IsWhole) (arg6 : Memref sig .tc .vmem S256x1408 .bf16) (harg6 : arg6.IsWhole) (arg7 : Memref sig .tc .vmem S1x640 .f32) (harg7 : arg7.IsWhole) (arg8 : Memref sig .tc .vmem S512x32 .i32) (harg8 : arg8.IsWhole) (arg9 : Memref sig .tc .vmem S512x8x514 .f32) (harg9 : arg9.IsWhole) (arg10 : Memref sig .tc .vmem S512x32 .f32) (harg10 : arg10.IsWhole) (arg11 : Memref sig .tc .vmem S512x256 .f32) (harg11 : arg11.IsWhole) (arg12 : Memref sig .tc .vmem S512x768 .f32) (harg12 : arg12.IsWhole) (arg13 : Memref sig .tc .vmem S512x768 .f32) (harg13 : arg13.IsWhole) (arg14 : Memref sig .tc .vmem S512x1 .f32) (harg14 : arg14.IsWhole) (hc0 : ¬cond0_0 i)
    (x0 : Vec F S512x256 .f32) (x1 : Vec F S256x256 .bf16) (x2 : Vec F S512x768 .bf16) (x3 : Vec F S2x768 .bf16) (x4 : Vec F S256x1408 .bf16) (x5 : Vec F S1x640 .f32) (x6 : Vec F S512x32 .i32) (x8 : Vec F S512x32 .f32) (xs0 : Vec F S512x256 .f32) (xs1 : Vec F S512x768 .f32) (xs2 : Vec F S512x768 .f32) (xs3 : Vec F S512x1 .f32) :
    Σ' (L6 : List (View.Piece (Elt F) S512x32 .i32)), Σ' (L7 : List (View.Piece (Elt F) S512x8x514 .f32)), Σ' (L8 : List (View.Piece (Elt F) S512x32 .f32)), Σ' (LS0 : List (View.Piece (Elt F) S512x256 .f32)), Σ' (LS1 : List (View.Piece (Elt F) S512x768 .f32)), Σ' (LS2 : List (View.Piece (Elt F) S512x768 .f32)), { LS3 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare x8 ∗ owns (c : Thread nD τ) arg11 fullShare xs0 ∗ owns (c : Thread nD τ) arg12 fullShare xs1 ∗ owns (c : Thread nD τ) arg13 fullShare xs2 ∗ owns (c : Thread nD τ) arg14 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3)) -∗ K ⟨⟩))
          ⊢ wp frame (wpE (defs₀ (F := F)) Variants.none c none) E (cc0__loop_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, ?_, fun E K => ?run⟩
  case run =>
    simp only [cc0__loop_kernel_eq_skeleton]; unfold cc0__loop_kernel_skel
    simp only [k0_part20_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hfs0; obtain rfl := harg12.eq_unread hfs1; obtain rfl := harg13.eq_unread hfs2; obtain rfl := harg14.eq_unread hfs3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [HS0]; · iexists _; iexact HS0
    isplitl [HS1]; · iexists _; iexact HS1
    isplitl [HS2]; · iexists _; iexact HS2
    iexists _; iexact HS3

end Cert.KernelIdeal.Gen

end
-- ==== Proof.KI.Outs.lean ====
module

public import proofs.«01_k».proof.Proof.KI.Step
public import proofs.«01_k».proof.Proof.KI.RunA
public import proofs.«01_k».proof.Proof.KI.RunB
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic

variable {F : FTy → Type} [FloatOps F] [Named F]

set_option maxHeartbeats 2000000 in
/-- Eight steps leave the symbols' block so, where the branch on the first step is taken. -/
theorem outA_sym (c : Dev nD) (i : grid0.Coords) (arg2 : Memref sig .tc .vmem S512x256 .f32) (harg2 : arg2.IsWhole) (arg3 : Memref sig .tc .vmem S256x256 .bf16) (harg3 : arg3.IsWhole) (arg4 : Memref sig .tc .vmem S512x768 .bf16) (harg4 : arg4.IsWhole) (arg5 : Memref sig .tc .vmem S2x768 .bf16) (harg5 : arg5.IsWhole) (arg6 : Memref sig .tc .vmem S256x1408 .bf16) (harg6 : arg6.IsWhole) (arg7 : Memref sig .tc .vmem S1x640 .f32) (harg7 : arg7.IsWhole) (arg8 : Memref sig .tc .vmem S512x32 .i32) (harg8 : arg8.IsWhole) (arg9 : Memref sig .tc .vmem S512x8x514 .f32) (harg9 : arg9.IsWhole) (arg10 : Memref sig .tc .vmem S512x32 .f32) (harg10 : arg10.IsWhole) (arg11 : Memref sig .tc .vmem S512x256 .f32) (harg11 : arg11.IsWhole) (arg12 : Memref sig .tc .vmem S512x768 .f32) (harg12 : arg12.IsWhole) (arg13 : Memref sig .tc .vmem S512x768 .f32) (harg13 : arg13.IsWhole) (arg14 : Memref sig .tc .vmem S512x1 .f32) (harg14 : arg14.IsWhole) (hc0 : cond0_0 i)
    (x0 : Vec F S512x256 .f32) (x1 : Vec F S256x256 .bf16) (x2 : Vec F S512x768 .bf16) (x3 : Vec F S2x768 .bf16) (x4 : Vec F S256x1408 .bf16) (x5 : Vec F S1x640 .f32) (x6 : Vec F S512x32 .i32) (x8 : Vec F S512x32 .f32) :
    View.canon (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x8).1 = symAfter (wts x2 x3 x4 x5) (start x0 x1 x3 x4) (BitVec.ofNat 32 (i 1).val) x6 8 := by
  frame_out
  sl_kernel_rfl

set_option maxHeartbeats 2000000 in
/-- Eight steps leave the probabilities' block so, where the branch on the first step is taken. -/
theorem outA_prob (c : Dev nD) (i : grid0.Coords) (arg2 : Memref sig .tc .vmem S512x256 .f32) (harg2 : arg2.IsWhole) (arg3 : Memref sig .tc .vmem S256x256 .bf16) (harg3 : arg3.IsWhole) (arg4 : Memref sig .tc .vmem S512x768 .bf16) (harg4 : arg4.IsWhole) (arg5 : Memref sig .tc .vmem S2x768 .bf16) (harg5 : arg5.IsWhole) (arg6 : Memref sig .tc .vmem S256x1408 .bf16) (harg6 : arg6.IsWhole) (arg7 : Memref sig .tc .vmem S1x640 .f32) (harg7 : arg7.IsWhole) (arg8 : Memref sig .tc .vmem S512x32 .i32) (harg8 : arg8.IsWhole) (arg9 : Memref sig .tc .vmem S512x8x514 .f32) (harg9 : arg9.IsWhole) (arg10 : Memref sig .tc .vmem S512x32 .f32) (harg10 : arg10.IsWhole) (arg11 : Memref sig .tc .vmem S512x256 .f32) (harg11 : arg11.IsWhole) (arg12 : Memref sig .tc .vmem S512x768 .f32) (harg12 : arg12.IsWhole) (arg13 : Memref sig .tc .vmem S512x768 .f32) (harg13 : arg13.IsWhole) (arg14 : Memref sig .tc .vmem S512x1 .f32) (harg14 : arg14.IsWhole) (hc0 : cond0_0 i)
    (x0 : Vec F S512x256 .f32) (x1 : Vec F S256x256 .bf16) (x2 : Vec F S512x768 .bf16) (x3 : Vec F S2x768 .bf16) (x4 : Vec F S256x1408 .bf16) (x5 : Vec F S1x640 .f32) (x6 : Vec F S512x32 .i32) (x8 : Vec F S512x32 .f32) :
    View.canon (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x8).2.2.1 = probAfter (wts x2 x3 x4 x5) (start x0 x1 x3 x4) (BitVec.ofNat 32 (i 1).val) x8 8 := by
  frame_out
  sl_kernel_rfl

set_option maxHeartbeats 2000000 in
/-- Eight steps leave the carried hidden state so, where the branch on the first step is taken. -/
theorem outA_h (c : Dev nD) (i : grid0.Coords) (arg2 : Memref sig .tc .vmem S512x256 .f32) (harg2 : arg2.IsWhole) (arg3 : Memref sig .tc .vmem S256x256 .bf16) (harg3 : arg3.IsWhole) (arg4 : Memref sig .tc .vmem S512x768 .bf16) (harg4 : arg4.IsWhole) (arg5 : Memref sig .tc .vmem S2x768 .bf16) (harg5 : arg5.IsWhole) (arg6 : Memref sig .tc .vmem S256x1408 .bf16) (harg6 : arg6.IsWhole) (arg7 : Memref sig .tc .vmem S1x640 .f32) (harg7 : arg7.IsWhole) (arg8 : Memref sig .tc .vmem S512x32 .i32) (harg8 : arg8.IsWhole) (arg9 : Memref sig .tc .vmem S512x8x514 .f32) (harg9 : arg9.IsWhole) (arg10 : Memref sig .tc .vmem S512x32 .f32) (harg10 : arg10.IsWhole) (arg11 : Memref sig .tc .vmem S512x256 .f32) (harg11 : arg11.IsWhole) (arg12 : Memref sig .tc .vmem S512x768 .f32) (harg12 : arg12.IsWhole) (arg13 : Memref sig .tc .vmem S512x768 .f32) (harg13 : arg13.IsWhole) (arg14 : Memref sig .tc .vmem S512x1 .f32) (harg14 : arg14.IsWhole) (hc0 : cond0_0 i)
    (x0 : Vec F S512x256 .f32) (x1 : Vec F S256x256 .bf16) (x2 : Vec F S512x768 .bf16) (x3 : Vec F S2x768 .bf16) (x4 : Vec F S256x1408 .bf16) (x5 : Vec F S1x640 .f32) (x6 : Vec F S512x32 .i32) (x8 : Vec F S512x32 .f32) :
    View.canon (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x8).2.2.2.1 = k0_pay154 (steps (wts x2 x3 x4 x5) (start x0 x1 x3 x4) 8).h := by
  frame_out
  sl_kernel_rfl

set_option maxHeartbeats 2000000 in
/-- Eight steps leave the carried recurrent half so, where the branch on the first step is taken. -/
theorem outA_hz (c : Dev nD) (i : grid0.Coords) (arg2 : Memref sig .tc .vmem S512x256 .f32) (harg2 : arg2.IsWhole) (arg3 : Memref sig .tc .vmem S256x256 .bf16) (harg3 : arg3.IsWhole) (arg4 : Memref sig .tc .vmem S512x768 .bf16) (harg4 : arg4.IsWhole) (arg5 : Memref sig .tc .vmem S2x768 .bf16) (harg5 : arg5.IsWhole) (arg6 : Memref sig .tc .vmem S256x1408 .bf16) (harg6 : arg6.IsWhole) (arg7 : Memref sig .tc .vmem S1x640 .f32) (harg7 : arg7.IsWhole) (arg8 : Memref sig .tc .vmem S512x32 .i32) (harg8 : arg8.IsWhole) (arg9 : Memref sig .tc .vmem S512x8x514 .f32) (harg9 : arg9.IsWhole) (arg10 : Memref sig .tc .vmem S512x32 .f32) (harg10 : arg10.IsWhole) (arg11 : Memref sig .tc .vmem S512x256 .f32) (harg11 : arg11.IsWhole) (arg12 : Memref sig .tc .vmem S512x768 .f32) (harg12 : arg12.IsWhole) (arg13 : Memref sig .tc .vmem S512x768 .f32) (harg13 : arg13.IsWhole) (arg14 : Memref sig .tc .vmem S512x1 .f32) (harg14 : arg14.IsWhole) (hc0 : cond0_0 i)
    (x0 : Vec F S512x256 .f32) (x1 : Vec F S256x256 .bf16) (x2 : Vec F S512x768 .bf16) (x3 : Vec F S2x768 .bf16) (x4 : Vec F S256x1408 .bf16) (x5 : Vec F S1x640 .f32) (x6 : Vec F S512x32 .i32) (x8 : Vec F S512x32 .f32) :
    View.canon (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x8).2.2.2.2.1 = k0_pay2 (steps (wts x2 x3 x4 x5) (start x0 x1 x3 x4) 8).hz := by
  frame_out
  sl_kernel_rfl

set_option maxHeartbeats 2000000 in
/-- Eight steps leave the carried input half so, where the branch on the first step is taken. -/
theorem outA_xz (c : Dev nD) (i : grid0.Coords) (arg2 : Memref sig .tc .vmem S512x256 .f32) (harg2 : arg2.IsWhole) (arg3 : Memref sig .tc .vmem S256x256 .bf16) (harg3 : arg3.IsWhole) (arg4 : Memref sig .tc .vmem S512x768 .bf16) (harg4 : arg4.IsWhole) (arg5 : Memref sig .tc .vmem S2x768 .bf16) (harg5 : arg5.IsWhole) (arg6 : Memref sig .tc .vmem S256x1408 .bf16) (harg6 : arg6.IsWhole) (arg7 : Memref sig .tc .vmem S1x640 .f32) (harg7 : arg7.IsWhole) (arg8 : Memref sig .tc .vmem S512x32 .i32) (harg8 : arg8.IsWhole) (arg9 : Memref sig .tc .vmem S512x8x514 .f32) (harg9 : arg9.IsWhole) (arg10 : Memref sig .tc .vmem S512x32 .f32) (harg10 : arg10.IsWhole) (arg11 : Memref sig .tc .vmem S512x256 .f32) (harg11 : arg11.IsWhole) (arg12 : Memref sig .tc .vmem S512x768 .f32) (harg12 : arg12.IsWhole) (arg13 : Memref sig .tc .vmem S512x768 .f32) (harg13 : arg13.IsWhole) (arg14 : Memref sig .tc .vmem S512x1 .f32) (harg14 : arg14.IsWhole) (hc0 : cond0_0 i)
    (x0 : Vec F S512x256 .f32) (x1 : Vec F S256x256 .bf16) (x2 : Vec F S512x768 .bf16) (x3 : Vec F S2x768 .bf16) (x4 : Vec F S256x1408 .bf16) (x5 : Vec F S1x640 .f32) (x6 : Vec F S512x32 .i32) (x8 : Vec F S512x32 .f32) :
    View.canon (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x8).2.2.2.2.2.1 = k0_pay1 (steps (wts x2 x3 x4 x5) (start x0 x1 x3 x4) 8).xz := by
  frame_out
  sl_kernel_rfl

set_option maxHeartbeats 2000000 in
/-- Eight steps leave the carried flags so, where the branch on the first step is taken. -/
theorem outA_fin (c : Dev nD) (i : grid0.Coords) (arg2 : Memref sig .tc .vmem S512x256 .f32) (harg2 : arg2.IsWhole) (arg3 : Memref sig .tc .vmem S256x256 .bf16) (harg3 : arg3.IsWhole) (arg4 : Memref sig .tc .vmem S512x768 .bf16) (harg4 : arg4.IsWhole) (arg5 : Memref sig .tc .vmem S2x768 .bf16) (harg5 : arg5.IsWhole) (arg6 : Memref sig .tc .vmem S256x1408 .bf16) (harg6 : arg6.IsWhole) (arg7 : Memref sig .tc .vmem S1x640 .f32) (harg7 : arg7.IsWhole) (arg8 : Memref sig .tc .vmem S512x32 .i32) (harg8 : arg8.IsWhole) (arg9 : Memref sig .tc .vmem S512x8x514 .f32) (harg9 : arg9.IsWhole) (arg10 : Memref sig .tc .vmem S512x32 .f32) (harg10 : arg10.IsWhole) (arg11 : Memref sig .tc .vmem S512x256 .f32) (harg11 : arg11.IsWhole) (arg12 : Memref sig .tc .vmem S512x768 .f32) (harg12 : arg12.IsWhole) (arg13 : Memref sig .tc .vmem S512x768 .f32) (harg13 : arg13.IsWhole) (arg14 : Memref sig .tc .vmem S512x1 .f32) (harg14 : arg14.IsWhole) (hc0 : cond0_0 i)
    (x0 : Vec F S512x256 .f32) (x1 : Vec F S256x256 .bf16) (x2 : Vec F S512x768 .bf16) (x3 : Vec F S2x768 .bf16) (x4 : Vec F S256x1408 .bf16) (x5 : Vec F S1x640 .f32) (x6 : Vec F S512x32 .i32) (x8 : Vec F S512x32 .f32) :
    View.canon (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x8).2.2.2.2.2.2.1 = k0_pay3 (steps (wts x2 x3 x4 x5) (start x0 x1 x3 x4) 8).fin := by
  frame_out
  sl_kernel_rfl

set_option maxHeartbeats 2000000 in
/-- Eight steps leave the tokens' block (one piece per step) so, where the branch on the first step is taken. -/
theorem outA_tok (c : Dev nD) (i : grid0.Coords) (arg2 : Memref sig .tc .vmem S512x256 .f32) (harg2 : arg2.IsWhole) (arg3 : Memref sig .tc .vmem S256x256 .bf16) (harg3 : arg3.IsWhole) (arg4 : Memref sig .tc .vmem S512x768 .bf16) (harg4 : arg4.IsWhole) (arg5 : Memref sig .tc .vmem S2x768 .bf16) (harg5 : arg5.IsWhole) (arg6 : Memref sig .tc .vmem S256x1408 .bf16) (harg6 : arg6.IsWhole) (arg7 : Memref sig .tc .vmem S1x640 .f32) (harg7 : arg7.IsWhole) (arg8 : Memref sig .tc .vmem S512x32 .i32) (harg8 : arg8.IsWhole) (arg9 : Memref sig .tc .vmem S512x8x514 .f32) (harg9 : arg9.IsWhole) (arg10 : Memref sig .tc .vmem S512x32 .f32) (harg10 : arg10.IsWhole) (arg11 : Memref sig .tc .vmem S512x256 .f32) (harg11 : arg11.IsWhole) (arg12 : Memref sig .tc .vmem S512x768 .f32) (harg12 : arg12.IsWhole) (arg13 : Memref sig .tc .vmem S512x768 .f32) (harg13 : arg13.IsWhole) (arg14 : Memref sig .tc .vmem S512x1 .f32) (harg14 : arg14.IsWhole) (hc0 : cond0_0 i)
    (x0 : Vec F S512x256 .f32) (x1 : Vec F S256x256 .bf16) (x2 : Vec F S512x768 .bf16) (x3 : Vec F S2x768 .bf16) (x4 : Vec F S256x1408 .bf16) (x5 : Vec F S1x640 .f32) (x6 : Vec F S512x32 .i32) (x8 : Vec F S512x32 .f32) :
    (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x8).2.1 = [⟨Rect.unit ![0, 7, 0] S512x1x514.size inb_S512x8x514_S512x1x514_0_7_0, tokRow (wts x2 x3 x4 x5) (steps (wts x2 x3 x4 x5) (start x0 x1 x3 x4) 7)⟩, ⟨Rect.unit ![0, 6, 0] S512x1x514.size inb_S512x8x514_S512x1x514_0_6_0, tokRow (wts x2 x3 x4 x5) (steps (wts x2 x3 x4 x5) (start x0 x1 x3 x4) 6)⟩, ⟨Rect.unit ![0, 5, 0] S512x1x514.size inb_S512x8x514_S512x1x514_0_5_0, tokRow (wts x2 x3 x4 x5) (steps (wts x2 x3 x4 x5) (start x0 x1 x3 x4) 5)⟩, ⟨Rect.unit ![0, 4, 0] S512x1x514.size inb_S512x8x514_S512x1x514_0_4_0, tokRow (wts x2 x3 x4 x5) (steps (wts x2 x3 x4 x5) (start x0 x1 x3 x4) 4)⟩, ⟨Rect.unit ![0, 3, 0] S512x1x514.size inb_S512x8x514_S512x1x514_0_3_0, tokRow (wts x2 x3 x4 x5) (steps (wts x2 x3 x4 x5) (start x0 x1 x3 x4) 3)⟩, ⟨Rect.unit ![0, 2, 0] S512x1x514.size inb_S512x8x514_S512x1x514_0_2_0, tokRow (wts x2 x3 x4 x5) (steps (wts x2 x3 x4 x5) (start x0 x1 x3 x4) 2)⟩, ⟨Rect.unit ![0, 1, 0] S512x1x514.size inb_S512x8x514_S512x1x514_0_1_0, tokRow (wts x2 x3 x4 x5) (steps (wts x2 x3 x4 x5) (start x0 x1 x3 x4) 1)⟩, ⟨Rect.unit ![0, 0, 0] S512x1x514.size inb_S512x8x514_S512x1x514_0_0_0, tokRow (wts x2 x3 x4 x5) (steps (wts x2 x3 x4 x5) (start x0 x1 x3 x4) 0)⟩] := by
  frame_out
  sl_kernel_rfl

set_option maxHeartbeats 2000000 in
/-- Eight steps leave the symbols' block so, where the branch on the first step is not taken. -/
theorem outB_sym (c : Dev nD) (i : grid0.Coords) (arg2 : Memref sig .tc .vmem S512x256 .f32) (harg2 : arg2.IsWhole) (arg3 : Memref sig .tc .vmem S256x256 .bf16) (harg3 : arg3.IsWhole) (arg4 : Memref sig .tc .vmem S512x768 .bf16) (harg4 : arg4.IsWhole) (arg5 : Memref sig .tc .vmem S2x768 .bf16) (harg5 : arg5.IsWhole) (arg6 : Memref sig .tc .vmem S256x1408 .bf16) (harg6 : arg6.IsWhole) (arg7 : Memref sig .tc .vmem S1x640 .f32) (harg7 : arg7.IsWhole) (arg8 : Memref sig .tc .vmem S512x32 .i32) (harg8 : arg8.IsWhole) (arg9 : Memref sig .tc .vmem S512x8x514 .f32) (harg9 : arg9.IsWhole) (arg10 : Memref sig .tc .vmem S512x32 .f32) (harg10 : arg10.IsWhole) (arg11 : Memref sig .tc .vmem S512x256 .f32) (harg11 : arg11.IsWhole) (arg12 : Memref sig .tc .vmem S512x768 .f32) (harg12 : arg12.IsWhole) (arg13 : Memref sig .tc .vmem S512x768 .f32) (harg13 : arg13.IsWhole) (arg14 : Memref sig .tc .vmem S512x1 .f32) (harg14 : arg14.IsWhole) (hc0 : ¬cond0_0 i)
    (x0 : Vec F S512x256 .f32) (x1 : Vec F S256x256 .bf16) (x2 : Vec F S512x768 .bf16) (x3 : Vec F S2x768 .bf16) (x4 : Vec F S256x1408 .bf16) (x5 : Vec F S1x640 .f32) (x6 : Vec F S512x32 .i32) (x8 : Vec F S512x32 .f32) (xs0 : Vec F S512x256 .f32) (xs1 : Vec F S512x768 .f32) (xs2 : Vec F S512x768 .f32) (xs3 : Vec F S512x1 .f32) :
    View.canon (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x8 xs0 xs1 xs2 xs3).1 = symAfter (wts x2 x3 x4 x5) (Carry.mk xs0 xs2 xs1 xs3) (BitVec.ofNat 32 (i 1).val) x6 8 := by
  frame_out
  sl_kernel_rfl

set_option maxHeartbeats 2000000 in
/-- Eight steps leave the probabilities' block so, where the branch on the first step is not taken. -/
theorem outB_prob (c : Dev nD) (i : grid0.Coords) (arg2 : Memref sig .tc .vmem S512x256 .f32) (harg2 : arg2.IsWhole) (arg3 : Memref sig .tc .vmem S256x256 .bf16) (harg3 : arg3.IsWhole) (arg4 : Memref sig .tc .vmem S512x768 .bf16) (harg4 : arg4.IsWhole) (arg5 : Memref sig .tc .vmem S2x768 .bf16) (harg5 : arg5.IsWhole) (arg6 : Memref sig .tc .vmem S256x1408 .bf16) (harg6 : arg6.IsWhole) (arg7 : Memref sig .tc .vmem S1x640 .f32) (harg7 : arg7.IsWhole) (arg8 : Memref sig .tc .vmem S512x32 .i32) (harg8 : arg8.IsWhole) (arg9 : Memref sig .tc .vmem S512x8x514 .f32) (harg9 : arg9.IsWhole) (arg10 : Memref sig .tc .vmem S512x32 .f32) (harg10 : arg10.IsWhole) (arg11 : Memref sig .tc .vmem S512x256 .f32) (harg11 : arg11.IsWhole) (arg12 : Memref sig .tc .vmem S512x768 .f32) (harg12 : arg12.IsWhole) (arg13 : Memref sig .tc .vmem S512x768 .f32) (harg13 : arg13.IsWhole) (arg14 : Memref sig .tc .vmem S512x1 .f32) (harg14 : arg14.IsWhole) (hc0 : ¬cond0_0 i)
    (x0 : Vec F S512x256 .f32) (x1 : Vec F S256x256 .bf16) (x2 : Vec F S512x768 .bf16) (x3 : Vec F S2x768 .bf16) (x4 : Vec F S256x1408 .bf16) (x5 : Vec F S1x640 .f32) (x6 : Vec F S512x32 .i32) (x8 : Vec F S512x32 .f32) (xs0 : Vec F S512x256 .f32) (xs1 : Vec F S512x768 .f32) (xs2 : Vec F S512x768 .f32) (xs3 : Vec F S512x1 .f32) :
    View.canon (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x8 xs0 xs1 xs2 xs3).2.2.1 = probAfter (wts x2 x3 x4 x5) (Carry.mk xs0 xs2 xs1 xs3) (BitVec.ofNat 32 (i 1).val) x8 8 := by
  frame_out
  sl_kernel_rfl

set_option maxHeartbeats 2000000 in
/-- Eight steps leave the carried hidden state so, where the branch on the first step is not taken. -/
theorem outB_h (c : Dev nD) (i : grid0.Coords) (arg2 : Memref sig .tc .vmem S512x256 .f32) (harg2 : arg2.IsWhole) (arg3 : Memref sig .tc .vmem S256x256 .bf16) (harg3 : arg3.IsWhole) (arg4 : Memref sig .tc .vmem S512x768 .bf16) (harg4 : arg4.IsWhole) (arg5 : Memref sig .tc .vmem S2x768 .bf16) (harg5 : arg5.IsWhole) (arg6 : Memref sig .tc .vmem S256x1408 .bf16) (harg6 : arg6.IsWhole) (arg7 : Memref sig .tc .vmem S1x640 .f32) (harg7 : arg7.IsWhole) (arg8 : Memref sig .tc .vmem S512x32 .i32) (harg8 : arg8.IsWhole) (arg9 : Memref sig .tc .vmem S512x8x514 .f32) (harg9 : arg9.IsWhole) (arg10 : Memref sig .tc .vmem S512x32 .f32) (harg10 : arg10.IsWhole) (arg11 : Memref sig .tc .vmem S512x256 .f32) (harg11 : arg11.IsWhole) (arg12 : Memref sig .tc .vmem S512x768 .f32) (harg12 : arg12.IsWhole) (arg13 : Memref sig .tc .vmem S512x768 .f32) (harg13 : arg13.IsWhole) (arg14 : Memref sig .tc .vmem S512x1 .f32) (harg14 : arg14.IsWhole) (hc0 : ¬cond0_0 i)
    (x0 : Vec F S512x256 .f32) (x1 : Vec F S256x256 .bf16) (x2 : Vec F S512x768 .bf16) (x3 : Vec F S2x768 .bf16) (x4 : Vec F S256x1408 .bf16) (x5 : Vec F S1x640 .f32) (x6 : Vec F S512x32 .i32) (x8 : Vec F S512x32 .f32) (xs0 : Vec F S512x256 .f32) (xs1 : Vec F S512x768 .f32) (xs2 : Vec F S512x768 .f32) (xs3 : Vec F S512x1 .f32) :
    View.canon (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x8 xs0 xs1 xs2 xs3).2.2.2.1 = k0_pay154 (steps (wts x2 x3 x4 x5) (Carry.mk xs0 xs2 xs1 xs3) 8).h := by
  frame_out
  sl_kernel_rfl

set_option maxHeartbeats 2000000 in
/-- Eight steps leave the carried recurrent half so, where the branch on the first step is not taken. -/
theorem outB_hz (c : Dev nD) (i : grid0.Coords) (arg2 : Memref sig .tc .vmem S512x256 .f32) (harg2 : arg2.IsWhole) (arg3 : Memref sig .tc .vmem S256x256 .bf16) (harg3 : arg3.IsWhole) (arg4 : Memref sig .tc .vmem S512x768 .bf16) (harg4 : arg4.IsWhole) (arg5 : Memref sig .tc .vmem S2x768 .bf16) (harg5 : arg5.IsWhole) (arg6 : Memref sig .tc .vmem S256x1408 .bf16) (harg6 : arg6.IsWhole) (arg7 : Memref sig .tc .vmem S1x640 .f32) (harg7 : arg7.IsWhole) (arg8 : Memref sig .tc .vmem S512x32 .i32) (harg8 : arg8.IsWhole) (arg9 : Memref sig .tc .vmem S512x8x514 .f32) (harg9 : arg9.IsWhole) (arg10 : Memref sig .tc .vmem S512x32 .f32) (harg10 : arg10.IsWhole) (arg11 : Memref sig .tc .vmem S512x256 .f32) (harg11 : arg11.IsWhole) (arg12 : Memref sig .tc .vmem S512x768 .f32) (harg12 : arg12.IsWhole) (arg13 : Memref sig .tc .vmem S512x768 .f32) (harg13 : arg13.IsWhole) (arg14 : Memref sig .tc .vmem S512x1 .f32) (harg14 : arg14.IsWhole) (hc0 : ¬cond0_0 i)
    (x0 : Vec F S512x256 .f32) (x1 : Vec F S256x256 .bf16) (x2 : Vec F S512x768 .bf16) (x3 : Vec F S2x768 .bf16) (x4 : Vec F S256x1408 .bf16) (x5 : Vec F S1x640 .f32) (x6 : Vec F S512x32 .i32) (x8 : Vec F S512x32 .f32) (xs0 : Vec F S512x256 .f32) (xs1 : Vec F S512x768 .f32) (xs2 : Vec F S512x768 .f32) (xs3 : Vec F S512x1 .f32) :
    View.canon (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x8 xs0 xs1 xs2 xs3).2.2.2.2.1 = k0_pay2 (steps (wts x2 x3 x4 x5) (Carry.mk xs0 xs2 xs1 xs3) 8).hz := by
  frame_out
  sl_kernel_rfl

set_option maxHeartbeats 2000000 in
/-- Eight steps leave the carried input half so, where the branch on the first step is not taken. -/
theorem outB_xz (c : Dev nD) (i : grid0.Coords) (arg2 : Memref sig .tc .vmem S512x256 .f32) (harg2 : arg2.IsWhole) (arg3 : Memref sig .tc .vmem S256x256 .bf16) (harg3 : arg3.IsWhole) (arg4 : Memref sig .tc .vmem S512x768 .bf16) (harg4 : arg4.IsWhole) (arg5 : Memref sig .tc .vmem S2x768 .bf16) (harg5 : arg5.IsWhole) (arg6 : Memref sig .tc .vmem S256x1408 .bf16) (harg6 : arg6.IsWhole) (arg7 : Memref sig .tc .vmem S1x640 .f32) (harg7 : arg7.IsWhole) (arg8 : Memref sig .tc .vmem S512x32 .i32) (harg8 : arg8.IsWhole) (arg9 : Memref sig .tc .vmem S512x8x514 .f32) (harg9 : arg9.IsWhole) (arg10 : Memref sig .tc .vmem S512x32 .f32) (harg10 : arg10.IsWhole) (arg11 : Memref sig .tc .vmem S512x256 .f32) (harg11 : arg11.IsWhole) (arg12 : Memref sig .tc .vmem S512x768 .f32) (harg12 : arg12.IsWhole) (arg13 : Memref sig .tc .vmem S512x768 .f32) (harg13 : arg13.IsWhole) (arg14 : Memref sig .tc .vmem S512x1 .f32) (harg14 : arg14.IsWhole) (hc0 : ¬cond0_0 i)
    (x0 : Vec F S512x256 .f32) (x1 : Vec F S256x256 .bf16) (x2 : Vec F S512x768 .bf16) (x3 : Vec F S2x768 .bf16) (x4 : Vec F S256x1408 .bf16) (x5 : Vec F S1x640 .f32) (x6 : Vec F S512x32 .i32) (x8 : Vec F S512x32 .f32) (xs0 : Vec F S512x256 .f32) (xs1 : Vec F S512x768 .f32) (xs2 : Vec F S512x768 .f32) (xs3 : Vec F S512x1 .f32) :
    View.canon (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x8 xs0 xs1 xs2 xs3).2.2.2.2.2.1 = k0_pay1 (steps (wts x2 x3 x4 x5) (Carry.mk xs0 xs2 xs1 xs3) 8).xz := by
  frame_out
  sl_kernel_rfl

set_option maxHeartbeats 2000000 in
/-- Eight steps leave the carried flags so, where the branch on the first step is not taken. -/
theorem outB_fin (c : Dev nD) (i : grid0.Coords) (arg2 : Memref sig .tc .vmem S512x256 .f32) (harg2 : arg2.IsWhole) (arg3 : Memref sig .tc .vmem S256x256 .bf16) (harg3 : arg3.IsWhole) (arg4 : Memref sig .tc .vmem S512x768 .bf16) (harg4 : arg4.IsWhole) (arg5 : Memref sig .tc .vmem S2x768 .bf16) (harg5 : arg5.IsWhole) (arg6 : Memref sig .tc .vmem S256x1408 .bf16) (harg6 : arg6.IsWhole) (arg7 : Memref sig .tc .vmem S1x640 .f32) (harg7 : arg7.IsWhole) (arg8 : Memref sig .tc .vmem S512x32 .i32) (harg8 : arg8.IsWhole) (arg9 : Memref sig .tc .vmem S512x8x514 .f32) (harg9 : arg9.IsWhole) (arg10 : Memref sig .tc .vmem S512x32 .f32) (harg10 : arg10.IsWhole) (arg11 : Memref sig .tc .vmem S512x256 .f32) (harg11 : arg11.IsWhole) (arg12 : Memref sig .tc .vmem S512x768 .f32) (harg12 : arg12.IsWhole) (arg13 : Memref sig .tc .vmem S512x768 .f32) (harg13 : arg13.IsWhole) (arg14 : Memref sig .tc .vmem S512x1 .f32) (harg14 : arg14.IsWhole) (hc0 : ¬cond0_0 i)
    (x0 : Vec F S512x256 .f32) (x1 : Vec F S256x256 .bf16) (x2 : Vec F S512x768 .bf16) (x3 : Vec F S2x768 .bf16) (x4 : Vec F S256x1408 .bf16) (x5 : Vec F S1x640 .f32) (x6 : Vec F S512x32 .i32) (x8 : Vec F S512x32 .f32) (xs0 : Vec F S512x256 .f32) (xs1 : Vec F S512x768 .f32) (xs2 : Vec F S512x768 .f32) (xs3 : Vec F S512x1 .f32) :
    View.canon (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x8 xs0 xs1 xs2 xs3).2.2.2.2.2.2.1 = k0_pay3 (steps (wts x2 x3 x4 x5) (Carry.mk xs0 xs2 xs1 xs3) 8).fin := by
  frame_out
  sl_kernel_rfl

set_option maxHeartbeats 2000000 in
/-- Eight steps leave the tokens' block (one piece per step) so, where the branch on the first step is not taken. -/
theorem outB_tok (c : Dev nD) (i : grid0.Coords) (arg2 : Memref sig .tc .vmem S512x256 .f32) (harg2 : arg2.IsWhole) (arg3 : Memref sig .tc .vmem S256x256 .bf16) (harg3 : arg3.IsWhole) (arg4 : Memref sig .tc .vmem S512x768 .bf16) (harg4 : arg4.IsWhole) (arg5 : Memref sig .tc .vmem S2x768 .bf16) (harg5 : arg5.IsWhole) (arg6 : Memref sig .tc .vmem S256x1408 .bf16) (harg6 : arg6.IsWhole) (arg7 : Memref sig .tc .vmem S1x640 .f32) (harg7 : arg7.IsWhole) (arg8 : Memref sig .tc .vmem S512x32 .i32) (harg8 : arg8.IsWhole) (arg9 : Memref sig .tc .vmem S512x8x514 .f32) (harg9 : arg9.IsWhole) (arg10 : Memref sig .tc .vmem S512x32 .f32) (harg10 : arg10.IsWhole) (arg11 : Memref sig .tc .vmem S512x256 .f32) (harg11 : arg11.IsWhole) (arg12 : Memref sig .tc .vmem S512x768 .f32) (harg12 : arg12.IsWhole) (arg13 : Memref sig .tc .vmem S512x768 .f32) (harg13 : arg13.IsWhole) (arg14 : Memref sig .tc .vmem S512x1 .f32) (harg14 : arg14.IsWhole) (hc0 : ¬cond0_0 i)
    (x0 : Vec F S512x256 .f32) (x1 : Vec F S256x256 .bf16) (x2 : Vec F S512x768 .bf16) (x3 : Vec F S2x768 .bf16) (x4 : Vec F S256x1408 .bf16) (x5 : Vec F S1x640 .f32) (x6 : Vec F S512x32 .i32) (x8 : Vec F S512x32 .f32) (xs0 : Vec F S512x256 .f32) (xs1 : Vec F S512x768 .f32) (xs2 : Vec F S512x768 .f32) (xs3 : Vec F S512x1 .f32) :
    (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x8 xs0 xs1 xs2 xs3).2.1 = [⟨Rect.unit ![0, 7, 0] S512x1x514.size inb_S512x8x514_S512x1x514_0_7_0, tokRow (wts x2 x3 x4 x5) (steps (wts x2 x3 x4 x5) (Carry.mk xs0 xs2 xs1 xs3) 7)⟩, ⟨Rect.unit ![0, 6, 0] S512x1x514.size inb_S512x8x514_S512x1x514_0_6_0, tokRow (wts x2 x3 x4 x5) (steps (wts x2 x3 x4 x5) (Carry.mk xs0 xs2 xs1 xs3) 6)⟩, ⟨Rect.unit ![0, 5, 0] S512x1x514.size inb_S512x8x514_S512x1x514_0_5_0, tokRow (wts x2 x3 x4 x5) (steps (wts x2 x3 x4 x5) (Carry.mk xs0 xs2 xs1 xs3) 5)⟩, ⟨Rect.unit ![0, 4, 0] S512x1x514.size inb_S512x8x514_S512x1x514_0_4_0, tokRow (wts x2 x3 x4 x5) (steps (wts x2 x3 x4 x5) (Carry.mk xs0 xs2 xs1 xs3) 4)⟩, ⟨Rect.unit ![0, 3, 0] S512x1x514.size inb_S512x8x514_S512x1x514_0_3_0, tokRow (wts x2 x3 x4 x5) (steps (wts x2 x3 x4 x5) (Carry.mk xs0 xs2 xs1 xs3) 3)⟩, ⟨Rect.unit ![0, 2, 0] S512x1x514.size inb_S512x8x514_S512x1x514_0_2_0, tokRow (wts x2 x3 x4 x5) (steps (wts x2 x3 x4 x5) (Carry.mk xs0 xs2 xs1 xs3) 2)⟩, ⟨Rect.unit ![0, 1, 0] S512x1x514.size inb_S512x8x514_S512x1x514_0_1_0, tokRow (wts x2 x3 x4 x5) (steps (wts x2 x3 x4 x5) (Carry.mk xs0 xs2 xs1 xs3) 1)⟩, ⟨Rect.unit ![0, 0, 0] S512x1x514.size inb_S512x8x514_S512x1x514_0_0_0, tokRow (wts x2 x3 x4 x5) (steps (wts x2 x3 x4 x5) (Carry.mk xs0 xs2 xs1 xs3) 0)⟩] := by
  frame_out
  sl_kernel_rfl

end Cert.KernelIdeal.Gen

end
-- ==== Proof.KI.Model.lean ====
module

public import proofs.«01_k».proof.Proof.KI.Step
public import proofs.«01_k».proof.Proof.KI.SetUp
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic

variable {F : FTy → Type} [FloatOps F] [Named F]

theorem steps_add (W : Wts F) (s : Carry F) (a b : ℕ) : steps W s (a + b) = steps W (steps W s a) b := by
  induction b with
  | zero => rfl
  | succ b ih => rw [← Nat.add_assoc]; simp only [steps, ih]

/-- The column mask at an index. -/
theorem colMask_apply (a n : ℕ) (ha : a < 4) (hn : n < 8) (y : S512x32.Idx) :
    colMask (BitVec.ofNat 32 a) (BitVec.ofNat 32 n) y = if (y 1 : ℕ) = 8 * a + n then 1#1 else 0#1 := by
  have h1 : (y 1 : ℕ) < 32 := (y 1).isLt
  pointwise [colMask]
  rw [show Scalar.addi (Scalar.muli (8#32) (BitVec.ofNat 32 a)) (BitVec.ofNat 32 n) = BitVec.ofNat 32 (8 * a + n) by
    unfold Scalar.addi Scalar.muli; apply BitVec.eq_of_toNat_eq; simp [IntOp.addi, IntOp.muli]]
  unfold IntOp.cmpi
  by_cases h : (y 1 : ℕ) = 8 * a + n
  · simp [h]
  · have : BitVec.ofNat 32 (y 1 : ℕ) ≠ BitVec.ofNat 32 (8 * a + n) := by
      intro h'; apply h
      have := congrArg BitVec.toNat h'
      simp only [BitVec.toNat_ofNat] at this
      omega
    rw [if_neg h]; show BitVec.ofBool (_ == _) = 0#1; rw [beq_eq_false_iff_ne.2 this]; rfl

/-- One step's column of the symbols' block. -/
theorem putSym_apply (W : Wts F) (s : Carry F) (a n : ℕ) (ha : a < 4) (hn : n < 8) (x : IVec S512x32 32) (y : S512x32.Idx) :
    putSym W s (BitVec.ofNat 32 a) (BitVec.ofNat 32 n) x y
      = if (y 1 : ℕ) = 8 * a + n then symV W s (ix2 (y 0) 0) else x y := by
  unfold putSym
  pointwise [colMask_apply a n ha hn y]
  split <;> rfl

/-- One step's column of the probabilities' block. -/
theorem putProb_apply (W : Wts F) (s : Carry F) (a n : ℕ) (ha : a < 4) (hn : n < 8) (x : FVec F S512x32 .f32) (y : S512x32.Idx) :
    putProb W s (BitVec.ofNat 32 a) (BitVec.ofNat 32 n) x y
      = if (y 1 : ℕ) = 8 * a + n then probV W s (ix2 (y 0) 0) else x y := by
  unfold putProb
  pointwise [colMask_apply a n ha hn y]
  split <;> rfl

/-- The symbols' block after n steps: the steps' columns hold the steps' symbols, the others what they held. -/
theorem symAfter_apply (W : Wts F) (s : Carry F) (a n : ℕ) (ha : a < 4) (hn : n ≤ 8) (x : IVec S512x32 32) (y : S512x32.Idx) :
    symAfter W s (BitVec.ofNat 32 a) x n y
      = if 8 * a ≤ (y 1 : ℕ) ∧ (y 1 : ℕ) < 8 * a + n then symV W (steps W s ((y 1 : ℕ) - 8 * a)) (ix2 (y 0) 0) else x y := by
  induction n with
  | zero => rw [if_neg (by omega)]; rfl
  | succ n ih =>
    show putSym W (steps W s n) (BitVec.ofNat 32 a) (BitVec.ofNat 32 n) (symAfter W s (BitVec.ofNat 32 a) x n) y = _
    rw [putSym_apply W _ a n ha (by omega), ih (by omega)]
    by_cases h : (y 1 : ℕ) = 8 * a + n
    · rw [if_pos h, if_pos (by omega), h, Nat.add_sub_cancel_left]
    · rw [if_neg h]
      by_cases h' : 8 * a ≤ (y 1 : ℕ) ∧ (y 1 : ℕ) < 8 * a + n
      · rw [if_pos h', if_pos (by omega)]
      · rw [if_neg h', if_neg (by omega)]

/-- The probabilities' block after n steps. -/
theorem probAfter_apply (W : Wts F) (s : Carry F) (a n : ℕ) (ha : a < 4) (hn : n ≤ 8) (x : FVec F S512x32 .f32) (y : S512x32.Idx) :
    probAfter W s (BitVec.ofNat 32 a) x n y
      = if 8 * a ≤ (y 1 : ℕ) ∧ (y 1 : ℕ) < 8 * a + n then probV W (steps W s ((y 1 : ℕ) - 8 * a)) (ix2 (y 0) 0) else x y := by
  induction n with
  | zero => rw [if_neg (by omega)]; rfl
  | succ n ih =>
    show putProb W (steps W s n) (BitVec.ofNat 32 a) (BitVec.ofNat 32 n) (probAfter W s (BitVec.ofNat 32 a) x n) y = _
    rw [putProb_apply W _ a n ha (by omega), ih (by omega)]
    by_cases h : (y 1 : ℕ) = 8 * a + n
    · rw [if_pos h, if_pos (by omega), h, Nat.add_sub_cancel_left]
    · rw [if_neg h]
      by_cases h' : 8 * a ≤ (y 1 : ℕ) ∧ (y 1 : ℕ) < 8 * a + n
      · rw [if_pos h', if_pos (by omega)]
      · rw [if_neg h', if_neg (by omega)]

/-- One step's row lies inside the tokens' block. -/
theorem inb_tok (j : Fin 8) : ∀ a, (![0, j.val, 0] : Fin S512x8x514.rank → ℕ) a + S512x1x514.size a ≤ S512x8x514.size a := fun a => match a with
  | ⟨0, _⟩ => by show 0 + 512 ≤ 512; omega
  | ⟨1, _⟩ => by show j.val + 1 ≤ 8; omega
  | ⟨2, _⟩ => by show 0 + 514 ≤ 514; omega

/-- The piece step j stores in the tokens' block. -/
def tokPiece (W : Wts F) (s : Carry F) (j : Fin 8) : View.Piece (Elt F) S512x8x514 .f32 :=
  ⟨Rect.unit ![0, j.val, 0] S512x1x514.size (inb_tok j), tokRow W (steps W s j.val)⟩

/-- The pieces the eight steps store in the tokens' block, the last step's first. -/
def tokPieces (W : Wts F) (s : Carry F) : List (View.Piece (Elt F) S512x8x514 .f32) :=
  [7, 6, 5, 4, 3, 2, 1, 0].map (tokPiece W s)

/-- The block of tokens at an index: the row of the index's step. -/
def tokBlk (W : Wts F) (s : Carry F) : FVec F S512x8x514 .f32 :=
  fun y => tokRow W (steps W s (y 1 : ℕ)) (ix3 (y 0) 0 (y 2))

/-- What the eight pieces leave of the tokens' block. -/
theorem canon_tokPieces (W : Wts F) (s : Carry F) : View.canon (tokPieces W s) = tokBlk W s := by
  funext y
  refine View.canon_apply_of_pieces (tokBlk W s) (tokPieces W s) ?_ y ?_
  · intro p hp x
    obtain ⟨j, -, rfl⟩ := List.mem_map.1 hp
    have hx : (x 1 : ℕ) < 1 := (x 1).isLt
    show tokRow W (steps W s j.val) x = tokRow W (steps W s (((tokPiece W s j).1.emb x 1 : Fin _) : ℕ)) _
    have h1 : (((tokPiece W s j).1.emb x 1 : Fin _) : ℕ) = j.val := by
      show j.val + 1 * (x 1 : ℕ) = j.val; omega
    rw [h1]
    congr 1; funext a
    match a with
    | ⟨0, _⟩ => apply Fin.ext; show (x 0 : ℕ) = 0 + 1 * (x 0 : ℕ); omega
    | ⟨1, _⟩ => apply Fin.ext; show (x 1 : ℕ) = 0; omega
    | ⟨2, _⟩ => apply Fin.ext; show (x 2 : ℕ) = 0 + 1 * (x 2 : ℕ); omega
  · have h0 : (y 0 : ℕ) < 512 := (y 0).isLt
    have h2 : (y 2 : ℕ) < 514 := (y 2).isLt
    refine ⟨tokPiece W s (y 1), List.mem_map.2 ⟨y 1, ?_, rfl⟩, ?_⟩
    · exact (by decide : ∀ j : Fin 8, j ∈ ([7, 6, 5, 4, 3, 2, 1, 0] : List (Fin 8))) (y 1)
    · show y ∈ (Rect.unit _ _ (inb_tok (y 1))).set
      rw [Rect.mem_set_unit]
      intro a
      match a with
      | ⟨0, _⟩ => show 0 ≤ (y 0 : ℕ) ∧ (y 0 : ℕ) < 0 + 512; omega
      | ⟨1, _⟩ => show (y 1 : ℕ) ≤ (y 1 : ℕ) ∧ (y 1 : ℕ) < (y 1 : ℕ) + 1; omega
      | ⟨2, _⟩ => show 0 ≤ (y 2 : ℕ) ∧ (y 2 : ℕ) < 0 + 514; omega

end Cert.KernelIdeal.Gen

end
-- ==== Proof.KI.Left.lean ====
module

public import proofs.«01_k».proof.Proof.KI.Outs
public import proofs.«01_k».proof.Proof.KI.Model

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What the body leaves: the operands' buffers as they were, and after the eight steps from `s` the symbols', the tokens'
    and the probabilities' blocks and the carried state. -/
def leftBy (c : Dev nD) (i : grid0.Coords) (arg2 : Memref sig .tc .vmem S512x256 .f32) (arg3 : Memref sig .tc .vmem S256x256 .bf16) (arg4 : Memref sig .tc .vmem S512x768 .bf16) (arg5 : Memref sig .tc .vmem S2x768 .bf16) (arg6 : Memref sig .tc .vmem S256x1408 .bf16) (arg7 : Memref sig .tc .vmem S1x640 .f32) (arg8 : Memref sig .tc .vmem S512x32 .i32) (arg9 : Memref sig .tc .vmem S512x8x514 .f32) (arg10 : Memref sig .tc .vmem S512x32 .f32) (arg11 : Memref sig .tc .vmem S512x256 .f32) (arg12 : Memref sig .tc .vmem S512x768 .f32) (arg13 : Memref sig .tc .vmem S512x768 .f32) (arg14 : Memref sig .tc .vmem S512x1 .f32)
    (x0 : Vec F S512x256 .f32) (x1 : Vec F S256x256 .bf16) (x2 : Vec F S512x768 .bf16) (x3 : Vec F S2x768 .bf16) (x4 : Vec F S256x1408 .bf16) (x5 : Vec F S1x640 .f32) (x6 : Vec F S512x32 .i32) (x8 : Vec F S512x32 .f32) (s : Carry F) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
    ∗ owns (c : Thread nD τ) arg8 fullShare (symAfter (wts x2 x3 x4 x5) s (BitVec.ofNat 32 (i 1).val) x6 8) ∗ owns (c : Thread nD τ) arg9 fullShare (tokBlk (wts x2 x3 x4 x5) s) ∗ owns (c : Thread nD τ) arg10 fullShare (probAfter (wts x2 x3 x4 x5) s (BitVec.ofNat 32 (i 1).val) x8 8)
    ∗ owns (c : Thread nD τ) arg11 fullShare (steps (wts x2 x3 x4 x5) s 8).h ∗ owns (c : Thread nD τ) arg12 fullShare (steps (wts x2 x3 x4 x5) s 8).hz ∗ owns (c : Thread nD τ) arg13 fullShare (steps (wts x2 x3 x4 x5) s 8).xz ∗ owns (c : Thread nD τ) arg14 fullShare (steps (wts x2 x3 x4 x5) s 8).fin)

/-- Pieces that cover a block, read back, are what they are the canon of. -/
theorem read_left {s : Shape} {e : EltTy} (v : View sig .tc .vmem s e) (f : v.ty.Contents (Elt F)) (L : List (View.Piece (Elt F) s e))
    (G : s.Idx → Elt F e) (hc : ∀ y, ∃ p ∈ L, y ∈ p.1.set) (h : View.canon L = G) : v.read (Elt F) (v.writes (Elt F) f L) = G :=
  (View.read_writes_eq_canon v f L hc).trans h

section
variable (c : Dev nD) (i : grid0.Coords) (arg2 : Memref sig .tc .vmem S512x256 .f32) (harg2 : arg2.IsWhole) (arg3 : Memref sig .tc .vmem S256x256 .bf16) (harg3 : arg3.IsWhole) (arg4 : Memref sig .tc .vmem S512x768 .bf16) (harg4 : arg4.IsWhole) (arg5 : Memref sig .tc .vmem S2x768 .bf16) (harg5 : arg5.IsWhole) (arg6 : Memref sig .tc .vmem S256x1408 .bf16) (harg6 : arg6.IsWhole) (arg7 : Memref sig .tc .vmem S1x640 .f32) (harg7 : arg7.IsWhole) (arg8 : Memref sig .tc .vmem S512x32 .i32) (harg8 : arg8.IsWhole) (arg9 : Memref sig .tc .vmem S512x8x514 .f32) (harg9 : arg9.IsWhole) (arg10 : Memref sig .tc .vmem S512x32 .f32) (harg10 : arg10.IsWhole) (arg11 : Memref sig .tc .vmem S512x256 .f32) (harg11 : arg11.IsWhole) (arg12 : Memref sig .tc .vmem S512x768 .f32) (harg12 : arg12.IsWhole) (arg13 : Memref sig .tc .vmem S512x768 .f32) (harg13 : arg13.IsWhole) (arg14 : Memref sig .tc .vmem S512x1 .f32) (harg14 : arg14.IsWhole)
  (x0 : Vec F S512x256 .f32) (x1 : Vec F S256x256 .bf16) (x2 : Vec F S512x768 .bf16) (x3 : Vec F S2x768 .bf16) (x4 : Vec F S256x1408 .bf16) (x5 : Vec F S1x640 .f32) (x6 : Vec F S512x32 .i32) (x8 : Vec F S512x32 .f32)

set_option maxHeartbeats 2000000 in
/-- The body where the branch on the first step is taken: eight steps from the start. -/
theorem bodyA (hc0 : cond0_0 i) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (leftBy c i arg2 arg3 arg4 arg5 arg6 arg7 arg8 arg9 arg10 arg11 arg12 arg13 arg14 x0 x1 x2 x3 x4 x5 x6 x8 (start x0 x1 x3 x4) -∗ K ⟨⟩))
      ⊢ wp frame (wpE (defs₀ (F := F)) Variants.none c none) Set.univ (cc0__loop_kernel i arg2 harg2 arg3 harg3 arg4 harg4 arg5 harg5 arg6 harg6 arg7 harg7 arg8 harg8 arg9 harg9 arg10 harg10 arg11 harg11 arg12 harg12 arg13 harg13 arg14 harg14) K := by
  iintro ⟨H0, H1, H2, H3, H4, H5, H6, H7, H8, HS0, HS1, HS2, HS3, Hk⟩
  iapply ((kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x8).2.2.2.2.2.2.2 Set.univ K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  isplitl [HS3]; · iexact HS3
  iintro ⟨H0, H1, H2, H3, H4, H5, ⟨%e6, H6⟩, ⟨%e7, H7⟩, ⟨%e8, H8⟩, ⟨%es0, HS0⟩, ⟨%es1, HS1⟩, ⟨%es2, HS2⟩, ⟨%es3, HS3⟩⟩
  iapply Hk
  unfold leftBy
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr; swap; · iexact H6
    ipureintro; exact read_left _ _ _ _ (View.cover_of_tiledL _ S512x32.size (by sl_kernel_rfl)) (outA_sym c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x8)
  isplitl [H7]
  · unfold owns; iexists _; isplitr; swap; · iexact H7
    ipureintro; exact read_left _ _ _ _ (View.cover_of_tiledL _ S512x1x514.size (by sl_kernel_rfl)) ((congrArg View.canon (outA_tok c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x8)).trans (canon_tokPieces (wts x2 x3 x4 x5) (start x0 x1 x3 x4)))
  isplitl [H8]
  · unfold owns; iexists _; isplitr; swap; · iexact H8
    ipureintro; exact read_left _ _ _ _ (View.cover_of_tiledL _ S512x32.size (by sl_kernel_rfl)) (outA_prob c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x8)
  isplitl [HS0]
  · unfold owns; iexists _; isplitr; swap; · iexact HS0
    ipureintro; exact read_left _ _ _ _ (View.cover_of_tiledL _ S512x256.size (by sl_kernel_rfl)) ((outA_h c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x8).trans (shapeCast_self _ _))
  isplitl [HS1]
  · unfold owns; iexists _; isplitr; swap; · iexact HS1
    ipureintro; exact read_left _ _ _ _ (View.cover_of_tiledL _ S512x768.size (by sl_kernel_rfl)) ((outA_hz c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x8).trans (shapeCast_self _ _))
  isplitl [HS2]
  · unfold owns; iexists _; isplitr; swap; · iexact HS2
    ipureintro; exact read_left _ _ _ _ (View.cover_of_tiledL _ S512x768.size (by sl_kernel_rfl)) ((outA_xz c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x8).trans (shapeCast_self _ _))
  unfold owns; iexists _; isplitr; swap; · iexact HS3
  ipureintro; exact read_left _ _ _ _ (View.cover_of_tiledL _ S512x1.size (by sl_kernel_rfl)) ((outA_fin c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x8).trans (shapeCast_self _ _))

set_option maxHeartbeats 2000000 in
/-- The body where the branch on the first step is not taken: eight steps from the carried state. -/
theorem bodyB (hc0 : ¬cond0_0 i) (s : Carry F) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare x8 ∗ owns (c : Thread nD τ) arg11 fullShare s.h ∗ owns (c : Thread nD τ) arg12 fullShare s.hz ∗ owns (c : Thread nD τ) arg13 fullShare s.xz ∗ owns (c : Thread nD τ) arg14 fullShare s.fin
        ∗ (leftBy c i arg2 arg3 arg4 arg5 arg6 arg7 arg8 arg9 arg10 arg11 arg12 arg13 arg14 x0 x1 x2 x3 x4 x5 x6 x8 s -∗ K ⟨⟩))
      ⊢ wp frame (wpE (defs₀ (F := F)) Variants.none c none) Set.univ (cc0__loop_kernel i arg2 harg2 arg3 harg3 arg4 harg4 arg5 harg5 arg6 harg6 arg7 harg7 arg8 harg8 arg9 harg9 arg10 harg10 arg11 harg11 arg12 harg12 arg13 harg13 arg14 harg14) K := by
  iintro ⟨H0, H1, H2, H3, H4, H5, H6, H7, H8, HS0, HS1, HS2, HS3, Hk⟩
  iapply ((kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x8 s.h s.hz s.xz s.fin).2.2.2.2.2.2.2 Set.univ K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  isplitl [HS3]; · iexact HS3
  iintro ⟨H0, H1, H2, H3, H4, H5, ⟨%e6, H6⟩, ⟨%e7, H7⟩, ⟨%e8, H8⟩, ⟨%es0, HS0⟩, ⟨%es1, HS1⟩, ⟨%es2, HS2⟩, ⟨%es3, HS3⟩⟩
  iapply Hk
  unfold leftBy
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr; swap; · iexact H6
    ipureintro; exact read_left _ _ _ _ (View.cover_of_tiledL _ S512x32.size (by sl_kernel_rfl)) (outB_sym c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x8 s.h s.hz s.xz s.fin)
  isplitl [H7]
  · unfold owns; iexists _; isplitr; swap; · iexact H7
    ipureintro; exact read_left _ _ _ _ (View.cover_of_tiledL _ S512x1x514.size (by sl_kernel_rfl)) ((congrArg View.canon (outB_tok c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x8 s.h s.hz s.xz s.fin)).trans (canon_tokPieces (wts x2 x3 x4 x5) s))
  isplitl [H8]
  · unfold owns; iexists _; isplitr; swap; · iexact H8
    ipureintro; exact read_left _ _ _ _ (View.cover_of_tiledL _ S512x32.size (by sl_kernel_rfl)) (outB_prob c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x8 s.h s.hz s.xz s.fin)
  isplitl [HS0]
  · unfold owns; iexists _; isplitr; swap; · iexact HS0
    ipureintro; exact read_left _ _ _ _ (View.cover_of_tiledL _ S512x256.size (by sl_kernel_rfl)) ((outB_h c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x8 s.h s.hz s.xz s.fin).trans (shapeCast_self _ _))
  isplitl [HS1]
  · unfold owns; iexists _; isplitr; swap; · iexact HS1
    ipureintro; exact read_left _ _ _ _ (View.cover_of_tiledL _ S512x768.size (by sl_kernel_rfl)) ((outB_hz c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x8 s.h s.hz s.xz s.fin).trans (shapeCast_self _ _))
  isplitl [HS2]
  · unfold owns; iexists _; isplitr; swap; · iexact HS2
    ipureintro; exact read_left _ _ _ _ (View.cover_of_tiledL _ S512x768.size (by sl_kernel_rfl)) ((outB_xz c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x8 s.h s.hz s.xz s.fin).trans (shapeCast_self _ _))
  unfold owns; iexists _; isplitr; swap; · iexact HS3
  ipureintro; exact read_left _ _ _ _ (View.cover_of_tiledL _ S512x1.size (by sl_kernel_rfl)) ((outB_fin c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x8 s.h s.hz s.xz s.fin).trans (shapeCast_self _ _))

end

end Cert.KernelIdeal.Gen

end
-- ==== Proof.KI.Blocks.lean ====
module

public import proofs.«01_k».proof.Proof.KI.Left
public import Idealize.ShloMosaic.Lib.Pipeline.ValueKit
public import Idealize.ShloMosaic.Lib.Pipeline.DatRel

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pipeline (Dat Cfg Window BodyObligation RDat cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The first point of the row block point `t` works on. -/
def base (t : Fin cfg0.N) : Fin cfg0.N := ⟨4 * (t.val / 4), by have := t.isLt; omega⟩

theorem base_val (t : Fin cfg0.N) : (base t).val = 4 * (t.val / 4) := rfl

/-- The index maps, at every point. -/
theorem idx : ∀ t : Fin cfg0.N, win0_0.index t = ![t.val / 4, 0] ∧ win0_1.index t = ![0, 0] ∧ win0_2.index t = ![0, 0]
    ∧ win0_3.index t = ![0, 0] ∧ win0_4.index t = ![0, 0] ∧ win0_5.index t = ![0, 0] ∧ win0_6.index t = ![t.val / 4, 0]
    ∧ win0_7.index t = ![t.val / 4, t.val % 4, 0] ∧ win0_8.index t = ![t.val / 4, 0] :=
  (by decide +kernel : ∀ t : Fin grid0.N, _)

/-- The second grid coordinate of a point. -/
theorem coord1 : ∀ t : Fin cfg0.N, (grid0.coords t 1).val = t.val % 4 := (by decide +kernel : ∀ t : Fin grid0.N, _)

/-- Rows `512 q …` of the state as launched. -/
def rowsQ (c : Dev nD) (q : ℕ) (hq : q < 2) : Vec F S512x256 .f32 :=
  fun y => V m c main_arg0 (ValueIdx.ix2 (⟨512 * q + (y 0).val, by have : (y 0).val < 512 := (y 0).isLt; omega⟩ : Fin 1024) (y 1))

theorem iblk0 (c : Dev nD) (t : Fin cfg0.N) : iblk m c 0 t = rowsQ m c (t.val / 4) (by have : t.val < 8 := t.isLt; omega) := by
  funext y
  blk_ext [iblk, rowsQ, (idx t).1]

theorem iblk1 (c : Dev nD) (t : Fin cfg0.N) : iblk m c 1 t = V m c main_v7 := by
  funext y
  blk_ext [iblk, (idx t).2.1]

theorem iblk2 (c : Dev nD) (t : Fin cfg0.N) : iblk m c 2 t = V m c main_v4 := by
  funext y
  blk_ext [iblk, (idx t).2.2.1]

theorem iblk3 (c : Dev nD) (t : Fin cfg0.N) : iblk m c 3 t = V m c main_v6 := by
  funext y
  blk_ext [iblk, (idx t).2.2.2.1]

theorem iblk4 (c : Dev nD) (t : Fin cfg0.N) : iblk m c 4 t = V m c main_v2 := by
  funext y
  blk_ext [iblk, (idx t).2.2.2.2.1]

theorem iblk5 (c : Dev nD) (t : Fin cfg0.N) : iblk m c 5 t = V m c main_v11 := by
  funext y
  blk_ext [iblk, (idx t).2.2.2.2.2.1]

end Cert.KernelIdeal.Gen

end
-- ==== Proof.KI.Data.lean ====
module

public import proofs.«01_k».proof.Proof.KI.Blocks

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pipeline (Dat Cfg Window BodyObligation RDat cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The row block a point works on. -/
def qOf (n : ℕ) : Fin 2 := if n < 4 then 0 else 1

theorem qOf_val (n : ℕ) (h : n < 8) : n / 4 = (qOf n).val := by
  unfold qOf; split
  · show n / 4 = 0; omega
  · show n / 4 = 1; omega

/-- The weights the program runs on. -/
def WT (c : Dev nD) : Wts F := wts (V m c main_v4) (V m c main_v6) (V m c main_v2) (V m c main_v11)

/-- The state a row block starts from. -/
def ST (c : Dev nD) (q : Fin 2) : Carry F := start (rowsQ m c q.val q.isLt) (V m c main_v7) (V m c main_v6) (V m c main_v2)

/-- The state of a row block after `k` steps. -/
def gst (c : Dev nD) (q : Fin 2) (k : ℕ) : Carry F := steps (WT m c) (ST m c q) k

theorem gst_add (c : Dev nD) (q : Fin 2) (a b : ℕ) : gst m c q (a + b) = steps (WT m c) (gst m c q a) b := steps_add _ _ a b

/-- The scratch buffers hold a state. -/
def scrAt (c : Dev nD) (s : Carry F) : sProp 𝕄 :=
  iprop(owns (c : Thread nD τ) scM0_0 fullShare s.h ∗ owns (c : Thread nD τ) scM0_1 fullShare s.hz
    ∗ owns (c : Thread nD τ) scM0_2 fullShare s.xz ∗ owns (c : Thread nD τ) scM0_3 fullShare s.fin)

/-- Between points the scratch buffers hold the row block's state after the steps done. -/
def PhiS (c : Dev nD) : (n : ℕ) → n ≤ cfg0.N → sProp 𝕄
  | 0, _ => Pipeline.ΦA spec0 c
  | n + 1, _ => iprop(scrAt c (gst m c (qOf n) (8 * (n % 4) + 8)) ∗ (∃ r, prngReg c r))

theorem PhiS_pos (c : Dev nD) (n : ℕ) (h : n ≤ cfg0.N) (hz : n ≠ 0) :
    PhiS m c n h = iprop(scrAt c (gst m c (qOf (n - 1)) (8 * ((n - 1) % 4) + 8)) ∗ (∃ r, prngReg c r)) := by
  cases n with
  | zero => exact absurd rfl hz
  | succ n => rfl

/-- The scratch buffers at any state are scratch buffers at something. -/
theorem PhiS_any (c : Dev nD) (n : ℕ) (h : n ≤ cfg0.N) : PhiS m c n h ⊢ Pipeline.ΦA spec0 c := by
  cases n with
  | zero => exact Entails.refl _
  | succ n =>
    rw [show PhiS m c (n + 1) h = iprop(scrAt c (gst m c (qOf n) (8 * (n % 4) + 8)) ∗ (∃ r, prngReg c r)) from rfl, PhiA0_eq]
    unfold scrAt
    iintro ⟨⟨HS0, HS1, HS2, HS3⟩, Hg⟩
    isplitl [HS0 HS1 HS2 HS3]
    · isplitl [HS0]; · iexists _; iexact HS0
      isplitl [HS1]; · iexists _; iexact HS1
      isplitl [HS2]; · iexists _; iexact HS2
      iexists _; iexact HS3
    iexact Hg

/-- The windows of the results are held to what is known of them. -/
def held : Fin cfg0.W → Bool := fun w => w.val == 6 || w.val == 7 || w.val == 8

/-- What is known of a result's block after a point: the columns of the steps done. -/
def Rl (c : Dev nD) : (w : Fin cfg0.W) → (t : Fin cfg0.N) → ((cfg0.win w).block.Idx → Elt F (cfg0.win w).elt) → Prop
  | ⟨6, _⟩, t, X => ∀ y : S512x32.Idx, (y 1).val < 8 * (t.val % 4) + 8 →
      (X : Vec F S512x32 .i32) y = symV (WT m c) (gst m c (qOf t.val) (y 1).val) (ValueIdx.ix2 (y 0) 0)
  | ⟨7, _⟩, t, X => (X : Vec F S512x8x514 .f32) = tokBlk (WT m c) (gst m c (qOf t.val) (8 * (t.val % 4)))
  | ⟨8, _⟩, t, X => ∀ y : S512x32.Idx, (y 1).val < 8 * (t.val % 4) + 8 →
      (X : Vec F S512x32 .f32) y = probV (WT m c) (gst m c (qOf t.val) (y 1).val) (ValueIdx.ix2 (y 0) 0)
  | _, _, _ => True

/-- The data of the run: the operands' blocks stay, the scratch buffers carry the state. -/
def datK (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨n + 6, h⟩ => Pipeline.Dat.unnamed (cfg := cfg0) ⟨n + 6, h⟩ t
  Φ t := PhiS m c t.val (Nat.le_of_lt_succ t.isLt)
  q _ := fullShare
  owed _ := 0

theorem datK_A (c : Dev nD) (w : Fin cfg0.W) : (datK m c).A w = V m c (Pipeline.arrRef spec0 w) := by dsimp only [datK]

theorem datK_Phi (c : Dev nD) (t : Fin cfg0.N) : (datK m c).Φ t.castSucc = PhiS m c t.val (le_of_lt t.isLt) := by
  dsimp only [datK]; exact Pipeline.Dat.Φ_castSucc (PhiS m c) t

theorem after0 (c : Dev nD) (t : Fin cfg0.N) : (datK m c).after 0 t = iblk m c 0 t := by dsimp only [datK]
theorem after1 (c : Dev nD) (t : Fin cfg0.N) : (datK m c).after 1 t = iblk m c 1 t := by dsimp only [datK]
theorem after2 (c : Dev nD) (t : Fin cfg0.N) : (datK m c).after 2 t = iblk m c 2 t := by dsimp only [datK]
theorem after3 (c : Dev nD) (t : Fin cfg0.N) : (datK m c).after 3 t = iblk m c 3 t := by dsimp only [datK]
theorem after4 (c : Dev nD) (t : Fin cfg0.N) : (datK m c).after 4 t = iblk m c 4 t := by dsimp only [datK]
theorem after5 (c : Dev nD) (t : Fin cfg0.N) : (datK m c).after 5 t = iblk m c 5 t := by dsimp only [datK]

theorem bef0 (c : Dev nD) (t : Fin cfg0.N) (d) : (datK m c).before 0 t d = iblk m c 0 t := before0_0_of m (datK m c) (datK_A m c 0) (after0 m c) t d
theorem bef1 (c : Dev nD) (t : Fin cfg0.N) (d) : (datK m c).before 1 t d = iblk m c 1 t := before0_1_of m (datK m c) (datK_A m c 1) (after1 m c) t d
theorem bef2 (c : Dev nD) (t : Fin cfg0.N) (d) : (datK m c).before 2 t d = iblk m c 2 t := before0_2_of m (datK m c) (datK_A m c 2) (after2 m c) t d
theorem bef3 (c : Dev nD) (t : Fin cfg0.N) (d) : (datK m c).before 3 t d = iblk m c 3 t := before0_3_of m (datK m c) (datK_A m c 3) (after3 m c) t d
theorem bef4 (c : Dev nD) (t : Fin cfg0.N) (d) : (datK m c).before 4 t d = iblk m c 4 t := before0_4_of m (datK m c) (datK_A m c 4) (after4 m c) t d
theorem bef5 (c : Dev nD) (t : Fin cfg0.N) (d) : (datK m c).before 5 t d = iblk m c 5 t := before0_5_of m (datK m c) (datK_A m c 5) (after5 m c) t d

/-- The data with the results held to what is known of them. -/
abbrev rdK (c : Dev nD) : RDat τ (Elt F) Unit ℕ (UR sig nD τ) ℕ cfg0 c := (datK m c).toRRel held (Rl m c)

/-- A result's block that carries over: what a point finds meets what the point before left. -/
theorem finds_known (c : Dev nD) (w : Fin cfg0.W) (hw : held w = true) (t : Fin cfg0.N) (ht : t.val % 4 ≠ 0) (hfl : (cfg0.win w).flush ⟨t.val - 1, Nat.lt_of_le_of_lt (Nat.sub_le _ _) t.isLt⟩ = false)
    (hfe : (cfg0.win w).fetch t = false) (X) (h : (rdK m c).Finds w t X) : Rl m c w ⟨t.val - 1, Nat.lt_of_le_of_lt (Nat.sub_le _ _) t.isLt⟩ X := by
  rw [RDat.finds_of_pos _ hfe (by omega)] at h
  rcases h with h | h
  · exact absurd (hfl.symm.trans h) (by decide)
  · exact Pipeline.Dat.toRRel_leaves _ hw h

end Cert.KernelIdeal.Gen

end
-- ==== Proof.KI.Body.lean ====
module

public import proofs.«01_k».proof.Proof.KI.Data

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pipeline (Dat Cfg Window BodyObligation BodyObligationRel RDat cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body is handed at a point. -/
def bodyPre (c : Dev nD) (t : Fin cfg0.N) : sProp 𝕄 :=
  iprop((datK m c).Φ t.castSucc ∗ (datK m c).owesAt () t.castSucc
    ∗ (∃ d, owns (c : Thread nD τ) (ms0_0 t) fullShare ((datK m c).before 0 t d))
    ∗ (∃ d, owns (c : Thread nD τ) (ms0_1 t) fullShare ((datK m c).before 1 t d))
    ∗ (∃ d, owns (c : Thread nD τ) (ms0_2 t) fullShare ((datK m c).before 2 t d))
    ∗ (∃ d, owns (c : Thread nD τ) (ms0_3 t) fullShare ((datK m c).before 3 t d))
    ∗ (∃ d, owns (c : Thread nD τ) (ms0_4 t) fullShare ((datK m c).before 4 t d))
    ∗ (∃ d, owns (c : Thread nD τ) (ms0_5 t) fullShare ((datK m c).before 5 t d))
    ∗ (∃ Y, ⌜(rdK m c).Finds 6 t Y⌝ ∗ owns (c : Thread nD τ) (ms0_6 t) fullShare Y)
    ∗ (∃ Y, ⌜(rdK m c).Finds 7 t Y⌝ ∗ owns (c : Thread nD τ) (ms0_7 t) fullShare Y)
    ∗ (∃ Y, ⌜(rdK m c).Finds 8 t Y⌝ ∗ owns (c : Thread nD τ) (ms0_8 t) fullShare Y))

/-- What the body gives back at a point. -/
def bodyPost (c : Dev nD) (t : Fin cfg0.N) : sProp 𝕄 :=
  iprop((datK m c).Φ t.succ ∗ (datK m c).owesAt () t.succ
    ∗ owns (c : Thread nD τ) (ms0_0 t) fullShare ((datK m c).after 0 t)
    ∗ owns (c : Thread nD τ) (ms0_1 t) fullShare ((datK m c).after 1 t)
    ∗ owns (c : Thread nD τ) (ms0_2 t) fullShare ((datK m c).after 2 t)
    ∗ owns (c : Thread nD τ) (ms0_3 t) fullShare ((datK m c).after 3 t)
    ∗ owns (c : Thread nD τ) (ms0_4 t) fullShare ((datK m c).after 4 t)
    ∗ owns (c : Thread nD τ) (ms0_5 t) fullShare ((datK m c).after 5 t)
    ∗ (∃ X, ⌜Rl m c 6 t X⌝ ∗ owns (c : Thread nD τ) (ms0_6 t) fullShare X)
    ∗ (∃ X, ⌜Rl m c 7 t X⌝ ∗ owns (c : Thread nD τ) (ms0_7 t) fullShare X)
    ∗ (∃ X, ⌜Rl m c 8 t X⌝ ∗ owns (c : Thread nD τ) (ms0_8 t) fullShare X))

theorem wts_iblk (c : Dev nD) (t : Fin cfg0.N) : wts (iblk m c 2 t) (iblk m c 3 t) (iblk m c 4 t) (iblk m c 5 t) = WT m c := by
  rw [iblk2, iblk3, iblk4, iblk5]; rfl

theorem start_iblk (c : Dev nD) (t : Fin cfg0.N) : start (iblk m c 0 t) (iblk m c 1 t) (iblk m c 3 t) (iblk m c 4 t) = ST m c (qOf t.val) := by
  rw [iblk0, iblk1, iblk3, iblk4]
  unfold ST
  have h := qOf_val t.val t.isLt
  congr 1
  funext y; unfold rowsQ; congr 2; apply Fin.ext; show 512 * (t.val / 4) + _ = 512 * (qOf t.val).val + _; rw [h]

/-- From what the eight steps of a point leave, what the point gives back. -/
theorem post_of_left (c : Dev nD) (t : Fin cfg0.N) (x6 : Vec F S512x32 .i32) (x8 : Vec F S512x32 .f32)
    (h6 : ∀ y : S512x32.Idx, (y 1).val < 8 * (t.val % 4) → x6 y = symV (WT m c) (gst m c (qOf t.val) (y 1).val) (ValueIdx.ix2 (y 0) 0))
    (h8 : ∀ y : S512x32.Idx, (y 1).val < 8 * (t.val % 4) → x8 y = probV (WT m c) (gst m c (qOf t.val) (y 1).val) (ValueIdx.ix2 (y 0) 0)) :
    iprop(leftBy c (grid0.coords t) (ms0_0 t) (ms0_1 t) (ms0_2 t) (ms0_3 t) (ms0_4 t) (ms0_5 t) (ms0_6 t) (ms0_7 t) (ms0_8 t) scM0_0 scM0_1 scM0_2 scM0_3 (iblk m c 0 t) (iblk m c 1 t) (iblk m c 2 t) (iblk m c 3 t) (iblk m c 4 t) (iblk m c 5 t) x6 x8 (gst m c (qOf t.val) (8 * (t.val % 4)))
      ∗ (∃ r, prngReg c r) ∗ (datK m c).owesAt () t.castSucc) ⊢ bodyPost m c t := by
  unfold leftBy bodyPost
  rw [wts_iblk, coord1 t]
  rw [show (datK m c).owesAt () t.succ = (datK m c).owesAt () t.castSucc from rfl, after0, after1, after2, after3, after4, after5]
  rw [show (datK m c).Φ t.succ = iprop(scrAt c (gst m c (qOf t.val) (8 * (t.val % 4) + 8)) ∗ (∃ r, prngReg c r)) from rfl, gst_add]
  unfold scrAt
  iintro ⟨⟨H0, H1, H2, H3, H4, H5, H6, H7, H8, HS0, HS1, HS2, HS3⟩, Hg, Ho⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr
    swap; · iexact H6
    ipureintro
    intro y hy
    rw [symAfter_apply _ _ _ _ (by omega) (by omega)]
    by_cases hlo : 8 * (t.val % 4) ≤ (y 1).val
    · rw [if_pos ⟨hlo, hy⟩, ← gst_add, Nat.add_sub_cancel' hlo]; rfl
    · rw [if_neg (fun h => hlo h.1)]; exact h6 y (by omega)
  isplitl [H7]
  · iexists _; isplitr
    swap; · iexact H7
    ipureintro
    rfl
  iexists _; isplitr
  swap; · iexact H8
  ipureintro
  intro y hy
  rw [probAfter_apply _ _ _ _ (by omega) (by omega)]
  by_cases hlo : 8 * (t.val % 4) ≤ (y 1).val
  · rw [if_pos ⟨hlo, hy⟩, ← gst_add, Nat.add_sub_cancel' hlo]; rfl
  · rw [if_neg (fun h => hlo h.1)]; exact h8 y (by omega)

theorem fl6 : ∀ t : Fin cfg0.N, t.val % 4 ≠ 3 → win0_6.flush t = false := (by decide +kernel : ∀ t : Fin grid0.N, _)
theorem fl8 : ∀ t : Fin cfg0.N, t.val % 4 ≠ 3 → win0_8.flush t = false := (by decide +kernel : ∀ t : Fin grid0.N, _)
theorem fe6 : ∀ t : Fin cfg0.N, win0_6.fetch t = false := (by decide +kernel : ∀ t : Fin grid0.N, _)
theorem fe8 : ∀ t : Fin cfg0.N, win0_8.fetch t = false := (by decide +kernel : ∀ t : Fin grid0.N, _)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyAt0
  simp only [bef0, bef1, bef2, bef3, bef4, bef5]
  rw [datK_Phi]
  have hN : t.val < 8 := t.isLt
  by_cases h0 : t.val % 4 = 0
  · have hs : start (iblk m c 0 t) (iblk m c 1 t) (iblk m c 3 t) (iblk m c 4 t) = gst m c (qOf t.val) (8 * (t.val % 4)) := by
      rw [start_iblk, h0]; rfl
    have hany := PhiS_any m c t.val (le_of_lt t.isLt)
    rw [PhiA0_eq] at hany
    iintro ⟨HΦ, Ho, ⟨%d0, H0⟩, ⟨%d1, H1⟩, ⟨%d2, H2⟩, ⟨%d3, H3⟩, ⟨%d4, H4⟩, ⟨%d5, H5⟩, ⟨%d6, %_h6, H6⟩, ⟨%d7, %_h7, H7⟩, ⟨%d8, %_h8, H8⟩⟩
    ihave HΦ := hany $$ HΦ
    icases HΦ with ⟨⟨HS0, HS1, HS2, HS3⟩, Hg⟩
    iapply (bodyA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d6 d8 ((hcond0_0 t).mpr h0) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [HS0]; · iexact HS0
    isplitl [HS1]; · iexact HS1
    isplitl [HS2]; · iexact HS2
    isplitl [HS3]; · iexact HS3
    iintro HL
    rw [hs]
    iapply (post_of_left m c t d6 d8 (fun y hy => absurd hy (by omega)) (fun y hy => absurd hy (by omega)))
    isplitl [HL]; · iexact HL
    isplitl [Hg]; · iexact Hg
    iexact Ho
  · have hq : qOf (t.val - 1) = qOf t.val := by unfold qOf; split <;> split <;> first | rfl | omega
    have hk : 8 * ((t.val - 1) % 4) + 8 = 8 * (t.val % 4) := by omega
    rw [PhiS_pos m c _ _ (by omega), hq, hk]
    unfold scrAt
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, %h6, H6⟩, ⟨%d7, %_h7, H7⟩, ⟨%d8, %h8, H8⟩⟩
    have k6 := finds_known m c 6 rfl t h0 (fl6 _ (by show (t.val - 1) % 4 ≠ 3; omega)) (fe6 t) d6 h6
    have k8 := finds_known m c 8 rfl t h0 (fl8 _ (by show (t.val - 1) % 4 ≠ 3; omega)) (fe8 t) d8 h8
    iapply (bodyB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) d6 d8 (fun h => h0 ((hcond0_0 t).mp h)) (gst m c (qOf t.val) (8 * (t.val % 4))) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [HS0]; · iexact HS0
    isplitl [HS1]; · iexact HS1
    isplitl [HS2]; · iexact HS2
    isplitl [HS3]; · iexact HS3
    iintro HL
    iapply (post_of_left m c t d6 d8
      (fun y hy => by have h := k6 y (by show (y 1).val < 8 * ((t.val - 1) % 4) + 8; omega); rw [show qOf ((⟨t.val - 1, Nat.lt_of_le_of_lt (Nat.sub_le _ _) t.isLt⟩ : Fin cfg0.N)).val = qOf t.val from hq] at h; exact h)
      (fun y hy => by have h := k8 y (by show (y 1).val < 8 * ((t.val - 1) % 4) + 8; omega); rw [show qOf ((⟨t.val - 1, Nat.lt_of_le_of_lt (Nat.sub_le _ _) t.isLt⟩ : Fin cfg0.N)).val = qOf t.val from hq] at h; exact h))
    isplitl [HL]; · iexact HL
    isplitl [Hg]; · iexact Hg
    iexact Ho

theorem defs₀_at (t : Fin cfg0.N) : defs₀ (F := F) .tc cfg0.body (cfg0.bodyArgs t (cfg0.slots t)) = bodyAt0 t := by
  unfold defs₀; rw [Defs.onTc_tc]

/-- The body keeps what is known of the results, at every point. -/
theorem body_known (c : Dev nD) : BodyObligationRel (datK (F := F) m c) (defs₀ (F := F)) Variants.none () Set.univ held (Rl m c) := fun t => by
  rw [bigSep_W0, bigSep_W0, defs₀_at]
  exact triple_restated (sound_body m c t) rfl .rfl fun _ => .rfl

end Cert.KernelIdeal.Gen

end
-- ==== Proof.KI.Run.lean ====
module

public import proofs.«01_k».proof.Proof.KI.Body
public import Idealize.ShloMosaic.Lib.Pipeline.ArrRel

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pipeline (Dat Cfg Window BodyObligation BodyObligationRel RDat cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem hinK (c : Dev nD) : Pipeline.ΦA spec0 c ⊢ (datK m c).Φ 0 := by
  rw [show (datK m c).Φ 0 = Pipeline.ΦA spec0 c from rfl]

theorem houtK (c : Dev nD) : (datK m c).Φ (Fin.last cfg0.N) ⊢ Pipeline.ΦA spec0 c := by
  rw [show (datK m c).Φ (Fin.last cfg0.N) = PhiS m c cfg0.N (le_refl _) from rfl]
  exact PhiS_any m c _ _

set_option backward.isDefEq.respectTransparency.types false in
/-- The program's run: every array ends as the data say, the rest as launched, and the counters are back at zero. -/
theorem run_known : θ_run defs (onTc (τ := τ) (main (F := F))) (s₀ m ρ) (fun r => (Pipeline.RDat.FramePost (cfgs 0) (rdK m) (V m)) r ∧ r.2.sem = fun _ => 0) :=
  Pipeline.RDat.θ_run_frame_track (Q' := _) cfgs (0 : Fin 1) launch0 defs₀ Variants.none (rdK m) m ρ main
    (hbody := fun c => BodyObligationRel.toRRel _ (body_known m c)) (hshare := fun c => (datK m c).share_full fun _ => rfl)
    (howed := fun _ _ => rfl) (V := V m) (hmain := hmain m Variants.none) (hA := datK_A m) (hin := hinK m) (hout := houtK m)
    (hQ' := fun _ h => h)

/-- The arguments end unchanged. -/
theorem args_of (r : PUnit × MemSt nD τ sig (Elt F)) (h : Pipeline.RDat.FramePost (cfgs 0) (rdK m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨(Pipeline.RDat.FramePost.arr_in h c 0 rfl).trans ((datK_A m c 0).trans (V_main_arg0 m c)),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c)⟩

/-- The row block of a row. -/
def qRow (i : Fin 1024) : Fin 2 := ⟨i.val / 512, by omega⟩
/-- A row within its row block. -/
def inRow (i : Fin 1024) : Fin 512 := ⟨i.val % 512, by omega⟩

/-- The symbols' array. -/
def symArr (c : Dev nD) : S1024x32.Idx → Elt F .i32 :=
  fun i => symV (WT m c) (gst m c (qRow (i 0)) (i 1).val) (ValueIdx.ix2 (inRow (i 0)) 0)

/-- The probabilities' array. -/
def probArr (c : Dev nD) : S1024x32.Idx → Elt F .f32 :=
  fun i => probV (WT m c) (gst m c (qRow (i 0)) (i 1).val) (ValueIdx.ix2 (inRow (i 0)) 0)

/-- The tokens' array. -/
def tokArr (c : Dev nD) : S1024x32x514.Idx → Elt F .f32 :=
  fun i => tokRow (WT m c) (gst m c (qRow (i 0)) (i 1).val) (ValueIdx.ix3 (inRow (i 0)) 0 (i 2))

section
variable (c : Dev nD) (after : (w' : Fin cfg0.W) → Fin cfg0.N → (cfg0.win w').block.Idx → Elt F (cfg0.win w').elt)
  (hL : ∀ (w : Fin cfg0.W) (u : Fin cfg0.N), (cfg0.win w).flush u = true → (rdK m c).Leaves w u (after w u))
include hL

/-- The symbols' array at the end of a run. -/
theorem final_sym : ((rdK m c).withAfter after).arrAt 6 cfg0.N = symArr m c := by
  refine ((rdK m c).withAfter after).arrAt_eq_of_covers 6 _ (by decide +kernel) fun t hf y => ?_
  have ht : t.val < 8 := t.isLt
  have hf3 : t.val % 4 = 3 := by by_contra h; exact absurd ((fl6 t h).symm.trans hf) (by decide)
  have h0 : (y 0).val < 512 := (y 0).isLt
  have h1 : (y 1).val < 32 := (y 1).isLt
  have h := Pipeline.Dat.toRRel_leaves (datK m c) (w := 6) rfl (hL 6 t hf) y (by rw [hf3]; exact h1)
  blk_simp
  refine (show _ = after 6 t y from rfl).trans (h.trans ?_)
  have he : (win0_6.blk t).view.emb y = ValueIdx.ix2 (⟨512 * (t.val / 4) + (y 0).val, by omega⟩ : Fin 1024) (⟨(y 1).val, h1⟩ : Fin 32) := by
    blk_ext [idx t]
  rw [he]
  unfold symArr
  congr 2
  · congr 1
    apply Fin.ext; show (qOf t.val).val = (512 * (t.val / 4) + (y 0).val) / 512; rw [← qOf_val t.val ht]; omega
  · congr 1
    apply Fin.ext; show (y 0).val = (512 * (t.val / 4) + (y 0).val) % 512; omega

/-- The probabilities' array at the end of a run. -/
theorem final_prob : ((rdK m c).withAfter after).arrAt 8 cfg0.N = probArr m c := by
  refine ((rdK m c).withAfter after).arrAt_eq_of_covers 8 _ (by decide +kernel) fun t hf y => ?_
  have ht : t.val < 8 := t.isLt
  have hf3 : t.val % 4 = 3 := by by_contra h; exact absurd ((fl8 t h).symm.trans hf) (by decide)
  have h0 : (y 0).val < 512 := (y 0).isLt
  have h1 : (y 1).val < 32 := (y 1).isLt
  have h := Pipeline.Dat.toRRel_leaves (datK m c) (w := 8) rfl (hL 8 t hf) y (by rw [hf3]; exact h1)
  blk_simp
  refine (show _ = after 8 t y from rfl).trans (h.trans ?_)
  have he : (win0_8.blk t).view.emb y = ValueIdx.ix2 (⟨512 * (t.val / 4) + (y 0).val, by omega⟩ : Fin 1024) (⟨(y 1).val, h1⟩ : Fin 32) := by
    blk_ext [idx t]
  rw [he]
  unfold probArr
  congr 2
  · congr 1
    apply Fin.ext; show (qOf t.val).val = (512 * (t.val / 4) + (y 0).val) / 512; rw [← qOf_val t.val ht]; omega
  · congr 1
    apply Fin.ext; show (y 0).val = (512 * (t.val / 4) + (y 0).val) % 512; omega

/-- The tokens' array at the end of a run. -/
theorem final_tok : ((rdK m c).withAfter after).arrAt 7 cfg0.N = tokArr m c := by
  refine ((rdK m c).withAfter after).arrAt_eq_of_covers 7 _ (by decide +kernel) fun t hf y => ?_
  have ht : t.val < 8 := t.isLt
  have h0 : (y 0).val < 512 := (y 0).isLt
  have h1 : (y 1).val < 8 := (y 1).isLt
  have h2 : (y 2).val < 514 := (y 2).isLt
  have h := congrFun (Pipeline.Dat.toRRel_leaves (datK m c) (w := 7) rfl (hL 7 t hf)) y
  blk_simp
  refine (show _ = after 7 t y from rfl).trans (h.trans ?_)
  have he : (win0_7.blk t).view.emb y = ValueIdx.ix3 (⟨512 * (t.val / 4) + (y 0).val, by omega⟩ : Fin 1024) (⟨8 * (t.val % 4) + (y 1).val, by omega⟩ : Fin 32) (⟨(y 2).val, h2⟩ : Fin 514) := by
    blk_ext [idx t]
  rw [he]
  unfold tokArr tokBlk
  rw [← gst_add]
  congr 2
  · congr 1
    apply Fin.ext; show (qOf t.val).val = (512 * (t.val / 4) + (y 0).val) / 512; rw [← qOf_val t.val ht]; omega
  · congr 1
    apply Fin.ext; show (y 0).val = (512 * (t.val / 4) + (y 0).val) % 512; omega
end

/-- What the program does: the arguments end unchanged, the counters are back at zero, and the results are the arrays of
    symbols, tokens and probabilities. -/
theorem run_values : θ_run defs (onTc (τ := τ) (main (F := F))) (s₀ m ρ) (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.mem ((c.tc : Thread nD τ).loc main_v12_0) = symArr m c
      ∧ r.2.mem ((c.tc : Thread nD τ).loc main_v12_1) = tokArr m c
      ∧ r.2.mem ((c.tc : Thread nD τ).loc main_v12_2) = probArr m c) ∧ r.2.sem = fun _ => 0) :=
  (θ_run defs _ _).mono (fun r h => ⟨fun c => ⟨args_of m r h.1 c, by
      obtain ⟨after, hL, hA⟩ := Pipeline.RDat.FramePost.exists_exact h.1 c
      exact ⟨(hA 6).trans (final_sym m c after hL), (hA 7).trans (final_tok m c after hL), (hA 8).trans (final_prob m c after hL)⟩⟩, h.2⟩)
    (run_known m ρ)

end Cert.KernelIdeal.Gen

end
-- ==== Proof.RI.Ops.lean ====
module

public import proofs.«01_k».proof.Proof.Gen.ReferenceIdeal
public import Idealize.ShloMosaic.Lib.StableHlo.RunLoop
public import Idealize.ShloMosaic.Lib.Pipeline.Regions

@[expose] public section

set_option maxRecDepth 16384

noncomputable section

namespace Cert.ReferenceIdeal.Gen

open Idealize.ShloMosaic Idealize.ShloMosaic.TcCoe Idealize.ShloMosaic.StableHlo
open Idealize.SL Idealize.SL.Sem

variable {F : FTy → Type} [FloatOps F]

/-! The reference's host operations, stretch by stretch. -/

/-- The stretch `bProj`: the two gate products with their biases, @main's loop body. -/
abbrev bProj : List (HloOp τ sig (Elt F)) :=
  [StableHlo.unary main_v13_0 main_while0b_v41 ((extractStridedSlice S1x768 ![0, 0] · slices_S2x768_S1x768_0_0) : (⟨S2x768, .f32⟩ : BufTy).Contents (Elt F) → (⟨S1x768, .f32⟩ : BufTy).Contents (Elt F)),
   StableHlo.reshape main_while0b_v41 main_while0b_v42 (rfl : (.f32 : EltTy) = .f32) shapeCasts_S1x768_S768,
   StableHlo.unary main_v13_0 main_while0b_v43 ((extractStridedSlice S1x768 ![1, 0] · slices_S2x768_S1x768_1_0) : (⟨S2x768, .f32⟩ : BufTy).Contents (Elt F) → (⟨S1x768, .f32⟩ : BufTy).Contents (Elt F)),
   StableHlo.reshape main_while0b_v43 main_while0b_v44 (rfl : (.f32 : EltTy) = .f32) shapeCasts_S1x768_S768,
   StableHlo.binary main_v13_7 main_v13_1 main_while0b_v45 ((fun l r => Host.dotGeneral dot_S1024x514_S514x768_S1024x768_1_0_0_1_n_n none l r) : (⟨S1024x514, .f32⟩ : BufTy).Contents (Elt F) → (⟨S514x768, .f32⟩ : BufTy).Contents (Elt F) → (⟨S1024x768, .f32⟩ : BufTy).Contents (Elt F)),
   StableHlo.unary main_while0b_v42 main_while0b_v46 (broadcastInDim S1x768 ![1] bcast_S768_S1x768_1 : (⟨S768, .f32⟩ : BufTy).Contents (Elt F) → (⟨S1x768, .f32⟩ : BufTy).Contents (Elt F)),
   StableHlo.unary main_while0b_v46 main_while0b_v47 (broadcastInDim S1024x768 ![0, 1] bcast_S1x768_S1024x768_0_1 : (⟨S1x768, .f32⟩ : BufTy).Contents (Elt F) → (⟨S1024x768, .f32⟩ : BufTy).Contents (Elt F)),
   StableHlo.binary main_while0b_v45 main_while0b_v47 main_while0b_v48 (addf : (⟨S1024x768, .f32⟩ : BufTy).Contents (Elt F) → (⟨S1024x768, .f32⟩ : BufTy).Contents (Elt F) → (⟨S1024x768, .f32⟩ : BufTy).Contents (Elt F)),
   StableHlo.binary main_v13_6 main_v13_2 main_while0b_v49 ((fun l r => Host.dotGeneral dot_S1024x256_S256x768_S1024x768_1_0_0_1_n_n none l r) : (⟨S1024x256, .f32⟩ : BufTy).Contents (Elt F) → (⟨S256x768, .f32⟩ : BufTy).Contents (Elt F) → (⟨S1024x768, .f32⟩ : BufTy).Contents (Elt F)),
   StableHlo.unary main_while0b_v44 main_while0b_v50 (broadcastInDim S1x768 ![1] bcast_S768_S1x768_1 : (⟨S768, .f32⟩ : BufTy).Contents (Elt F) → (⟨S1x768, .f32⟩ : BufTy).Contents (Elt F)),
   StableHlo.unary main_while0b_v50 main_while0b_v51 (broadcastInDim S1024x768 ![0, 1] bcast_S1x768_S1024x768_0_1 : (⟨S1x768, .f32⟩ : BufTy).Contents (Elt F) → (⟨S1024x768, .f32⟩ : BufTy).Contents (Elt F)),
   StableHlo.binary main_while0b_v49 main_while0b_v51 main_while0b_v52 (addf : (⟨S1024x768, .f32⟩ : BufTy).Contents (Elt F) → (⟨S1024x768, .f32⟩ : BufTy).Contents (Elt F) → (⟨S1024x768, .f32⟩ : BufTy).Contents (Elt F))]

theorem bProj_sub : (bProj (F := F)).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., binary_bufs_sub .., unary_bufs_sub .., unary_bufs_sub .., binary_bufs_sub ..⟩

/-- The stretch `bGate`: the two gates. -/
abbrev bGate : List (HloOp τ sig (Elt F)) :=
  [StableHlo.unary main_while0b_v48 main_while0b_v53 ((extractStridedSlice S1024x256 ![0, 0] · slices_S1024x768_S1024x256_0_0) : (⟨S1024x768, .f32⟩ : BufTy).Contents (Elt F) → (⟨S1024x256, .f32⟩ : BufTy).Contents (Elt F)),
   StableHlo.unary main_while0b_v48 main_while0b_v54 ((extractStridedSlice S1024x256 ![0, 256] · slices_S1024x768_S1024x256_0_256) : (⟨S1024x768, .f32⟩ : BufTy).Contents (Elt F) → (⟨S1024x256, .f32⟩ : BufTy).Contents (Elt F)),
   StableHlo.unary main_while0b_v48 main_while0b_v55 ((extractStridedSlice S1024x256 ![0, 512] · slices_S1024x768_S1024x256_0_512) : (⟨S1024x768, .f32⟩ : BufTy).Contents (Elt F) → (⟨S1024x256, .f32⟩ : BufTy).Contents (Elt F)),
   StableHlo.unary main_while0b_v52 main_while0b_v56 ((extractStridedSlice S1024x256 ![0, 0] · slices_S1024x768_S1024x256_0_0) : (⟨S1024x768, .f32⟩ : BufTy).Contents (Elt F) → (⟨S1024x256, .f32⟩ : BufTy).Contents (Elt F)),
   StableHlo.unary main_while0b_v52 main_while0b_v57 ((extractStridedSlice S1024x256 ![0, 256] · slices_S1024x768_S1024x256_0_256) : (⟨S1024x768, .f32⟩ : BufTy).Contents (Elt F) → (⟨S1024x256, .f32⟩ : BufTy).Contents (Elt F)),
   StableHlo.unary main_while0b_v52 main_while0b_v58 ((extractStridedSlice S1024x256 ![0, 512] · slices_S1024x768_S1024x256_0_512) : (⟨S1024x768, .f32⟩ : BufTy).Contents (Elt F) → (⟨S1024x256, .f32⟩ : BufTy).Contents (Elt F)),
   StableHlo.binary main_while0b_v53 main_while0b_v56 main_while0b_v59 (addf : (⟨S1024x256, .f32⟩ : BufTy).Contents (Elt F) → (⟨S1024x256, .f32⟩ : BufTy).Contents (Elt F) → (⟨S1024x256, .f32⟩ : BufTy).Contents (Elt F)),
   StableHlo.unary main_while0b_v59 main_while0b_v60 (Host.negf : (⟨S1024x256, .f32⟩ : BufTy).Contents (Elt F) → (⟨S1024x256, .f32⟩ : BufTy).Contents (Elt F)),
   StableHlo.unary main_while0b_v60 main_while0b_v61 (Host.exp : (⟨S1024x256, .f32⟩ : BufTy).Contents (Elt F) → (⟨S1024x256, .f32⟩ : BufTy).Contents (Elt F)),
   StableHlo.nullary main_while0b_cst_15 (constant (F := F) S_ .f32 0x3F800000#32),
   StableHlo.unary main_while0b_cst_15 main_while0b_v62 (broadcastInDim S1024x256 ![] bcast_S_S1024x256 : (⟨S_, .f32⟩ : BufTy).Contents (Elt F) → (⟨S1024x256, .f32⟩ : BufTy).Contents (Elt F)),
   StableHlo.binary main_while0b_v62 main_while0b_v61 main_while0b_v63 (addf : (⟨S1024x256, .f32⟩ : BufTy).Contents (Elt F) → (⟨S1024x256, .f32⟩ : BufTy).Contents (Elt F) → (⟨S1024x256, .f32⟩ : BufTy).Contents (Elt F)),
   StableHlo.nullary main_while0b_cst_16 (constant (F := F) S_ .f32 0x3F800000#32),
   StableHlo.unary main_while0b_cst_16 main_while0b_v64 (broadcastInDim S1024x256 ![] bcast_S_S1024x256 : (⟨S_, .f32⟩ : BufTy).Contents (Elt F) → (⟨S1024x256, .f32⟩ : BufTy).Contents (Elt F)),
   StableHlo.binary main_while0b_v64 main_while0b_v63 main_while0b_v65 (Host.divf : (⟨S1024x256, .f32⟩ : BufTy).Contents (Elt F) → (⟨S1024x256, .f32⟩ : BufTy).Contents (Elt F) → (⟨S1024x256, .f32⟩ : BufTy).Contents (Elt F)),
   StableHlo.binary main_while0b_v54 main_while0b_v57 main_while0b_v66 (addf : (⟨S1024x256, .f32⟩ : BufTy).Contents (Elt F) → (⟨S1024x256, .f32⟩ : BufTy).Contents (Elt F) → (⟨S1024x256, .f32⟩ : BufTy).Contents (Elt F)),
   StableHlo.unary main_while0b_v66 main_while0b_v67 (Host.negf : (⟨S1024x256, .f32⟩ : BufTy).Contents (Elt F) → (⟨S1024x256, .f32⟩ : BufTy).Contents (Elt F)),
   StableHlo.unary main_while0b_v67 main_while0b_v68 (Host.exp : (⟨S1024x256, .f32⟩ : BufTy).Contents (Elt F) → (⟨S1024x256, .f32⟩ : BufTy).Contents (Elt F)),
   StableHlo.nullary main_while0b_cst_17 (constant (F := F) S_ .f32 0x3F800000#32),
   StableHlo.unary main_while0b_cst_17 main_while0b_v69 (broadcastInDim S1024x256 ![] bcast_S_S1024x256 : (⟨S_, .f32⟩ : BufTy).Contents (Elt F) → (⟨S1024x256, .f32⟩ : BufTy).Contents (Elt F)),
   StableHlo.binary main_while0b_v69 main_while0b_v68 main_while0b_v70 (addf : (⟨S1024x256, .f32⟩ : BufTy).Contents (Elt F) → (⟨S1024x256, .f32⟩ : BufTy).Contents (Elt F) → (⟨S1024x256, .f32⟩ : BufTy).Contents (Elt F)),
   StableHlo.nullary main_while0b_cst_18 (constant (F := F) S_ .f32 0x3F800000#32),
   StableHlo.unary main_while0b_cst_18 main_while0b_v71 (broadcastInDim S1024x256 ![] bcast_S_S1024x256 : (⟨S_, .f32⟩ : BufTy).Contents (Elt F) → (⟨S1024x256, .f32⟩ : BufTy).Contents (Elt F)),
   StableHlo.binary main_while0b_v71 main_while0b_v70 main_while0b_v72 (Host.divf : (⟨S1024x256, .f32⟩ : BufTy).Contents (Elt F) → (⟨S1024x256, .f32⟩ : BufTy).Contents (Elt F) → (⟨S1024x256, .f32⟩ : BufTy).Contents (Elt F))]

theorem bGate_sub : (bGate (F := F)).Forall fun op => op.bufs ⊆ tcRefs τ sig :=
  ⟨unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub ..⟩

/-- The stretch `bCell`: the new state. -/
abbrev bCell : List (HloOp τ sig (Elt F)) :=
  [StableHlo.binary main_while0b_v72 main_while0b_v58 main_while0b_v73 (mulf : (⟨S1024x256, .f32⟩ : BufTy).Contents (Elt F) → (⟨S1024x256, .f32⟩ : BufTy).Contents (Elt F) → (⟨S1024x256, .f32⟩ : BufTy).Contents (Elt F)),
   StableHlo.binary main_while0b_v55 main_while0b_v73 main_while0b_v74 (addf : (⟨S1024x256, .f32⟩ : BufTy).Contents (Elt F) → (⟨S1024x256, .f32⟩ : BufTy).Contents (Elt F) → (⟨S1024x256, .f32⟩ : BufTy).Contents (Elt F)),
   StableHlo.unary main_while0b_v74 main_while0b_v75 (Host.tanh : (⟨S1024x256, .f32⟩ : BufTy).Contents (Elt F) → (⟨S1024x256, .f32⟩ : BufTy).Contents (Elt F)),
   StableHlo.binary main_while0b_v65 main_v13_6 main_while0b_v76 (mulf : (⟨S1024x256, .f32⟩ : BufTy).Contents (Elt F) → (⟨S1024x256, .f32⟩ : BufTy).Contents (Elt F) → (⟨S1024x256, .f32⟩ : BufTy).Contents (Elt F)),
   StableHlo.nullary main_while0b_cst_19 (constant (F := F) S_ .f32 0x3F800000#32),
   StableHlo.unary main_while0b_cst_19 main_while0b_v77 (broadcastInDim S1024x256 ![] bcast_S_S1024x256 : (⟨S_, .f32⟩ : BufTy).Contents (Elt F) → (⟨S1024x256, .f32⟩ : BufTy).Contents (Elt F)),
   StableHlo.binary main_while0b_v77 main_while0b_v65 main_while0b_v78 (subf : (⟨S1024x256, .f32⟩ : BufTy).Contents (Elt F) → (⟨S1024x256, .f32⟩ : BufTy).Contents (Elt F) → (⟨S1024x256, .f32⟩ : BufTy).Contents (Elt F)),
   StableHlo.binary main_while0b_v78 main_while0b_v75 main_while0b_v79 (mulf : (⟨S1024x256, .f32⟩ : BufTy).Contents (Elt F) → (⟨S1024x256, .f32⟩ : BufTy).Contents (Elt F) → (⟨S1024x256, .f32⟩ : BufTy).Contents (Elt F)),
   StableHlo.binary main_while0b_v76 main_while0b_v79 main_while0b_v80 (addf : (⟨S1024x256, .f32⟩ : BufTy).Contents (Elt F) → (⟨S1024x256, .f32⟩ : BufTy).Contents (Elt F) → (⟨S1024x256, .f32⟩ : BufTy).Contents (Elt F))]

theorem bCell_sub : (bCell (F := F)).Forall fun op => op.bufs ⊆ tcRefs τ sig :=
  ⟨binary_bufs_sub .., binary_bufs_sub .., unary_bufs_sub .., binary_bufs_sub .., nullary_bufs_sub .., unary_bufs_sub .., binary_bufs_sub .., binary_bufs_sub .., binary_bufs_sub ..⟩

/-- The stretch `bLog`: the scores, their maximum, the exponentials and their sum. -/
abbrev bLog : List (HloOp τ sig (Elt F)) :=
  [StableHlo.binary main_while0b_v80 main_v13_3 main_while0b_v81 ((fun l r => Host.dotGeneral dot_S1024x256_S256x513_S1024x513_1_0_0_1_n_n none l r) : (⟨S1024x256, .f32⟩ : BufTy).Contents (Elt F) → (⟨S256x513, .f32⟩ : BufTy).Contents (Elt F) → (⟨S1024x513, .f32⟩ : BufTy).Contents (Elt F)),
   StableHlo.unary main_v13_4 main_while0b_v82 (broadcastInDim S1x513 ![1] bcast_S513_S1x513_1 : (⟨S513, .f32⟩ : BufTy).Contents (Elt F) → (⟨S1x513, .f32⟩ : BufTy).Contents (Elt F)),
   StableHlo.unary main_while0b_v82 main_while0b_v83 (broadcastInDim S1024x513 ![0, 1] bcast_S1x513_S1024x513_0_1 : (⟨S1x513, .f32⟩ : BufTy).Contents (Elt F) → (⟨S1024x513, .f32⟩ : BufTy).Contents (Elt F)),
   StableHlo.binary main_while0b_v81 main_while0b_v83 main_while0b_v84 (addf : (⟨S1024x513, .f32⟩ : BufTy).Contents (Elt F) → (⟨S1024x513, .f32⟩ : BufTy).Contents (Elt F) → (⟨S1024x513, .f32⟩ : BufTy).Contents (Elt F)),
   StableHlo.nullary main_while0b_cst_20 (constant (F := F) S_ .f32 0xFF800000#32),
   StableHlo.binary main_while0b_v84 main_while0b_cst_20 main_while0b_v85 ((fun x v => Host.reduce FloatOps.maximumf x v reducesTo_S1024x513_S1024_d1 h_S_) : (⟨S1024x513, .f32⟩ : BufTy).Contents (Elt F) → (⟨S_, .f32⟩ : BufTy).Contents (Elt F) → (⟨S1024, .f32⟩ : BufTy).Contents (Elt F)),
   StableHlo.nullary main_while0b_cst_21 (constant (F := F) S_ .f32 0xFF800000#32),
   StableHlo.unary main_while0b_cst_21 main_while0b_v86 (broadcastInDim S1024 ![] bcast_S_S1024 : (⟨S_, .f32⟩ : BufTy).Contents (Elt F) → (⟨S1024, .f32⟩ : BufTy).Contents (Elt F)),
   StableHlo.binary main_while0b_v86 main_while0b_v85 main_while0b_v87 (maximumf : (⟨S1024, .f32⟩ : BufTy).Contents (Elt F) → (⟨S1024, .f32⟩ : BufTy).Contents (Elt F) → (⟨S1024, .f32⟩ : BufTy).Contents (Elt F)),
   StableHlo.unary main_while0b_v87 main_while0b_v88 (broadcastInDim S1024x1 ![0] bcast_S1024_S1024x1_0 : (⟨S1024, .f32⟩ : BufTy).Contents (Elt F) → (⟨S1024x1, .f32⟩ : BufTy).Contents (Elt F)),
   StableHlo.unary main_while0b_v88 main_while0b_v89 (broadcastInDim S1024x513 ![0, 1] bcast_S1024x1_S1024x513_0_1 : (⟨S1024x1, .f32⟩ : BufTy).Contents (Elt F) → (⟨S1024x513, .f32⟩ : BufTy).Contents (Elt F)),
   StableHlo.binary main_while0b_v84 main_while0b_v89 main_while0b_v90 (subf : (⟨S1024x513, .f32⟩ : BufTy).Contents (Elt F) → (⟨S1024x513, .f32⟩ : BufTy).Contents (Elt F) → (⟨S1024x513, .f32⟩ : BufTy).Contents (Elt F)),
   StableHlo.unary main_while0b_v90 main_while0b_v91 (Host.exp : (⟨S1024x513, .f32⟩ : BufTy).Contents (Elt F) → (⟨S1024x513, .f32⟩ : BufTy).Contents (Elt F)),
   StableHlo.nullary main_while0b_cst_22 (constant (F := F) S_ .f32 0x00000000#32),
   StableHlo.binary main_while0b_v91 main_while0b_cst_22 main_while0b_v92 ((fun x v => Host.reduceAdd x v reducesTo_S1024x513_S1024_d1 h_S_) : (⟨S1024x513, .f32⟩ : BufTy).Contents (Elt F) → (⟨S_, .f32⟩ : BufTy).Contents (Elt F) → (⟨S1024, .f32⟩ : BufTy).Contents (Elt F))]

theorem bLog_sub : (bLog (F := F)).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub ..⟩

/-- The stretch `bSoft`: the probabilities. -/
abbrev bSoft : List (HloOp τ sig (Elt F)) :=
  [StableHlo.unary main_while0b_v92 main_while0b_v93 (broadcastInDim S1024x1 ![0] bcast_S1024_S1024x1_0 : (⟨S1024, .f32⟩ : BufTy).Contents (Elt F) → (⟨S1024x1, .f32⟩ : BufTy).Contents (Elt F)),
   StableHlo.unary main_while0b_v93 main_while0b_v94 (broadcastInDim S1024x513 ![0, 1] bcast_S1024x1_S1024x513_0_1 : (⟨S1024x1, .f32⟩ : BufTy).Contents (Elt F) → (⟨S1024x513, .f32⟩ : BufTy).Contents (Elt F)),
   StableHlo.binary main_while0b_v91 main_while0b_v94 main_while0b_v95 (Host.divf : (⟨S1024x513, .f32⟩ : BufTy).Contents (Elt F) → (⟨S1024x513, .f32⟩ : BufTy).Contents (Elt F) → (⟨S1024x513, .f32⟩ : BufTy).Contents (Elt F))]

theorem bSoft_sub : (bSoft (F := F)).Forall fun op => op.bufs ⊆ tcRefs τ sig :=
  ⟨unary_bufs_sub .., unary_bufs_sub .., binary_bufs_sub ..⟩

/-- The stretch `bArg`: the position of the largest probability. -/
abbrev bArg : List (HloOp τ sig (Elt F)) :=
  [StableHlo.TRef.nullary (.of main_while0b_call3_v0 : StableHlo.TRef sig ⟨S1024x513, .i32⟩) (iotaInDim S1024x513 32 1),
   StableHlo.TRef.nullary (.of main_while0b_call3_cst : StableHlo.TRef sig ⟨S_, .f32⟩) (constant (F := F) S_ .f32 0xFF800000#32),
   StableHlo.TRef.nullary (.of main_while0b_call3_c : StableHlo.TRef sig ⟨S_, .i32⟩) (constantI S_ 32 0#32),
   StableHlo.TRef.quaternary (.of main_while0b_v95 : StableHlo.TRef sig ⟨S1024x513, .f32⟩) (.of main_while0b_call3_v0 : StableHlo.TRef sig ⟨S1024x513, .i32⟩) (.of main_while0b_call3_cst : StableHlo.TRef sig ⟨S_, .f32⟩) (.of main_while0b_call3_c : StableHlo.TRef sig ⟨S_, .i32⟩) (.of main_while0b_call3_v1_0 : StableHlo.TRef sig ⟨S1024, .f32⟩) (fun x y u v j => (Host.argReduce reducer_argmax_f32_i32 x y u v reducesTo_S1024x513_S1024_d1 h_S_ j).1),
   StableHlo.TRef.quaternary (.of main_while0b_v95 : StableHlo.TRef sig ⟨S1024x513, .f32⟩) (.of main_while0b_call3_v0 : StableHlo.TRef sig ⟨S1024x513, .i32⟩) (.of main_while0b_call3_cst : StableHlo.TRef sig ⟨S_, .f32⟩) (.of main_while0b_call3_c : StableHlo.TRef sig ⟨S_, .i32⟩) (.of main_while0b_v96 : StableHlo.TRef sig ⟨S1024, .i32⟩) (fun x y u v j => (Host.argReduce reducer_argmax_f32_i32 x y u v reducesTo_S1024x513_S1024_d1 h_S_ j).2)]

theorem bArg_sub : (bArg (F := F)).Forall fun op => op.bufs ⊆ tcRefs τ sig :=
  ⟨nullary_bufs_sub .., nullary_bufs_sub .., nullary_bufs_sub .., quaternary_bufs_sub .., quaternary_bufs_sub ..⟩

/-- The stretch `bHot`: its one-hot row. -/
abbrev bHot : List (HloOp τ sig (Elt F)) :=
  [StableHlo.TRef.unary (.of main_while0b_v96 : StableHlo.TRef sig ⟨S1024, .i32⟩) (.of main_while0b_call4_v0 : StableHlo.TRef sig ⟨S1024x1, .i32⟩) (broadcastInDim S1024x1 ![0] bcast_S1024_S1024x1_0),
   StableHlo.TRef.nullary (.of main_while0b_call4_v1 : StableHlo.TRef sig ⟨S1x514, .i32⟩) (iotaInDim S1x514 32 1),
   StableHlo.TRef.unary (.of main_while0b_call4_v0 : StableHlo.TRef sig ⟨S1024x1, .i32⟩) (.of main_while0b_call4_v2 : StableHlo.TRef sig ⟨S1024x514, .i32⟩) (broadcastInDim S1024x514 ![0, 1] bcast_S1024x1_S1024x514_0_1),
   StableHlo.TRef.unary (.of main_while0b_call4_v1 : StableHlo.TRef sig ⟨S1x514, .i32⟩) (.of main_while0b_call4_v3 : StableHlo.TRef sig ⟨S1024x514, .i32⟩) (broadcastInDim S1024x514 ![0, 1] bcast_S1x514_S1024x514_0_1),
   StableHlo.TRef.binary (.of main_while0b_call4_v2 : StableHlo.TRef sig ⟨S1024x514, .i32⟩) (.of main_while0b_call4_v3 : StableHlo.TRef sig ⟨S1024x514, .i32⟩) (.of main_while0b_call4_v4 : StableHlo.TRef sig ⟨S1024x514, .i1⟩) (cmpi .eq),
   StableHlo.TRef.unary (.of main_while0b_call4_v4 : StableHlo.TRef sig ⟨S1024x514, .i1⟩) (.of main_while0b_v97 : StableHlo.TRef sig ⟨S1024x514, .f32⟩) (uitofp .f32)]

theorem bHot_sub : (bHot (F := F)).Forall fun op => op.bufs ⊆ tcRefs τ sig :=
  ⟨unary_bufs_sub .., nullary_bufs_sub .., unary_bufs_sub .., unary_bufs_sub .., binary_bufs_sub .., unary_bufs_sub ..⟩

/-- The stretch `bTok`: the one-hot rows written into the tokens. -/
abbrev bTok : List (HloOp τ sig (Elt F)) :=
  [StableHlo.TRef.unary (.of main_while0b_v97 : StableHlo.TRef sig ⟨S1024x514, .f32⟩) (.of main_while0b_call5_v0 : StableHlo.TRef sig ⟨S1x1024x514, .f32⟩) (broadcastInDim S1x1024x514 ![1, 2] bcast_S1024x514_S1x1024x514_1_2),
   StableHlo.TRef.nullary (.of main_while0b_call5_c : StableHlo.TRef sig ⟨S_, .i32⟩) (constantI S_ 32 0#32),
   StableHlo.TRef.nullary (.of main_while0b_call5_c_0 : StableHlo.TRef sig ⟨S_, .i32⟩) (constantI S_ 32 0#32),
   StableHlo.TRef.binaryIndexed (.of main_v13_8 : StableHlo.TRef sig ⟨S32x1024x514, .f32⟩) (.of main_while0b_call5_v0 : StableHlo.TRef sig ⟨S1x1024x514, .f32⟩) ![(.of main_v13_5 : StableHlo.TRef sig ⟨S_, .i32⟩), (.of main_while0b_call5_c : StableHlo.TRef sig ⟨S_, .i32⟩), (.of main_while0b_call5_c_0 : StableHlo.TRef sig ⟨S_, .i32⟩)] (.of main_while0b_v98 : StableHlo.TRef sig ⟨S32x1024x514, .f32⟩) (fun x u i => Host.dynamicUpdateSlice x u (fun k => (i k (Shape.Idx.first h_S_)).toInt) updateFits_S32x1024x514_S1x1024x514)]

theorem bTok_sub : (bTok (F := F)).Forall fun op => op.bufs ⊆ tcRefs τ sig :=
  ⟨unary_bufs_sub .., nullary_bufs_sub .., nullary_bufs_sub .., binaryIndexed_bufs_sub ..⟩

/-- The stretch `bProb`: the probabilities written into the record. -/
abbrev bProb : List (HloOp τ sig (Elt F)) :=
  [StableHlo.TRef.unary (.of main_while0b_v95 : StableHlo.TRef sig ⟨S1024x513, .f32⟩) (.of main_while0b_call6_v0 : StableHlo.TRef sig ⟨S1x1024x513, .f32⟩) (broadcastInDim S1x1024x513 ![1, 2] bcast_S1024x513_S1x1024x513_1_2),
   StableHlo.TRef.nullary (.of main_while0b_call6_c : StableHlo.TRef sig ⟨S_, .i32⟩) (constantI S_ 32 0#32),
   StableHlo.TRef.nullary (.of main_while0b_call6_c_0 : StableHlo.TRef sig ⟨S_, .i32⟩) (constantI S_ 32 0#32),
   StableHlo.TRef.binaryIndexed (.of main_v13_9 : StableHlo.TRef sig ⟨S32x1024x513, .f32⟩) (.of main_while0b_call6_v0 : StableHlo.TRef sig ⟨S1x1024x513, .f32⟩) ![(.of main_v13_5 : StableHlo.TRef sig ⟨S_, .i32⟩), (.of main_while0b_call6_c : StableHlo.TRef sig ⟨S_, .i32⟩), (.of main_while0b_call6_c_0 : StableHlo.TRef sig ⟨S_, .i32⟩)] (.of main_while0b_v99 : StableHlo.TRef sig ⟨S32x1024x513, .f32⟩) (fun x u i => Host.dynamicUpdateSlice x u (fun k => (i k (Shape.Idx.first h_S_)).toInt) updateFits_S32x1024x513_S1x1024x513)]

theorem bProb_sub : (bProb (F := F)).Forall fun op => op.bufs ⊆ tcRefs τ sig :=
  ⟨unary_bufs_sub .., nullary_bufs_sub .., nullary_bufs_sub .., binaryIndexed_bufs_sub ..⟩

/-- The stretch `bBack`: the counter and the carried values. -/
abbrev bBack : List (HloOp τ sig (Elt F)) :=
  [StableHlo.nullary main_while0b_c_23 (constantI S_ 32 1#32),
   StableHlo.binary main_v13_5 main_while0b_c_23 main_while0b_v100 (addi : (⟨S_, .i32⟩ : BufTy).Contents (Elt F) → (⟨S_, .i32⟩ : BufTy).Contents (Elt F) → (⟨S_, .i32⟩ : BufTy).Contents (Elt F)),
   StableHlo.unary main_while0b_v100 main_v13_5 id,
   StableHlo.unary main_while0b_v80 main_v13_6 id,
   StableHlo.unary main_while0b_v97 main_v13_7 id,
   StableHlo.unary main_while0b_v98 main_v13_8 id,
   StableHlo.unary main_while0b_v99 main_v13_9 id]

theorem bBack_sub : (bBack (F := F)).Forall fun op => op.bufs ⊆ tcRefs τ sig :=
  ⟨nullary_bufs_sub .., binary_bufs_sub .., unary_bufs_sub .., unary_bufs_sub .., unary_bufs_sub .., unary_bufs_sub .., unary_bufs_sub ..⟩

/-- The stretch `pProj`: the embedding product. -/
abbrev pProj : List (HloOp τ sig (Elt F)) :=
  [StableHlo.binary main_arg0 main_arg1 main_v0 ((fun l r => Host.dotGeneral dot_S1024x256_S256x256_S1024x256_1_0_0_1_n_n none l r) : (⟨S1024x256, .f32⟩ : BufTy).Contents (Elt F) → (⟨S256x256, .f32⟩ : BufTy).Contents (Elt F) → (⟨S1024x256, .f32⟩ : BufTy).Contents (Elt F)),
   StableHlo.unary main_arg2 main_v1 (broadcastInDim S1x256 ![1] bcast_S256_S1x256_1 : (⟨S256, .f32⟩ : BufTy).Contents (Elt F) → (⟨S1x256, .f32⟩ : BufTy).Contents (Elt F)),
   StableHlo.unary main_v1 main_v2 (broadcastInDim S1024x256 ![0, 1] bcast_S1x256_S1024x256_0_1 : (⟨S1x256, .f32⟩ : BufTy).Contents (Elt F) → (⟨S1024x256, .f32⟩ : BufTy).Contents (Elt F)),
   StableHlo.binary main_v0 main_v2 main_v3 (addf : (⟨S1024x256, .f32⟩ : BufTy).Contents (Elt F) → (⟨S1024x256, .f32⟩ : BufTy).Contents (Elt F) → (⟨S1024x256, .f32⟩ : BufTy).Contents (Elt F))]

theorem pProj_sub : (pProj (F := F)).Forall fun op => op.bufs ⊆ tcRefs τ sig :=
  ⟨binary_bufs_sub .., unary_bufs_sub .., unary_bufs_sub .., binary_bufs_sub ..⟩

/-- The stretch `pSilu`: its activation. -/
abbrev pSilu : List (HloOp τ sig (Elt F)) :=
  [StableHlo.TRef.unary (.of main_v3 : StableHlo.TRef sig ⟨S1024x256, .f32⟩) (.of main_call0_v0 : StableHlo.TRef sig ⟨S1024x256, .f32⟩) Host.negf,
   StableHlo.TRef.unary (.of main_call0_v0 : StableHlo.TRef sig ⟨S1024x256, .f32⟩) (.of main_call0_v1 : StableHlo.TRef sig ⟨S1024x256, .f32⟩) Host.exp,
   StableHlo.TRef.nullary (.of main_call0_cst : StableHlo.TRef sig ⟨S_, .f32⟩) (constant (F := F) S_ .f32 0x3F800000#32),
   StableHlo.TRef.unary (.of main_call0_cst : StableHlo.TRef sig ⟨S_, .f32⟩) (.of main_call0_v2 : StableHlo.TRef sig ⟨S1024x256, .f32⟩) (broadcastInDim S1024x256 ![] bcast_S_S1024x256),
   StableHlo.TRef.binary (.of main_call0_v2 : StableHlo.TRef sig ⟨S1024x256, .f32⟩) (.of main_call0_v1 : StableHlo.TRef sig ⟨S1024x256, .f32⟩) (.of main_call0_v3 : StableHlo.TRef sig ⟨S1024x256, .f32⟩) addf,
   StableHlo.TRef.nullary (.of main_call0_cst_0 : StableHlo.TRef sig ⟨S_, .f32⟩) (constant (F := F) S_ .f32 0x3F800000#32),
   StableHlo.TRef.unary (.of main_call0_cst_0 : StableHlo.TRef sig ⟨S_, .f32⟩) (.of main_call0_v4 : StableHlo.TRef sig ⟨S1024x256, .f32⟩) (broadcastInDim S1024x256 ![] bcast_S_S1024x256),
   StableHlo.TRef.binary (.of main_call0_v4 : StableHlo.TRef sig ⟨S1024x256, .f32⟩) (.of main_call0_v3 : StableHlo.TRef sig ⟨S1024x256, .f32⟩) (.of main_call0_v5 : StableHlo.TRef sig ⟨S1024x256, .f32⟩) Host.divf,
   StableHlo.TRef.binary (.of main_v3 : StableHlo.TRef sig ⟨S1024x256, .f32⟩) (.of main_call0_v5 : StableHlo.TRef sig ⟨S1024x256, .f32⟩) (.of main_v4 : StableHlo.TRef sig ⟨S1024x256, .f32⟩) mulf]

theorem pSilu_sub : (pSilu (F := F)).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., binary_bufs_sub ..⟩

/-- The stretch `pEos`: the end symbol. -/
abbrev pEos : List (HloOp τ sig (Elt F)) :=
  [StableHlo.nullary main_c (constantI S_ 32 513#32)]

theorem pEos_sub : (pEos (F := F)).Forall fun op => op.bufs ⊆ tcRefs τ sig :=
  nullary_bufs_sub ..

/-- The stretch `pHotA`: its one-hot row. -/
abbrev pHotA : List (HloOp τ sig (Elt F)) :=
  [StableHlo.TRef.unary (.of main_c : StableHlo.TRef sig ⟨S_, .i32⟩) (.of main_call1_v0 : StableHlo.TRef sig ⟨S1, .i32⟩) (broadcastInDim S1 ![] bcast_S_S1),
   StableHlo.TRef.nullary (.of main_call1_v1 : StableHlo.TRef sig ⟨S514, .i32⟩) (iotaInDim S514 32 0),
   StableHlo.TRef.unary (.of main_call1_v0 : StableHlo.TRef sig ⟨S1, .i32⟩) (.of main_call1_v2 : StableHlo.TRef sig ⟨S1, .i32⟩) id,
   StableHlo.TRef.unary (.of main_call1_v2 : StableHlo.TRef sig ⟨S1, .i32⟩) (.of main_call1_v3 : StableHlo.TRef sig ⟨S514, .i32⟩) (broadcastInDim S514 ![0] bcast_S1_S514_0),
   StableHlo.TRef.binary (.of main_call1_v3 : StableHlo.TRef sig ⟨S514, .i32⟩) (.of main_call1_v1 : StableHlo.TRef sig ⟨S514, .i32⟩) (.of main_call1_v4 : StableHlo.TRef sig ⟨S514, .i1⟩) (cmpi .eq),
   StableHlo.TRef.unary (.of main_call1_v4 : StableHlo.TRef sig ⟨S514, .i1⟩) (.of main_v5 : StableHlo.TRef sig ⟨S514, .f32⟩) (uitofp .f32)]

theorem pHotA_sub : (pHotA (F := F)).Forall fun op => op.bufs ⊆ tcRefs τ sig :=
  ⟨unary_bufs_sub .., nullary_bufs_sub .., unary_bufs_sub .., unary_bufs_sub .., binary_bufs_sub .., unary_bufs_sub ..⟩

/-- The stretch `pStart`: the start tokens. -/
abbrev pStart : List (HloOp τ sig (Elt F)) :=
  [StableHlo.unary main_v5 main_v6 (broadcastInDim S1x514 ![1] bcast_S514_S1x514_1 : (⟨S514, .f32⟩ : BufTy).Contents (Elt F) → (⟨S1x514, .f32⟩ : BufTy).Contents (Elt F)),
   StableHlo.reshape main_v6 main_v7 (rfl : (.f32 : EltTy) = .f32) shapeCasts_S1x514_S1x1x1x514,
   StableHlo.unary main_v7 main_v8 (broadcastInDim S1024x1x1x514 ![0, 1, 2, 3] bcast_S1x1x1x514_S1024x1x1x514_0_1_2_3 : (⟨S1x1x1x514, .f32⟩ : BufTy).Contents (Elt F) → (⟨S1024x1x1x514, .f32⟩ : BufTy).Contents (Elt F)),
   StableHlo.reshape main_v8 main_v9 (rfl : (.f32 : EltTy) = .f32) shapeCasts_S1024x1x1x514_S1024x514,
   StableHlo.nullary main_c_0 (constantI S_ 32 512#32)]

theorem pStart_sub : (pStart (F := F)).Forall fun op => op.bufs ⊆ tcRefs τ sig :=
  ⟨unary_bufs_sub .., reshape_bufs_sub .., unary_bufs_sub .., reshape_bufs_sub .., nullary_bufs_sub ..⟩

/-- The stretch `pHotB`: the end symbol's one-hot row. -/
abbrev pHotB : List (HloOp τ sig (Elt F)) :=
  [StableHlo.TRef.unary (.of main_c_0 : StableHlo.TRef sig ⟨S_, .i32⟩) (.of main_call2_v0 : StableHlo.TRef sig ⟨S1, .i32⟩) (broadcastInDim S1 ![] bcast_S_S1),
   StableHlo.TRef.nullary (.of main_call2_v1 : StableHlo.TRef sig ⟨S514, .i32⟩) (iotaInDim S514 32 0),
   StableHlo.TRef.unary (.of main_call2_v0 : StableHlo.TRef sig ⟨S1, .i32⟩) (.of main_call2_v2 : StableHlo.TRef sig ⟨S1, .i32⟩) id,
   StableHlo.TRef.unary (.of main_call2_v2 : StableHlo.TRef sig ⟨S1, .i32⟩) (.of main_call2_v3 : StableHlo.TRef sig ⟨S514, .i32⟩) (broadcastInDim S514 ![0] bcast_S1_S514_0),
   StableHlo.TRef.binary (.of main_call2_v3 : StableHlo.TRef sig ⟨S514, .i32⟩) (.of main_call2_v1 : StableHlo.TRef sig ⟨S514, .i32⟩) (.of main_call2_v4 : StableHlo.TRef sig ⟨S514, .i1⟩) (cmpi .eq),
   StableHlo.TRef.unary (.of main_call2_v4 : StableHlo.TRef sig ⟨S514, .i1⟩) (.of main_v10 : StableHlo.TRef sig ⟨S514, .f32⟩) (uitofp .f32)]

theorem pHotB_sub : (pHotB (F := F)).Forall fun op => op.bufs ⊆ tcRefs τ sig :=
  ⟨unary_bufs_sub .., nullary_bufs_sub .., unary_bufs_sub .., unary_bufs_sub .., binary_bufs_sub .., unary_bufs_sub ..⟩

/-- The stretch `pInit`: the carried values before the loop. -/
abbrev pInit : List (HloOp τ sig (Elt F)) :=
  [StableHlo.nullary main_cst (constant (F := F) S_ .f32 0x00000000#32),
   StableHlo.unary main_cst main_v11 (broadcastInDim S32x1024x514 ![] bcast_S_S32x1024x514 : (⟨S_, .f32⟩ : BufTy).Contents (Elt F) → (⟨S32x1024x514, .f32⟩ : BufTy).Contents (Elt F)),
   StableHlo.nullary main_cst_1 (constant (F := F) S_ .f32 0x00000000#32),
   StableHlo.unary main_cst_1 main_v12 (broadcastInDim S32x1024x513 ![] bcast_S_S32x1024x513 : (⟨S_, .f32⟩ : BufTy).Contents (Elt F) → (⟨S32x1024x513, .f32⟩ : BufTy).Contents (Elt F)),
   StableHlo.nullary main_c_2 (constantI S_ 32 0#32),
   StableHlo.unary main_arg5 main_v13_0 id,
   StableHlo.unary main_arg3 main_v13_1 id,
   StableHlo.unary main_arg4 main_v13_2 id,
   StableHlo.unary main_arg6 main_v13_3 id,
   StableHlo.unary main_arg7 main_v13_4 id,
   StableHlo.unary main_c_2 main_v13_5 id,
   StableHlo.unary main_v4 main_v13_6 id,
   StableHlo.unary main_v9 main_v13_7 id,
   StableHlo.unary main_v11 main_v13_8 id,
   StableHlo.unary main_v12 main_v13_9 id]

theorem pInit_sub : (pInit (F := F)).Forall fun op => op.bufs ⊆ tcRefs τ sig :=
  ⟨nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub ..⟩

/-- The stretch `qEnd`: the transposed records and the end test. -/
abbrev qEnd : List (HloOp τ sig (Elt F)) :=
  [StableHlo.unary main_v13_8 main_v14 ((transpose S1024x32x514 [1, 0, 2] · transposes_S32x1024x514_S1024x32x514_1_0_2) : (⟨S32x1024x514, .f32⟩ : BufTy).Contents (Elt F) → (⟨S1024x32x514, .f32⟩ : BufTy).Contents (Elt F)),
   StableHlo.unary main_v13_9 main_v15 ((transpose S1024x32x513 [1, 0, 2] · transposes_S32x1024x513_S1024x32x513_1_0_2) : (⟨S32x1024x513, .f32⟩ : BufTy).Contents (Elt F) → (⟨S1024x32x513, .f32⟩ : BufTy).Contents (Elt F)),
   StableHlo.unary main_v10 main_v16 (broadcastInDim S1x1x514 ![2] bcast_S514_S1x1x514_2 : (⟨S514, .f32⟩ : BufTy).Contents (Elt F) → (⟨S1x1x514, .f32⟩ : BufTy).Contents (Elt F)),
   StableHlo.unary main_v16 main_v17 (broadcastInDim S1024x32x514 ![0, 1, 2] bcast_S1x1x514_S1024x32x514_0_1_2 : (⟨S1x1x514, .f32⟩ : BufTy).Contents (Elt F) → (⟨S1024x32x514, .f32⟩ : BufTy).Contents (Elt F)),
   StableHlo.binary main_v14 main_v17 main_v18 (cmpf .oeq : (⟨S1024x32x514, .f32⟩ : BufTy).Contents (Elt F) → (⟨S1024x32x514, .f32⟩ : BufTy).Contents (Elt F) → (⟨S1024x32x514, .i1⟩ : BufTy).Contents (Elt F)),
   StableHlo.nullary main_c_3 (constantI S_ 1 1#1),
   StableHlo.binary main_v18 main_c_3 main_v19 ((fun x v => Host.reduce IntOp.andi x v reducesTo_S1024x32x514_S1024x32_d2 h_S_) : (⟨S1024x32x514, .i1⟩ : BufTy).Contents (Elt F) → (⟨S_, .i1⟩ : BufTy).Contents (Elt F) → (⟨S1024x32, .i1⟩ : BufTy).Contents (Elt F)),
   StableHlo.unary main_v19 main_v20 ((extui 32 · natLt_1_32) : (⟨S1024x32, .i1⟩ : BufTy).Contents (Elt F) → (⟨S1024x32, .i32⟩ : BufTy).Contents (Elt F))]

theorem qEnd_sub : (qEnd (F := F)).Forall fun op => op.bufs ⊆ tcRefs τ sig :=
  ⟨unary_bufs_sub .., unary_bufs_sub .., unary_bufs_sub .., unary_bufs_sub .., binary_bufs_sub .., nullary_bufs_sub .., binary_bufs_sub .., unary_bufs_sub ..⟩

/-- The stretch `qSum`: its running sum. -/
abbrev qSum : List (HloOp τ sig (Elt F)) :=
  [StableHlo.TRef.nullary (.of main_call7_call0_c : StableHlo.TRef sig ⟨S_, .i32⟩) (constantI S_ 32 0#32),
   StableHlo.TRef.unary (.of main_call7_call0_c : StableHlo.TRef sig ⟨S_, .i32⟩) (.of main_call7_call0_v0 : StableHlo.TRef sig ⟨S_, .i32⟩) (broadcastInDim S_ ![] bcast_S_S_),
   StableHlo.TRef.binary (.of main_v20 : StableHlo.TRef sig ⟨S1024x32, .i32⟩) (.of main_call7_call0_v0 : StableHlo.TRef sig ⟨S_, .i32⟩) (.of main_v21 : StableHlo.TRef sig ⟨S1024x32, .i32⟩) (fun x v => Host.reduceWindow IntOp.addi ![1, 32] ![1, 1] ![0, 31] ![0, 0] x v reduceWindows_S1024x32_S1024x32_w1s1p0_0_w32s1p31_0 h_S_)]

theorem qSum_sub : (qSum (F := F)).Forall fun op => op.bufs ⊆ tcRefs τ sig :=
  ⟨nullary_bufs_sub .., unary_bufs_sub .., binary_bufs_sub ..⟩

/-- The stretch `qFin`: the finished marks. -/
abbrev qFin : List (HloOp τ sig (Elt F)) :=
  [StableHlo.nullary main_c_4 (constantI S_ 32 0#32),
   StableHlo.unary main_c_4 main_v22 (broadcastInDim S1024x32 ![] bcast_S_S1024x32 : (⟨S_, .i32⟩ : BufTy).Contents (Elt F) → (⟨S1024x32, .i32⟩ : BufTy).Contents (Elt F)),
   StableHlo.binary main_v21 main_v22 main_v23 (cmpi .sgt : (⟨S1024x32, .i32⟩ : BufTy).Contents (Elt F) → (⟨S1024x32, .i32⟩ : BufTy).Contents (Elt F) → (⟨S1024x32, .i1⟩ : BufTy).Contents (Elt F)),
   StableHlo.nullary main_c_5 (constantI S_ 1 0#1),
   StableHlo.unary main_c_5 main_v24 (broadcastInDim S1024x1 ![] bcast_S_S1024x1 : (⟨S_, .i1⟩ : BufTy).Contents (Elt F) → (⟨S1024x1, .i1⟩ : BufTy).Contents (Elt F)),
   StableHlo.unary main_v23 main_v25 ((extractStridedSlice S1024x31 ![0, 0] · slices_S1024x32_S1024x31_0_0) : (⟨S1024x32, .i1⟩ : BufTy).Contents (Elt F) → (⟨S1024x31, .i1⟩ : BufTy).Contents (Elt F)),
   StableHlo.binary main_v24 main_v25 main_v26 ((fun a b => concatenate S1024x32 1 [⟨S1024x1, a⟩, ⟨S1024x31, b⟩] concatenates_S1024x1_S1024x31_S1024x32_d1) : (⟨S1024x1, .i1⟩ : BufTy).Contents (Elt F) → (⟨S1024x31, .i1⟩ : BufTy).Contents (Elt F) → (⟨S1024x32, .i1⟩ : BufTy).Contents (Elt F))]

theorem qFin_sub : (qFin (F := F)).Forall fun op => op.bufs ⊆ tcRefs τ sig :=
  ⟨nullary_bufs_sub .., unary_bufs_sub .., binary_bufs_sub .., nullary_bufs_sub .., unary_bufs_sub .., unary_bufs_sub .., binary_bufs_sub ..⟩

/-- The stretch `qArg`: the symbols. -/
abbrev qArg : List (HloOp τ sig (Elt F)) :=
  [StableHlo.TRef.nullary (.of main_call8_v0 : StableHlo.TRef sig ⟨S1024x32x514, .i32⟩) (iotaInDim S1024x32x514 32 2),
   StableHlo.TRef.nullary (.of main_call8_cst : StableHlo.TRef sig ⟨S_, .f32⟩) (constant (F := F) S_ .f32 0xFF800000#32),
   StableHlo.TRef.nullary (.of main_call8_c : StableHlo.TRef sig ⟨S_, .i32⟩) (constantI S_ 32 0#32),
   StableHlo.TRef.quaternary (.of main_v14 : StableHlo.TRef sig ⟨S1024x32x514, .f32⟩) (.of main_call8_v0 : StableHlo.TRef sig ⟨S1024x32x514, .i32⟩) (.of main_call8_cst : StableHlo.TRef sig ⟨S_, .f32⟩) (.of main_call8_c : StableHlo.TRef sig ⟨S_, .i32⟩) (.of main_call8_v1_0 : StableHlo.TRef sig ⟨S1024x32, .f32⟩) (fun x y u v j => (Host.argReduce reducer_argmax_f32_i32 x y u v reducesTo_S1024x32x514_S1024x32_d2 h_S_ j).1),
   StableHlo.TRef.quaternary (.of main_v14 : StableHlo.TRef sig ⟨S1024x32x514, .f32⟩) (.of main_call8_v0 : StableHlo.TRef sig ⟨S1024x32x514, .i32⟩) (.of main_call8_cst : StableHlo.TRef sig ⟨S_, .f32⟩) (.of main_call8_c : StableHlo.TRef sig ⟨S_, .i32⟩) (.of main_v27 : StableHlo.TRef sig ⟨S1024x32, .i32⟩) (fun x y u v j => (Host.argReduce reducer_argmax_f32_i32 x y u v reducesTo_S1024x32x514_S1024x32_d2 h_S_ j).2)]

theorem qArg_sub : (qArg (F := F)).Forall fun op => op.bufs ⊆ tcRefs τ sig :=
  ⟨nullary_bufs_sub .., nullary_bufs_sub .., nullary_bufs_sub .., quaternary_bufs_sub .., quaternary_bufs_sub ..⟩

/-- The stretch `qNot`: the kept marks. -/
abbrev qNot : List (HloOp τ sig (Elt F)) :=
  [StableHlo.unary main_v23 main_v28 (noti : (⟨S1024x32, .i1⟩ : BufTy).Contents (Elt F) → (⟨S1024x32, .i1⟩ : BufTy).Contents (Elt F)),
   StableHlo.unary main_v26 main_v29 (noti : (⟨S1024x32, .i1⟩ : BufTy).Contents (Elt F) → (⟨S1024x32, .i1⟩ : BufTy).Contents (Elt F)),
   StableHlo.unary main_v27 main_v30 (broadcastInDim S1024x32x1 ![0, 1] bcast_S1024x32_S1024x32x1_0_1 : (⟨S1024x32, .i32⟩ : BufTy).Contents (Elt F) → (⟨S1024x32x1, .i32⟩ : BufTy).Contents (Elt F))]

theorem qNot_sub : (qNot (F := F)).Forall fun op => op.bufs ⊆ tcRefs τ sig :=
  ⟨unary_bufs_sub .., unary_bufs_sub .., unary_bufs_sub ..⟩

/-- The stretch `qTake`: the probabilities at the symbols. -/
abbrev qTake : List (HloOp τ sig (Elt F)) :=
  [StableHlo.TRef.nullary (.of main_call9_c : StableHlo.TRef sig ⟨S_, .i32⟩) (constantI S_ 32 0#32),
   StableHlo.TRef.unary (.of main_call9_c : StableHlo.TRef sig ⟨S_, .i32⟩) (.of main_call9_v0 : StableHlo.TRef sig ⟨S1024x32x1, .i32⟩) (broadcastInDim S1024x32x1 ![] bcast_S_S1024x32x1),
   StableHlo.TRef.binary (.of main_v30 : StableHlo.TRef sig ⟨S1024x32x1, .i32⟩) (.of main_call9_v0 : StableHlo.TRef sig ⟨S1024x32x1, .i32⟩) (.of main_call9_v1 : StableHlo.TRef sig ⟨S1024x32x1, .i1⟩) (cmpi .slt),
   StableHlo.TRef.nullary (.of main_call9_c_0 : StableHlo.TRef sig ⟨S_, .i32⟩) (constantI S_ 32 513#32),
   StableHlo.TRef.unary (.of main_call9_c_0 : StableHlo.TRef sig ⟨S_, .i32⟩) (.of main_call9_v2 : StableHlo.TRef sig ⟨S1024x32x1, .i32⟩) (broadcastInDim S1024x32x1 ![] bcast_S_S1024x32x1),
   StableHlo.TRef.binary (.of main_v30 : StableHlo.TRef sig ⟨S1024x32x1, .i32⟩) (.of main_call9_v2 : StableHlo.TRef sig ⟨S1024x32x1, .i32⟩) (.of main_call9_v3 : StableHlo.TRef sig ⟨S1024x32x1, .i32⟩) addi,
   StableHlo.TRef.ternary (.of main_call9_v1 : StableHlo.TRef sig ⟨S1024x32x1, .i1⟩) (.of main_call9_v3 : StableHlo.TRef sig ⟨S1024x32x1, .i32⟩) (.of main_v30 : StableHlo.TRef sig ⟨S1024x32x1, .i32⟩) (.of main_call9_v4 : StableHlo.TRef sig ⟨S1024x32x1, .i32⟩) select,
   StableHlo.TRef.reshape (.of main_call9_v4 : StableHlo.TRef sig ⟨S1024x32x1, .i32⟩) (.of main_call9_v5 : StableHlo.TRef sig ⟨S1024x32x1x1, .i32⟩) (rfl : (.i32 : EltTy) = .i32) shapeCasts_S1024x32x1_S1024x32x1x1,
   StableHlo.TRef.nullary (.of main_call9_c_1 : StableHlo.TRef sig ⟨S1, .i32⟩) (constantI S1 32 512#32),
   StableHlo.TRef.nullary (.of main_call9_c_2 : StableHlo.TRef sig ⟨S_, .i32⟩) (constantI S_ 32 0#32),
   StableHlo.TRef.unary (.of main_call9_c_2 : StableHlo.TRef sig ⟨S_, .i32⟩) (.of main_call9_v6 : StableHlo.TRef sig ⟨S1024x32x1x1, .i32⟩) (broadcastInDim S1024x32x1x1 ![] bcast_S_S1024x32x1x1),
   StableHlo.TRef.binary (.of main_call9_v5 : StableHlo.TRef sig ⟨S1024x32x1x1, .i32⟩) (.of main_call9_v6 : StableHlo.TRef sig ⟨S1024x32x1x1, .i32⟩) (.of main_call9_v7 : StableHlo.TRef sig ⟨S1024x32x1x1, .i1⟩) (cmpi .sge),
   StableHlo.TRef.unary (.of main_call9_c_1 : StableHlo.TRef sig ⟨S1, .i32⟩) (.of main_call9_v8 : StableHlo.TRef sig ⟨S1x1x1x1, .i32⟩) (broadcastInDim S1x1x1x1 ![3] bcast_S1_S1x1x1x1_3),
   StableHlo.TRef.unary (.of main_call9_v8 : StableHlo.TRef sig ⟨S1x1x1x1, .i32⟩) (.of main_call9_v9 : StableHlo.TRef sig ⟨S1024x32x1x1, .i32⟩) (broadcastInDim S1024x32x1x1 ![0, 1, 2, 3] bcast_S1x1x1x1_S1024x32x1x1_0_1_2_3),
   StableHlo.TRef.binary (.of main_call9_v5 : StableHlo.TRef sig ⟨S1024x32x1x1, .i32⟩) (.of main_call9_v9 : StableHlo.TRef sig ⟨S1024x32x1x1, .i32⟩) (.of main_call9_v10 : StableHlo.TRef sig ⟨S1024x32x1x1, .i1⟩) (cmpi .sle),
   StableHlo.TRef.binary (.of main_call9_v7 : StableHlo.TRef sig ⟨S1024x32x1x1, .i1⟩) (.of main_call9_v10 : StableHlo.TRef sig ⟨S1024x32x1x1, .i1⟩) (.of main_call9_v11 : StableHlo.TRef sig ⟨S1024x32x1x1, .i1⟩) andi,
   StableHlo.TRef.nullary (.of main_call9_c_3 : StableHlo.TRef sig ⟨S_, .i1⟩) (constantI S_ 1 1#1),
   StableHlo.TRef.binary (.of main_call9_v11 : StableHlo.TRef sig ⟨S1024x32x1x1, .i1⟩) (.of main_call9_c_3 : StableHlo.TRef sig ⟨S_, .i1⟩) (.of main_call9_v12 : StableHlo.TRef sig ⟨S1024x32x1, .i1⟩) (fun x v => Host.reduce IntOp.andi x v reducesTo_S1024x32x1x1_S1024x32x1_d3 h_S_),
   StableHlo.TRef.binary (.of main_v15 : StableHlo.TRef sig ⟨S1024x32x513, .f32⟩) (.of main_call9_v5 : StableHlo.TRef sig ⟨S1024x32x1x1, .i32⟩) (.of main_call9_v13 : StableHlo.TRef sig ⟨S1024x32x1, .f32⟩) (fun x i => Host.gather gather_S1024x32x513_S1024x32x1x1_S1024x32x1_n_2_01_01_2_3_111 x i),
   StableHlo.TRef.nullary (.of main_call9_cst : StableHlo.TRef sig ⟨S_, .f32⟩) (constant (F := F) S_ .f32 0x7FC00000#32),
   StableHlo.TRef.unary (.of main_call9_cst : StableHlo.TRef sig ⟨S_, .f32⟩) (.of main_call9_v14 : StableHlo.TRef sig ⟨S1024x32x1, .f32⟩) (broadcastInDim S1024x32x1 ![] bcast_S_S1024x32x1),
   StableHlo.TRef.ternary (.of main_call9_v12 : StableHlo.TRef sig ⟨S1024x32x1, .i1⟩) (.of main_call9_v13 : StableHlo.TRef sig ⟨S1024x32x1, .f32⟩) (.of main_call9_v14 : StableHlo.TRef sig ⟨S1024x32x1, .f32⟩) (.of main_v31 : StableHlo.TRef sig ⟨S1024x32x1, .f32⟩) select]

theorem qTake_sub : (qTake (F := F)).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

/-- The stretch `qOut`: the results. -/
abbrev qOut : List (HloOp τ sig (Elt F)) :=
  [StableHlo.reshape main_v31 main_v32 (rfl : (.f32 : EltTy) = .f32) shapeCasts_S1024x32x1_S1024x32,
   StableHlo.unary main_v29 main_v33 ((extui 32 · natLt_1_32) : (⟨S1024x32, .i1⟩ : BufTy).Contents (Elt F) → (⟨S1024x32, .i32⟩ : BufTy).Contents (Elt F)),
   StableHlo.binary main_v27 main_v33 main_v34 (muli : (⟨S1024x32, .i32⟩ : BufTy).Contents (Elt F) → (⟨S1024x32, .i32⟩ : BufTy).Contents (Elt F) → (⟨S1024x32, .i32⟩ : BufTy).Contents (Elt F)),
   StableHlo.unary main_v28 main_v35 (broadcastInDim S1024x32x1 ![0, 1] bcast_S1024x32_S1024x32x1_0_1 : (⟨S1024x32, .i1⟩ : BufTy).Contents (Elt F) → (⟨S1024x32x1, .i1⟩ : BufTy).Contents (Elt F)),
   StableHlo.unary main_v35 main_v36 (uitofp .f32 : (⟨S1024x32x1, .i1⟩ : BufTy).Contents (Elt F) → (⟨S1024x32x1, .f32⟩ : BufTy).Contents (Elt F)),
   StableHlo.unary main_v36 main_v37 (broadcastInDim S1024x32x514 ![0, 1, 2] bcast_S1024x32x1_S1024x32x514_0_1_2 : (⟨S1024x32x1, .f32⟩ : BufTy).Contents (Elt F) → (⟨S1024x32x514, .f32⟩ : BufTy).Contents (Elt F)),
   StableHlo.binary main_v14 main_v37 main_v38 (mulf : (⟨S1024x32x514, .f32⟩ : BufTy).Contents (Elt F) → (⟨S1024x32x514, .f32⟩ : BufTy).Contents (Elt F) → (⟨S1024x32x514, .f32⟩ : BufTy).Contents (Elt F)),
   StableHlo.unary main_v29 main_v39 (uitofp .f32 : (⟨S1024x32, .i1⟩ : BufTy).Contents (Elt F) → (⟨S1024x32, .f32⟩ : BufTy).Contents (Elt F)),
   StableHlo.binary main_v32 main_v39 main_v40 (mulf : (⟨S1024x32, .f32⟩ : BufTy).Contents (Elt F) → (⟨S1024x32, .f32⟩ : BufTy).Contents (Elt F) → (⟨S1024x32, .f32⟩ : BufTy).Contents (Elt F))]

theorem qOut_sub : (qOut (F := F)).Forall fun op => op.bufs ⊆ tcRefs τ sig :=
  ⟨reshape_bufs_sub .., unary_bufs_sub .., binary_bufs_sub .., unary_bufs_sub .., unary_bufs_sub .., unary_bufs_sub .., binary_bufs_sub .., unary_bufs_sub .., binary_bufs_sub ..⟩

end Cert.ReferenceIdeal.Gen

end
-- ==== Proof.RI.Model.lean ====
module

public import proofs.«01_k».proof.Proof.RI.Ops

@[expose] public section

set_option maxRecDepth 16384

noncomputable section

namespace Cert.ReferenceIdeal.Gen

open Idealize.ShloMosaic Idealize.ShloMosaic.TcCoe Idealize.ShloMosaic.StableHlo
open Idealize.SL Idealize.SL.Sem

variable {F : FTy → Type} [FloatOps F]

/-! What each stretch of the reference computes, as a function of the buffers it reads. -/

/-- The one of the gates, on every row. -/
def ones : Vec F S1024x256 .f32 := broadcastInDim S1024x256 ![] bcast_S_S1024x256 (constant (F := F) S_ .f32 0x3F800000#32)

/-- `x ↦ 1 / (1 + e^(−x))`. -/
def sigm (x : Vec F S1024x256 .f32) : Vec F S1024x256 .f32 := Host.divf ones (addf ones (Host.exp (Host.negf x)))

/-- The state before the loop. -/
def startH (s : Vec F S1024x256 .f32) (w : Vec F S256x256 .f32) (b : Vec F S256 .f32) : Vec F S1024x256 .f32 :=
  addf (Host.dotGeneral dot_S1024x256_S256x256_S1024x256_1_0_0_1_n_n none s w)
    (broadcastInDim S1024x256 ![0, 1] bcast_S1x256_S1024x256_0_1 (broadcastInDim S1x256 ![1] bcast_S256_S1x256_1 b))

/-- The activation `x * sigm x`. -/
def silu (x : Vec F S1024x256 .f32) : Vec F S1024x256 .f32 := mulf x (sigm x)

/-- The one-hot row of a symbol. -/
def hotRow (c : Vec F S_ .i32) : Vec F S514 .f32 :=
  uitofp .f32 (cmpi .eq (broadcastInDim S514 ![0] bcast_S1_S514_0 (broadcastInDim S1 ![] bcast_S_S1 c)) (iotaInDim S514 32 0))

/-- The start symbol's row, on every row of the batch. -/
def startTok (r : Vec F S514 .f32) : Vec F S1024x514 .f32 :=
  shapeCast S1024x514 (broadcastInDim S1024x1x1x514 ![0, 1, 2, 3] bcast_S1x1x1x514_S1024x1x1x514_0_1_2_3
    (shapeCast S1x1x1x514 (broadcastInDim S1x514 ![1] bcast_S514_S1x514_1 r) shapeCasts_S1x514_S1x1x1x514)) shapeCasts_S1024x1x1x514_S1024x514

/-- A bias row of 768 on every row of the batch. -/
def biasRows (b : Vec F S1x768 .f32) : Vec F S1024x768 .f32 :=
  broadcastInDim S1024x768 ![0, 1] bcast_S1x768_S1024x768_0_1
    (broadcastInDim S1x768 ![1] bcast_S768_S1x768_1 (shapeCast S768 b shapeCasts_S1x768_S768))

/-- The input's gate product. -/
def projX (tok : Vec F S1024x514 .f32) (w : Vec F S514x768 .f32) (b : Vec F S2x768 .f32) : Vec F S1024x768 .f32 :=
  addf (Host.dotGeneral dot_S1024x514_S514x768_S1024x768_1_0_0_1_n_n none tok w) (biasRows (extractStridedSlice S1x768 ![0, 0] b slices_S2x768_S1x768_0_0))

/-- The state's gate product. -/
def projH (h : Vec F S1024x256 .f32) (w : Vec F S256x768 .f32) (b : Vec F S2x768 .f32) : Vec F S1024x768 .f32 :=
  addf (Host.dotGeneral dot_S1024x256_S256x768_S1024x768_1_0_0_1_n_n none h w) (biasRows (extractStridedSlice S1x768 ![1, 0] b slices_S2x768_S1x768_1_0))

/-- The three gates' columns of a gate product. -/
def colA (x : Vec F S1024x768 .f32) : Vec F S1024x256 .f32 := extractStridedSlice S1024x256 ![0, 0] x slices_S1024x768_S1024x256_0_0
@[inherit_doc colA] def colB (x : Vec F S1024x768 .f32) : Vec F S1024x256 .f32 := extractStridedSlice S1024x256 ![0, 256] x slices_S1024x768_S1024x256_0_256
@[inherit_doc colA] def colC (x : Vec F S1024x768 .f32) : Vec F S1024x256 .f32 := extractStridedSlice S1024x256 ![0, 512] x slices_S1024x768_S1024x256_0_512

/-- The new state from the gates. -/
def blend (z r x c h : Vec F S1024x256 .f32) : Vec F S1024x256 .f32 :=
  addf (mulf z h) (mulf (subf ones z) (Host.tanh (addf x (mulf r c))))

/-- The scores of the symbols. -/
def scores (h : Vec F S1024x256 .f32) (w : Vec F S256x513 .f32) (b : Vec F S513 .f32) : Vec F S1024x513 .f32 :=
  addf (Host.dotGeneral dot_S1024x256_S256x513_S1024x513_1_0_0_1_n_n none h w)
    (broadcastInDim S1024x513 ![0, 1] bcast_S1x513_S1024x513_0_1 (broadcastInDim S1x513 ![1] bcast_S513_S1x513_1 b))

/-- A column on every symbol. -/
def spread (v : Vec F S1024 .f32) : Vec F S1024x513 .f32 :=
  broadcastInDim S1024x513 ![0, 1] bcast_S1024x1_S1024x513_0_1 (broadcastInDim S1024x1 ![0] bcast_S1024_S1024x1_0 v)

/-- The exponentials of the scores less their maximum. -/
def expo (l : Vec F S1024x513 .f32) : Vec F S1024x513 .f32 :=
  Host.exp (subf l (spread (maximumf (broadcastInDim S1024 ![] bcast_S_S1024 (constant (F := F) S_ .f32 0xFF800000#32))
    (Host.reduce FloatOps.maximumf l (constant (F := F) S_ .f32 0xFF800000#32) reducesTo_S1024x513_S1024_d1 h_S_))))

/-- Their sum. -/
def total (e : Vec F S1024x513 .f32) : Vec F S1024 .f32 :=
  Host.reduceAdd e (constant (F := F) S_ .f32 0x00000000#32) reducesTo_S1024x513_S1024_d1 h_S_

/-- The softmax of the scores. -/
def soft (l : Vec F S1024x513 .f32) : Vec F S1024x513 .f32 := Host.divf (expo l) (spread (total (expo l)))

/-- The position of the largest entry, the first of them. -/
def best (p : Vec F S1024x513 .f32) : Vec F S1024 .i32 := fun j =>
  (Host.argReduce reducer_argmax_f32_i32 p (iotaInDim S1024x513 32 1) (constant (F := F) S_ .f32 0xFF800000#32) (constantI S_ 32 0#32) reducesTo_S1024x513_S1024_d1 h_S_ j).2

/-- The one-hot rows of the symbols. -/
def hots (s : Vec F S1024 .i32) : Vec F S1024x514 .f32 :=
  uitofp .f32 (cmpi .eq (broadcastInDim S1024x514 ![0, 1] bcast_S1024x1_S1024x514_0_1 (broadcastInDim S1024x1 ![0] bcast_S1024_S1024x1_0 s))
    (broadcastInDim S1024x514 ![0, 1] bcast_S1x514_S1024x514_0_1 (iotaInDim S1x514 32 1)))

/-- Where a trip's row is written. -/
def putAt (n : Vec F S_ .i32) : Fin 3 → Int := fun k =>
  ((![n, constantI S_ 32 0#32, constantI S_ 32 0#32] : Fin 3 → Vec F S_ .i32) k (Shape.Idx.first h_S_)).toInt

/-- A trip's one-hot rows written into the record. -/
def putTok (x : Vec F S32x1024x514 .f32) (u : Vec F S1024x514 .f32) (n : Vec F S_ .i32) : Vec F S32x1024x514 .f32 :=
  Host.dynamicUpdateSlice x (broadcastInDim S1x1024x514 ![1, 2] bcast_S1024x514_S1x1024x514_1_2 u) (putAt n) updateFits_S32x1024x514_S1x1024x514

/-- A trip's probabilities written into the record. -/
def putProb (x : Vec F S32x1024x513 .f32) (u : Vec F S1024x513 .f32) (n : Vec F S_ .i32) : Vec F S32x1024x513 .f32 :=
  Host.dynamicUpdateSlice x (broadcastInDim S1x1024x513 ![1, 2] bcast_S1024x513_S1x1024x513_1_2 u) (putAt n) updateFits_S32x1024x513_S1x1024x513

/-- The records with the batch first. -/
def rowsTok (x : Vec F S32x1024x514 .f32) : Vec F S1024x32x514 .f32 := transpose S1024x32x514 [1, 0, 2] x transposes_S32x1024x514_S1024x32x514_1_0_2
@[inherit_doc rowsTok] def rowsProb (x : Vec F S32x1024x513 .f32) : Vec F S1024x32x513 .f32 := transpose S1024x32x513 [1, 0, 2] x transposes_S32x1024x513_S1024x32x513_1_0_2

/-- One where the row is the end symbol's. -/
def isEnd (x : Vec F S1024x32x514 .f32) (e : Vec F S514 .f32) : Vec F S1024x32 .i32 :=
  extui 32 (Host.reduce IntOp.andi (cmpf .oeq x (broadcastInDim S1024x32x514 ![0, 1, 2] bcast_S1x1x514_S1024x32x514_0_1_2
    (broadcastInDim S1x1x514 ![2] bcast_S514_S1x1x514_2 e))) (constantI S_ 1 1#1) reducesTo_S1024x32x514_S1024x32_d2 h_S_) natLt_1_32

/-- The running sum along the trips. -/
def running (x : Vec F S1024x32 .i32) : Vec F S1024x32 .i32 :=
  Host.reduceWindow IntOp.addi ![1, 32] ![1, 1] ![0, 31] ![0, 0] x (broadcastInDim S_ ![] bcast_S_S_ (constantI S_ 32 0#32)) reduceWindows_S1024x32_S1024x32_w1s1p0_0_w32s1p31_0 h_S_

/-- Finished at or before a trip. -/
def done (x : Vec F S1024x32 .i32) : Vec F S1024x32 .i1 :=
  cmpi .sgt x (broadcastInDim S1024x32 ![] bcast_S_S1024x32 (constantI S_ 32 0#32))

/-- Finished before a trip: `done` one trip later. -/
def before (x : Vec F S1024x32 .i1) : Vec F S1024x32 .i1 :=
  concatenate S1024x32 1 [⟨S1024x1, broadcastInDim S1024x1 ![] bcast_S_S1024x1 (constantI S_ 1 0#1)⟩,
    ⟨S1024x31, extractStridedSlice S1024x31 ![0, 0] x slices_S1024x32_S1024x31_0_0⟩] concatenates_S1024x1_S1024x31_S1024x32_d1

/-- The symbols of the one-hot rows. -/
def symbols (x : Vec F S1024x32x514 .f32) : Vec F S1024x32 .i32 := fun j =>
  (Host.argReduce reducer_argmax_f32_i32 x (iotaInDim S1024x32x514 32 2) (constant (F := F) S_ .f32 0xFF800000#32) (constantI S_ 32 0#32) reducesTo_S1024x32x514_S1024x32_d2 h_S_ j).2

/-- A symbol counted from the end when negative. -/
def wrapped (s : Vec F S1024x32x1 .i32) : Vec F S1024x32x1x1 .i32 :=
  shapeCast S1024x32x1x1 (select (cmpi .slt s (broadcastInDim S1024x32x1 ![] bcast_S_S1024x32x1 (constantI S_ 32 0#32)))
    (addi s (broadcastInDim S1024x32x1 ![] bcast_S_S1024x32x1 (constantI S_ 32 513#32))) s) shapeCasts_S1024x32x1_S1024x32x1x1

/-- Whether a symbol is a column of the record. -/
def inside (s : Vec F S1024x32x1x1 .i32) : Vec F S1024x32x1 .i1 :=
  Host.reduce IntOp.andi (andi (cmpi .sge s (broadcastInDim S1024x32x1x1 ![] bcast_S_S1024x32x1x1 (constantI S_ 32 0#32)))
    (cmpi .sle s (broadcastInDim S1024x32x1x1 ![0, 1, 2, 3] bcast_S1x1x1x1_S1024x32x1x1_0_1_2_3 (broadcastInDim S1x1x1x1 ![3] bcast_S1_S1x1x1x1_3 (constantI S1 32 512#32)))))
    (constantI S_ 1 1#1) reducesTo_S1024x32x1x1_S1024x32x1_d3 h_S_

/-- The record's entries at the symbols. -/
def entries (p : Vec F S1024x32x513 .f32) (s : Vec F S1024x32x1 .i32) : Vec F S1024x32x1 .f32 :=
  select (inside (wrapped s)) (Host.gather gather_S1024x32x513_S1024x32x1x1_S1024x32x1_n_2_01_01_2_3_111 p (wrapped s))
    (broadcastInDim S1024x32x1 ![] bcast_S_S1024x32x1 (constant (F := F) S_ .f32 0x7FC00000#32))

/-- A mark per trip spread over the symbols. -/
def marks (x : Vec F S1024x32 .i1) : Vec F S1024x32x514 .f32 :=
  broadcastInDim S1024x32x514 ![0, 1, 2] bcast_S1024x32x1_S1024x32x514_0_1_2 (uitofp .f32 (broadcastInDim S1024x32x1 ![0, 1] bcast_S1024x32_S1024x32x1_0_1 x))

end Cert.ReferenceIdeal.Gen

end
-- ==== Proof.RI.Reads.lean ====
module

public import proofs.«01_k».proof.Proof.RI.Model
public import Idealize.ShloMosaic.Lib.StableHlo.RunClose

@[expose] public section

set_option maxRecDepth 16384

noncomputable section

namespace Cert.ReferenceIdeal.Gen

open Idealize.ShloMosaic Idealize.ShloMosaic.TcCoe Idealize.ShloMosaic.StableHlo
open Idealize.SL Idealize.SL.Sem

variable {F : FTy → Type} [FloatOps F]

/-! What each stretch leaves in the buffers that later stretches read. -/

theorem bProj_bv48 (X : Valuation τ sig (Elt F)) : after (bProj (F := F)) X (no_index (Proc.devRef .tc main_while0b_v48)) =
    projX (X (Proc.devRef .tc main_v13_7)) (X (Proc.devRef .tc main_v13_1)) (X (Proc.devRef .tc main_v13_0)) := by
  unfold bProj
  after_results_entrywise []

theorem bProj_bv52 (X : Valuation τ sig (Elt F)) : after (bProj (F := F)) X (no_index (Proc.devRef .tc main_while0b_v52)) =
    projH (X (Proc.devRef .tc main_v13_6)) (X (Proc.devRef .tc main_v13_2)) (X (Proc.devRef .tc main_v13_0)) := by
  unfold bProj
  after_results_entrywise []

theorem bGate_bv65 (X : Valuation τ sig (Elt F)) : after (bGate (F := F)) X (no_index (Proc.devRef .tc main_while0b_v65)) =
    sigm (addf (colA (X (Proc.devRef .tc main_while0b_v48))) (colA (X (Proc.devRef .tc main_while0b_v52)))) := by
  unfold bGate
  after_results_entrywise []

theorem bGate_bv72 (X : Valuation τ sig (Elt F)) : after (bGate (F := F)) X (no_index (Proc.devRef .tc main_while0b_v72)) =
    sigm (addf (colB (X (Proc.devRef .tc main_while0b_v48))) (colB (X (Proc.devRef .tc main_while0b_v52)))) := by
  unfold bGate
  after_results_entrywise []

theorem bGate_bv55 (X : Valuation τ sig (Elt F)) : after (bGate (F := F)) X (no_index (Proc.devRef .tc main_while0b_v55)) =
    colC (X (Proc.devRef .tc main_while0b_v48)) := by
  unfold bGate
  after_results_entrywise []

theorem bGate_bv58 (X : Valuation τ sig (Elt F)) : after (bGate (F := F)) X (no_index (Proc.devRef .tc main_while0b_v58)) =
    colC (X (Proc.devRef .tc main_while0b_v52)) := by
  unfold bGate
  after_results_entrywise []

theorem bCell_bv80 (X : Valuation τ sig (Elt F)) : after (bCell (F := F)) X (no_index (Proc.devRef .tc main_while0b_v80)) =
    blend (X (Proc.devRef .tc main_while0b_v65)) (X (Proc.devRef .tc main_while0b_v72)) (X (Proc.devRef .tc main_while0b_v55)) (X (Proc.devRef .tc main_while0b_v58)) (X (Proc.devRef .tc main_v13_6)) := by
  unfold bCell
  after_results_entrywise []

theorem bLog_bv91 (X : Valuation τ sig (Elt F)) : after (bLog (F := F)) X (no_index (Proc.devRef .tc main_while0b_v91)) =
    expo (scores (X (Proc.devRef .tc main_while0b_v80)) (X (Proc.devRef .tc main_v13_3)) (X (Proc.devRef .tc main_v13_4))) := by
  unfold bLog
  after_results_entrywise []

theorem bLog_bv92 (X : Valuation τ sig (Elt F)) : after (bLog (F := F)) X (no_index (Proc.devRef .tc main_while0b_v92)) =
    total (expo (scores (X (Proc.devRef .tc main_while0b_v80)) (X (Proc.devRef .tc main_v13_3)) (X (Proc.devRef .tc main_v13_4)))) := by
  unfold bLog
  after_results_entrywise []

theorem bSoft_bv95 (X : Valuation τ sig (Elt F)) : after (bSoft (F := F)) X (no_index (Proc.devRef .tc main_while0b_v95)) =
    Host.divf (X (Proc.devRef .tc main_while0b_v91)) (spread (X (Proc.devRef .tc main_while0b_v92))) := by
  unfold bSoft
  after_results_entrywise []

theorem bArg_bv96 (X : Valuation τ sig (Elt F)) : after (bArg (F := F)) X (no_index (Proc.devRef .tc main_while0b_v96)) =
    best (X (Proc.devRef .tc main_while0b_v95)) := by
  unfold bArg
  after_results_entrywise []

theorem bHot_bv97 (X : Valuation τ sig (Elt F)) : after (bHot (F := F)) X (no_index (Proc.devRef .tc main_while0b_v97)) =
    hots (X (Proc.devRef .tc main_while0b_v96)) := by
  unfold bHot
  after_results_entrywise []

theorem bTok_bv98 (X : Valuation τ sig (Elt F)) : after (bTok (F := F)) X (no_index (Proc.devRef .tc main_while0b_v98)) =
    putTok (X (Proc.devRef .tc main_v13_8)) (X (Proc.devRef .tc main_while0b_v97)) (X (Proc.devRef .tc main_v13_5)) := by
  unfold bTok
  after_results_entrywise []

theorem bProb_bv99 (X : Valuation τ sig (Elt F)) : after (bProb (F := F)) X (no_index (Proc.devRef .tc main_while0b_v99)) =
    putProb (X (Proc.devRef .tc main_v13_9)) (X (Proc.devRef .tc main_while0b_v95)) (X (Proc.devRef .tc main_v13_5)) := by
  unfold bProb
  after_results_entrywise []

theorem bBack_v13_5 (X : Valuation τ sig (Elt F)) : after (bBack (F := F)) X (no_index (Proc.devRef .tc main_v13_5)) =
    addi (X (Proc.devRef .tc main_v13_5)) (constantI S_ 32 1#32) := by
  unfold bBack
  after_results_entrywise []

theorem bBack_v13_6 (X : Valuation τ sig (Elt F)) : after (bBack (F := F)) X (no_index (Proc.devRef .tc main_v13_6)) =
    (X (Proc.devRef .tc main_while0b_v80)) := by
  unfold bBack
  after_results_entrywise []

theorem bBack_v13_7 (X : Valuation τ sig (Elt F)) : after (bBack (F := F)) X (no_index (Proc.devRef .tc main_v13_7)) =
    (X (Proc.devRef .tc main_while0b_v97)) := by
  unfold bBack
  after_results_entrywise []

theorem bBack_v13_8 (X : Valuation τ sig (Elt F)) : after (bBack (F := F)) X (no_index (Proc.devRef .tc main_v13_8)) =
    (X (Proc.devRef .tc main_while0b_v98)) := by
  unfold bBack
  after_results_entrywise []

theorem bBack_v13_9 (X : Valuation τ sig (Elt F)) : after (bBack (F := F)) X (no_index (Proc.devRef .tc main_v13_9)) =
    (X (Proc.devRef .tc main_while0b_v99)) := by
  unfold bBack
  after_results_entrywise []

theorem pProj_v3 (X : Valuation τ sig (Elt F)) : after (pProj (F := F)) X (no_index (Proc.devRef .tc main_v3)) =
    startH (X (Proc.devRef .tc main_arg0)) (X (Proc.devRef .tc main_arg1)) (X (Proc.devRef .tc main_arg2)) := by
  unfold pProj
  after_results_entrywise []

theorem pSilu_v4 (X : Valuation τ sig (Elt F)) : after (pSilu (F := F)) X (no_index (Proc.devRef .tc main_v4)) =
    silu (X (Proc.devRef .tc main_v3)) := by
  unfold pSilu
  after_results_entrywise []

theorem pEos_c (X : Valuation τ sig (Elt F)) : after (pEos (F := F)) X (no_index (Proc.devRef .tc main_c)) =
    constantI S_ 32 513#32 := by
  unfold pEos
  after_results_entrywise []

theorem pHotA_v5 (X : Valuation τ sig (Elt F)) : after (pHotA (F := F)) X (no_index (Proc.devRef .tc main_v5)) =
    hotRow (X (Proc.devRef .tc main_c)) := by
  unfold pHotA
  after_results_entrywise []

theorem pStart_v9 (X : Valuation τ sig (Elt F)) : after (pStart (F := F)) X (no_index (Proc.devRef .tc main_v9)) =
    startTok (X (Proc.devRef .tc main_v5)) := by
  unfold pStart
  after_results_entrywise []

theorem pStart_c_0 (X : Valuation τ sig (Elt F)) : after (pStart (F := F)) X (no_index (Proc.devRef .tc main_c_0)) =
    constantI S_ 32 512#32 := by
  unfold pStart
  after_results_entrywise []

theorem pHotB_v10 (X : Valuation τ sig (Elt F)) : after (pHotB (F := F)) X (no_index (Proc.devRef .tc main_v10)) =
    hotRow (X (Proc.devRef .tc main_c_0)) := by
  unfold pHotB
  after_results_entrywise []

theorem pInit_v13_0 (X : Valuation τ sig (Elt F)) : after (pInit (F := F)) X (no_index (Proc.devRef .tc main_v13_0)) =
    (X (Proc.devRef .tc main_arg5)) := by
  unfold pInit
  after_results_entrywise []

theorem pInit_v13_1 (X : Valuation τ sig (Elt F)) : after (pInit (F := F)) X (no_index (Proc.devRef .tc main_v13_1)) =
    (X (Proc.devRef .tc main_arg3)) := by
  unfold pInit
  after_results_entrywise []

theorem pInit_v13_2 (X : Valuation τ sig (Elt F)) : after (pInit (F := F)) X (no_index (Proc.devRef .tc main_v13_2)) =
    (X (Proc.devRef .tc main_arg4)) := by
  unfold pInit
  after_results_entrywise []

theorem pInit_v13_3 (X : Valuation τ sig (Elt F)) : after (pInit (F := F)) X (no_index (Proc.devRef .tc main_v13_3)) =
    (X (Proc.devRef .tc main_arg6)) := by
  unfold pInit
  after_results_entrywise []

theorem pInit_v13_4 (X : Valuation τ sig (Elt F)) : after (pInit (F := F)) X (no_index (Proc.devRef .tc main_v13_4)) =
    (X (Proc.devRef .tc main_arg7)) := by
  unfold pInit
  after_results_entrywise []

theorem pInit_v13_5 (X : Valuation τ sig (Elt F)) : after (pInit (F := F)) X (no_index (Proc.devRef .tc main_v13_5)) =
    constantI S_ 32 0#32 := by
  unfold pInit
  after_results_entrywise []

theorem pInit_v13_6 (X : Valuation τ sig (Elt F)) : after (pInit (F := F)) X (no_index (Proc.devRef .tc main_v13_6)) =
    (X (Proc.devRef .tc main_v4)) := by
  unfold pInit
  after_results_entrywise []

theorem pInit_v13_7 (X : Valuation τ sig (Elt F)) : after (pInit (F := F)) X (no_index (Proc.devRef .tc main_v13_7)) =
    (X (Proc.devRef .tc main_v9)) := by
  unfold pInit
  after_results_entrywise []

theorem pInit_v13_8 (X : Valuation τ sig (Elt F)) : after (pInit (F := F)) X (no_index (Proc.devRef .tc main_v13_8)) =
    broadcastInDim S32x1024x514 ![] bcast_S_S32x1024x514 (constant (F := F) S_ .f32 0x00000000#32) := by
  unfold pInit
  after_results_entrywise []

theorem pInit_v13_9 (X : Valuation τ sig (Elt F)) : after (pInit (F := F)) X (no_index (Proc.devRef .tc main_v13_9)) =
    broadcastInDim S32x1024x513 ![] bcast_S_S32x1024x513 (constant (F := F) S_ .f32 0x00000000#32) := by
  unfold pInit
  after_results_entrywise []

theorem qEnd_v14 (X : Valuation τ sig (Elt F)) : after (qEnd (F := F)) X (no_index (Proc.devRef .tc main_v14)) =
    rowsTok (X (Proc.devRef .tc main_v13_8)) := by
  unfold qEnd
  after_results_entrywise []

theorem qEnd_v15 (X : Valuation τ sig (Elt F)) : after (qEnd (F := F)) X (no_index (Proc.devRef .tc main_v15)) =
    rowsProb (X (Proc.devRef .tc main_v13_9)) := by
  unfold qEnd
  after_results_entrywise []

theorem qEnd_v20 (X : Valuation τ sig (Elt F)) : after (qEnd (F := F)) X (no_index (Proc.devRef .tc main_v20)) =
    isEnd (rowsTok (X (Proc.devRef .tc main_v13_8))) (X (Proc.devRef .tc main_v10)) := by
  unfold qEnd
  after_results_entrywise []

theorem qSum_v21 (X : Valuation τ sig (Elt F)) : after (qSum (F := F)) X (no_index (Proc.devRef .tc main_v21)) =
    running (X (Proc.devRef .tc main_v20)) := by
  unfold qSum
  after_results_simp_entrywise
  simp only [TRef.ofBuf, TRef.toBuf, cast_eq]
  unfold running
  rfl

theorem qFin_v23 (X : Valuation τ sig (Elt F)) : after (qFin (F := F)) X (no_index (Proc.devRef .tc main_v23)) =
    done (X (Proc.devRef .tc main_v21)) := by
  unfold qFin
  after_results_entrywise []

theorem qFin_v26 (X : Valuation τ sig (Elt F)) : after (qFin (F := F)) X (no_index (Proc.devRef .tc main_v26)) =
    before (done (X (Proc.devRef .tc main_v21))) := by
  unfold qFin
  after_results_entrywise []

theorem qArg_v27 (X : Valuation τ sig (Elt F)) : after (qArg (F := F)) X (no_index (Proc.devRef .tc main_v27)) =
    symbols (X (Proc.devRef .tc main_v14)) := by
  unfold qArg
  after_results_entrywise []

theorem qNot_v28 (X : Valuation τ sig (Elt F)) : after (qNot (F := F)) X (no_index (Proc.devRef .tc main_v28)) =
    noti (X (Proc.devRef .tc main_v23)) := by
  unfold qNot
  after_results_entrywise []

theorem qNot_v29 (X : Valuation τ sig (Elt F)) : after (qNot (F := F)) X (no_index (Proc.devRef .tc main_v29)) =
    noti (X (Proc.devRef .tc main_v26)) := by
  unfold qNot
  after_results_entrywise []

theorem qNot_v30 (X : Valuation τ sig (Elt F)) : after (qNot (F := F)) X (no_index (Proc.devRef .tc main_v30)) =
    broadcastInDim S1024x32x1 ![0, 1] bcast_S1024x32_S1024x32x1_0_1 (X (Proc.devRef .tc main_v27)) := by
  unfold qNot
  after_results_entrywise []

theorem qTake_v31 (X : Valuation τ sig (Elt F)) : after (qTake (F := F)) X (no_index (Proc.devRef .tc main_v31)) =
    entries (X (Proc.devRef .tc main_v15)) (X (Proc.devRef .tc main_v30)) := by
  unfold qTake
  after_results_simp_entrywise
  simp only [TRef.ofBuf, TRef.toBuf, cast_eq]
  unfold entries inside wrapped
  rfl

theorem qOut_v34 (X : Valuation τ sig (Elt F)) : after (qOut (F := F)) X (no_index (Proc.devRef .tc main_v34)) =
    muli (X (Proc.devRef .tc main_v27)) (extui 32 (X (Proc.devRef .tc main_v29)) natLt_1_32) := by
  unfold qOut
  after_results_entrywise []

theorem qOut_v38 (X : Valuation τ sig (Elt F)) : after (qOut (F := F)) X (no_index (Proc.devRef .tc main_v38)) =
    mulf (X (Proc.devRef .tc main_v14)) (marks (X (Proc.devRef .tc main_v28))) := by
  unfold qOut
  after_results_entrywise []

theorem qOut_v40 (X : Valuation τ sig (Elt F)) : after (qOut (F := F)) X (no_index (Proc.devRef .tc main_v40)) =
    mulf (shapeCast S1024x32 (X (Proc.devRef .tc main_v31)) shapeCasts_S1024x32x1_S1024x32) (uitofp .f32 (X (Proc.devRef .tc main_v29))) := by
  unfold qOut
  after_results_entrywise []

end Cert.ReferenceIdeal.Gen

end
-- ==== Proof.RI.Writes.lean ====
module

public import proofs.«01_k».proof.Proof.RI.Ops

@[expose] public section

set_option maxRecDepth 16384

noncomputable section

namespace Cert.ReferenceIdeal.Gen

open Idealize.ShloMosaic Idealize.ShloMosaic.TcCoe Idealize.ShloMosaic.StableHlo
open Idealize.SL Idealize.SL.Sem

variable {F : FTy → Type} [FloatOps F]

/-! The buffers that each stretch writes, and that it leaves the others. -/

/-- What `bProj` writes, in order. -/
abbrev bProjW : List (Ref sig .tc) := [main_while0b_v41, main_while0b_v42, main_while0b_v43, main_while0b_v44, main_while0b_v45, main_while0b_v46, main_while0b_v47, main_while0b_v48, main_while0b_v49, main_while0b_v50, main_while0b_v51, main_while0b_v52]

theorem bProj_keep (X : Valuation τ sig (Elt F)) {r : Ref sig .tc} (hr : r ∉ bProjW) : after (bProj (F := F)) X (no_index (Proc.devRef .tc r)) = X (Proc.devRef .tc r) :=
  after_of_writes_sub _ X (forall_writes_sub_of_map (W := bProjW) rfl) hr

/-- What `bGate` writes, in order. -/
abbrev bGateW : List (Ref sig .tc) := [main_while0b_v53, main_while0b_v54, main_while0b_v55, main_while0b_v56, main_while0b_v57, main_while0b_v58, main_while0b_v59, main_while0b_v60, main_while0b_v61, main_while0b_cst_15, main_while0b_v62, main_while0b_v63, main_while0b_cst_16, main_while0b_v64, main_while0b_v65, main_while0b_v66, main_while0b_v67, main_while0b_v68, main_while0b_cst_17, main_while0b_v69, main_while0b_v70, main_while0b_cst_18, main_while0b_v71, main_while0b_v72]

theorem bGate_keep (X : Valuation τ sig (Elt F)) {r : Ref sig .tc} (hr : r ∉ bGateW) : after (bGate (F := F)) X (no_index (Proc.devRef .tc r)) = X (Proc.devRef .tc r) :=
  after_of_writes_sub _ X (forall_writes_sub_of_map (W := bGateW) rfl) hr

/-- What `bCell` writes, in order. -/
abbrev bCellW : List (Ref sig .tc) := [main_while0b_v73, main_while0b_v74, main_while0b_v75, main_while0b_v76, main_while0b_cst_19, main_while0b_v77, main_while0b_v78, main_while0b_v79, main_while0b_v80]

theorem bCell_keep (X : Valuation τ sig (Elt F)) {r : Ref sig .tc} (hr : r ∉ bCellW) : after (bCell (F := F)) X (no_index (Proc.devRef .tc r)) = X (Proc.devRef .tc r) :=
  after_of_writes_sub _ X (forall_writes_sub_of_map (W := bCellW) rfl) hr

/-- What `bLog` writes, in order. -/
abbrev bLogW : List (Ref sig .tc) := [main_while0b_v81, main_while0b_v82, main_while0b_v83, main_while0b_v84, main_while0b_cst_20, main_while0b_v85, main_while0b_cst_21, main_while0b_v86, main_while0b_v87, main_while0b_v88, main_while0b_v89, main_while0b_v90, main_while0b_v91, main_while0b_cst_22, main_while0b_v92]

theorem bLog_keep (X : Valuation τ sig (Elt F)) {r : Ref sig .tc} (hr : r ∉ bLogW) : after (bLog (F := F)) X (no_index (Proc.devRef .tc r)) = X (Proc.devRef .tc r) :=
  after_of_writes_sub _ X (forall_writes_sub_of_map (W := bLogW) rfl) hr

/-- What `bSoft` writes, in order. -/
abbrev bSoftW : List (Ref sig .tc) := [main_while0b_v93, main_while0b_v94, main_while0b_v95]

theorem bSoft_keep (X : Valuation τ sig (Elt F)) {r : Ref sig .tc} (hr : r ∉ bSoftW) : after (bSoft (F := F)) X (no_index (Proc.devRef .tc r)) = X (Proc.devRef .tc r) :=
  after_of_writes_sub _ X (forall_writes_sub_of_map (W := bSoftW) rfl) hr

/-- What `bArg` writes, in order. -/
abbrev bArgW : List (Ref sig .tc) := [main_while0b_call3_v0, main_while0b_call3_cst, main_while0b_call3_c, main_while0b_call3_v1_0, main_while0b_v96]

theorem bArg_keep (X : Valuation τ sig (Elt F)) {r : Ref sig .tc} (hr : r ∉ bArgW) : after (bArg (F := F)) X (no_index (Proc.devRef .tc r)) = X (Proc.devRef .tc r) :=
  after_of_writes_sub _ X (forall_writes_sub_of_map (W := bArgW) rfl) hr

/-- What `bHot` writes, in order. -/
abbrev bHotW : List (Ref sig .tc) := [main_while0b_call4_v0, main_while0b_call4_v1, main_while0b_call4_v2, main_while0b_call4_v3, main_while0b_call4_v4, main_while0b_v97]

theorem bHot_keep (X : Valuation τ sig (Elt F)) {r : Ref sig .tc} (hr : r ∉ bHotW) : after (bHot (F := F)) X (no_index (Proc.devRef .tc r)) = X (Proc.devRef .tc r) :=
  after_of_writes_sub _ X (forall_writes_sub_of_map (W := bHotW) rfl) hr

/-- What `bTok` writes, in order. -/
abbrev bTokW : List (Ref sig .tc) := [main_while0b_call5_v0, main_while0b_call5_c, main_while0b_call5_c_0, main_while0b_v98]

theorem bTok_keep (X : Valuation τ sig (Elt F)) {r : Ref sig .tc} (hr : r ∉ bTokW) : after (bTok (F := F)) X (no_index (Proc.devRef .tc r)) = X (Proc.devRef .tc r) :=
  after_of_writes_sub _ X (forall_writes_sub_of_map (W := bTokW) rfl) hr

/-- What `bProb` writes, in order. -/
abbrev bProbW : List (Ref sig .tc) := [main_while0b_call6_v0, main_while0b_call6_c, main_while0b_call6_c_0, main_while0b_v99]

theorem bProb_keep (X : Valuation τ sig (Elt F)) {r : Ref sig .tc} (hr : r ∉ bProbW) : after (bProb (F := F)) X (no_index (Proc.devRef .tc r)) = X (Proc.devRef .tc r) :=
  after_of_writes_sub _ X (forall_writes_sub_of_map (W := bProbW) rfl) hr

/-- What `bBack` writes, in order. -/
abbrev bBackW : List (Ref sig .tc) := [main_while0b_c_23, main_while0b_v100, main_v13_5, main_v13_6, main_v13_7, main_v13_8, main_v13_9]

theorem bBack_keep (X : Valuation τ sig (Elt F)) {r : Ref sig .tc} (hr : r ∉ bBackW) : after (bBack (F := F)) X (no_index (Proc.devRef .tc r)) = X (Proc.devRef .tc r) :=
  after_of_writes_sub _ X (forall_writes_sub_of_map (W := bBackW) rfl) hr

/-- What `pProj` writes, in order. -/
abbrev pProjW : List (Ref sig .tc) := [main_v0, main_v1, main_v2, main_v3]

theorem pProj_keep (X : Valuation τ sig (Elt F)) {r : Ref sig .tc} (hr : r ∉ pProjW) : after (pProj (F := F)) X (no_index (Proc.devRef .tc r)) = X (Proc.devRef .tc r) :=
  after_of_writes_sub _ X (forall_writes_sub_of_map (W := pProjW) rfl) hr

/-- What `pSilu` writes, in order. -/
abbrev pSiluW : List (Ref sig .tc) := [main_call0_v0, main_call0_v1, main_call0_cst, main_call0_v2, main_call0_v3, main_call0_cst_0, main_call0_v4, main_call0_v5, main_v4]

theorem pSilu_keep (X : Valuation τ sig (Elt F)) {r : Ref sig .tc} (hr : r ∉ pSiluW) : after (pSilu (F := F)) X (no_index (Proc.devRef .tc r)) = X (Proc.devRef .tc r) :=
  after_of_writes_sub _ X (forall_writes_sub_of_map (W := pSiluW) rfl) hr

/-- What `pEos` writes, in order. -/
abbrev pEosW : List (Ref sig .tc) := [main_c]

theorem pEos_keep (X : Valuation τ sig (Elt F)) {r : Ref sig .tc} (hr : r ∉ pEosW) : after (pEos (F := F)) X (no_index (Proc.devRef .tc r)) = X (Proc.devRef .tc r) :=
  after_of_writes_sub _ X (forall_writes_sub_of_map (W := pEosW) rfl) hr

/-- What `pHotA` writes, in order. -/
abbrev pHotAW : List (Ref sig .tc) := [main_call1_v0, main_call1_v1, main_call1_v2, main_call1_v3, main_call1_v4, main_v5]

theorem pHotA_keep (X : Valuation τ sig (Elt F)) {r : Ref sig .tc} (hr : r ∉ pHotAW) : after (pHotA (F := F)) X (no_index (Proc.devRef .tc r)) = X (Proc.devRef .tc r) :=
  after_of_writes_sub _ X (forall_writes_sub_of_map (W := pHotAW) rfl) hr

/-- What `pStart` writes, in order. -/
abbrev pStartW : List (Ref sig .tc) := [main_v6, main_v7, main_v8, main_v9, main_c_0]

theorem pStart_keep (X : Valuation τ sig (Elt F)) {r : Ref sig .tc} (hr : r ∉ pStartW) : after (pStart (F := F)) X (no_index (Proc.devRef .tc r)) = X (Proc.devRef .tc r) :=
  after_of_writes_sub _ X (forall_writes_sub_of_map (W := pStartW) rfl) hr

/-- What `pHotB` writes, in order. -/
abbrev pHotBW : List (Ref sig .tc) := [main_call2_v0, main_call2_v1, main_call2_v2, main_call2_v3, main_call2_v4, main_v10]

theorem pHotB_keep (X : Valuation τ sig (Elt F)) {r : Ref sig .tc} (hr : r ∉ pHotBW) : after (pHotB (F := F)) X (no_index (Proc.devRef .tc r)) = X (Proc.devRef .tc r) :=
  after_of_writes_sub _ X (forall_writes_sub_of_map (W := pHotBW) rfl) hr

/-- What `pInit` writes, in order. -/
abbrev pInitW : List (Ref sig .tc) := [main_cst, main_v11, main_cst_1, main_v12, main_c_2, main_v13_0, main_v13_1, main_v13_2, main_v13_3, main_v13_4, main_v13_5, main_v13_6, main_v13_7, main_v13_8, main_v13_9]

theorem pInit_keep (X : Valuation τ sig (Elt F)) {r : Ref sig .tc} (hr : r ∉ pInitW) : after (pInit (F := F)) X (no_index (Proc.devRef .tc r)) = X (Proc.devRef .tc r) :=
  after_of_writes_sub _ X (forall_writes_sub_of_map (W := pInitW) rfl) hr

/-- What `qEnd` writes, in order. -/
abbrev qEndW : List (Ref sig .tc) := [main_v14, main_v15, main_v16, main_v17, main_v18, main_c_3, main_v19, main_v20]

theorem qEnd_keep (X : Valuation τ sig (Elt F)) {r : Ref sig .tc} (hr : r ∉ qEndW) : after (qEnd (F := F)) X (no_index (Proc.devRef .tc r)) = X (Proc.devRef .tc r) :=
  after_of_writes_sub _ X (forall_writes_sub_of_map (W := qEndW) rfl) hr

/-- What `qSum` writes, in order. -/
abbrev qSumW : List (Ref sig .tc) := [main_call7_call0_c, main_call7_call0_v0, main_v21]

theorem qSum_keep (X : Valuation τ sig (Elt F)) {r : Ref sig .tc} (hr : r ∉ qSumW) : after (qSum (F := F)) X (no_index (Proc.devRef .tc r)) = X (Proc.devRef .tc r) :=
  after_of_writes_sub _ X (forall_writes_sub_of_map (W := qSumW) rfl) hr

/-- What `qFin` writes, in order. -/
abbrev qFinW : List (Ref sig .tc) := [main_c_4, main_v22, main_v23, main_c_5, main_v24, main_v25, main_v26]

theorem qFin_keep (X : Valuation τ sig (Elt F)) {r : Ref sig .tc} (hr : r ∉ qFinW) : after (qFin (F := F)) X (no_index (Proc.devRef .tc r)) = X (Proc.devRef .tc r) :=
  after_of_writes_sub _ X (forall_writes_sub_of_map (W := qFinW) rfl) hr

/-- What `qArg` writes, in order. -/
abbrev qArgW : List (Ref sig .tc) := [main_call8_v0, main_call8_cst, main_call8_c, main_call8_v1_0, main_v27]

theorem qArg_keep (X : Valuation τ sig (Elt F)) {r : Ref sig .tc} (hr : r ∉ qArgW) : after (qArg (F := F)) X (no_index (Proc.devRef .tc r)) = X (Proc.devRef .tc r) :=
  after_of_writes_sub _ X (forall_writes_sub_of_map (W := qArgW) rfl) hr

/-- What `qNot` writes, in order. -/
abbrev qNotW : List (Ref sig .tc) := [main_v28, main_v29, main_v30]

theorem qNot_keep (X : Valuation τ sig (Elt F)) {r : Ref sig .tc} (hr : r ∉ qNotW) : after (qNot (F := F)) X (no_index (Proc.devRef .tc r)) = X (Proc.devRef .tc r) :=
  after_of_writes_sub _ X (forall_writes_sub_of_map (W := qNotW) rfl) hr

/-- What `qTake` writes, in order. -/
abbrev qTakeW : List (Ref sig .tc) := [main_call9_c, main_call9_v0, main_call9_v1, main_call9_c_0, main_call9_v2, main_call9_v3, main_call9_v4, main_call9_v5, main_call9_c_1, main_call9_c_2, main_call9_v6, main_call9_v7, main_call9_v8, main_call9_v9, main_call9_v10, main_call9_v11, main_call9_c_3, main_call9_v12, main_call9_v13, main_call9_cst, main_call9_v14, main_v31]

theorem qTake_keep (X : Valuation τ sig (Elt F)) {r : Ref sig .tc} (hr : r ∉ qTakeW) : after (qTake (F := F)) X (no_index (Proc.devRef .tc r)) = X (Proc.devRef .tc r) :=
  after_of_writes_sub _ X (forall_writes_sub_of_map (W := qTakeW) rfl) hr

/-- What `qOut` writes, in order. -/
abbrev qOutW : List (Ref sig .tc) := [main_v32, main_v33, main_v34, main_v35, main_v36, main_v37, main_v38, main_v39, main_v40]

theorem qOut_keep (X : Valuation τ sig (Elt F)) {r : Ref sig .tc} (hr : r ∉ qOutW) : after (qOut (F := F)) X (no_index (Proc.devRef .tc r)) = X (Proc.devRef .tc r) :=
  after_of_writes_sub _ X (forall_writes_sub_of_map (W := qOutW) rfl) hr

end Cert.ReferenceIdeal.Gen

end
-- ==== Proof.RI.Chain.lean ====
module

public import proofs.«01_k».proof.Proof.RI.Ops

@[expose] public section

set_option maxRecDepth 16384

noncomputable section

namespace Cert.ReferenceIdeal.Gen

open Idealize.ShloMosaic Idealize.ShloMosaic.TcCoe Idealize.ShloMosaic.StableHlo
open Idealize.SL Idealize.SL.RA Idealize.SL.BI Idealize.SL.Sem
open scoped Idealize.SL.BI
open Idealize.SL.BI.BIBase Idealize.SL.BI.Laws Idealize.SL.ProofMode

variable {F : FTy → Type} [FloatOps F]

/-! The reference as one counted loop between stretches of host operations. -/

/-- The stretches before the loop. -/
abbrev preI : List (List (HloOp τ sig (Elt F))) := [pProj, pSilu, pEos, pHotA, pStart, pHotB, pInit]
/-- The stretches of one trip. -/
abbrev bodyI : List (List (HloOp τ sig (Elt F))) := [bProj, bGate, bCell, bLog, bSoft, bArg, bHot, bTok, bProb, bBack]
/-- The stretches after the loop. -/
abbrev postI : List (List (HloOp τ sig (Elt F))) := [qEnd, qSum, qFin, qArg, qNot, qTake, qOut]
/-- The two operations of the loop's condition. -/
abbrev condOps : List (HloOp τ sig (Elt F)) :=
  [StableHlo.nullary main_while0c_c_15 (constantI S_ 32 32#32),
   StableHlo.binary main_v13_5 main_while0c_c_15 main_while0c_v41 (cmpi .slt : (⟨S_, .i32⟩ : BufTy).Contents (Elt F) → (⟨S_, .i32⟩ : BufTy).Contents (Elt F) → (⟨S_, .i1⟩ : BufTy).Contents (Elt F))]

theorem plain_pre : Plain (preI (F := F)) := .cons pProj_sub (.cons pSilu_sub (.cons pEos_sub (.cons pHotA_sub (.cons pStart_sub (.cons pHotB_sub (.cons pInit_sub .nil))))))
theorem plain_body : Plain (bodyI (F := F)) := .cons bProj_sub (.cons bGate_sub (.cons bCell_sub (.cons bLog_sub (.cons bSoft_sub (.cons bArg_sub (.cons bHot_sub (.cons bTok_sub (.cons bProb_sub (.cons bBack_sub .nil)))))))))
theorem plain_post : Plain (postI (F := F)) := .cons qEnd_sub (.cons qSum_sub (.cons qFin_sub (.cons qArg_sub (.cons qNot_sub (.cons qTake_sub (.cons qOut_sub .nil))))))

theorem main_chain (c : Dev nD) : main (F := F) c = Pipeline.chain
    ((preI.map fun ops => (seq ops : Prog _ PUnit)) ++ HostLoop.enter 0 :: postI.map fun ops => (seq ops : Prog _ PUnit)) := by
  simp only [List.map_cons, List.map_nil, List.cons_append, List.nil_append]
  rewrite [StableHlo.chain_seq_cons, Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons]
  chain_rfl

theorem body_chain : main_while0_body (F := F) = Pipeline.chain (bodyI.map fun ops => (seq ops : Prog _ PUnit)) := by
  simp only [List.map_cons, List.map_nil]
  rewrite [StableHlo.chain_seq_cons, StableHlo.chain_seq_cons, StableHlo.chain_seq_cons, StableHlo.chain_seq_cons, StableHlo.chain_seq_cons, Pipeline.chain_cons, Pipeline.chain_cons, Pipeline.chain_cons, Pipeline.chain_cons, StableHlo.chain_seq_cons]
  chain_rfl

end Cert.ReferenceIdeal.Gen

end
-- ==== Proof.RI.Trip.lean ====
module

public import proofs.«01_k».proof.Proof.RI.Reads
public import proofs.«01_k».proof.Proof.RI.Writes
public import proofs.«01_k».proof.Proof.RI.Chain

@[expose] public section

set_option maxRecDepth 16384

noncomputable section

namespace Cert.ReferenceIdeal.Gen

open Idealize.ShloMosaic Idealize.ShloMosaic.TcCoe Idealize.ShloMosaic.StableHlo
open Idealize.SL Idealize.SL.Sem

variable {F : FTy → Type} [FloatOps F]

/-! The carried values of the loop, trip by trip. -/

/-- What the loop carries and changes: the state, the last one-hot rows, and the two records. -/
structure Carried (F : FTy → Type) [FloatOps F] where
  h : Vec F S1024x256 .f32
  tok : Vec F S1024x514 .f32
  toks : Vec F S32x1024x514 .f32
  probs : Vec F S32x1024x513 .f32

/-- What the loop reads and keeps: the gate biases, the two gate weights, the output's weight and bias. -/
structure Params (F : FTy → Type) [FloatOps F] where
  gb : Vec F S2x768 .f32
  gk : Vec F S514x768 .f32
  gr : Vec F S256x768 .f32
  ow : Vec F S256x513 .f32
  ob : Vec F S513 .f32

/-- The state after a trip. -/
def nextH (P : Params F) (s : Carried F) : Vec F S1024x256 .f32 :=
  blend (sigm (addf (colA (projX s.tok P.gk P.gb)) (colA (projH s.h P.gr P.gb))))
    (sigm (addf (colB (projX s.tok P.gk P.gb)) (colB (projH s.h P.gr P.gb))))
    (colC (projX s.tok P.gk P.gb)) (colC (projH s.h P.gr P.gb)) s.h

/-- The probabilities of a trip. -/
def nextP (P : Params F) (s : Carried F) : Vec F S1024x513 .f32 := soft (scores (nextH P s) P.ow P.ob)

/-- One trip, the `k`-th from 0. -/
def advance (P : Params F) (k : ℕ) (s : Carried F) : Carried F where
  h := nextH P s
  tok := hots (best (nextP P s))
  toks := putTok s.toks (hots (best (nextP P s))) (constantI S_ 32 (BitVec.ofNat 32 k))
  probs := putProb s.probs (nextP P s) (constantI S_ 32 (BitVec.ofNat 32 k))

/-- The carried values before trip `k`. -/
def carried (P : Params F) (s : Carried F) : ℕ → Carried F
  | 0 => s
  | k + 1 => advance P k (carried P s k)

/-- A valuation holds the loop's values before trip `k`. -/
def Holds (P : Params F) (s : Carried F) (k : ℕ) (X : Valuation τ sig (Elt F)) : Prop :=
  (X (Proc.devRef .tc main_v13_0) = P.gb ∧ X (Proc.devRef .tc main_v13_1) = P.gk ∧ X (Proc.devRef .tc main_v13_2) = P.gr ∧
    X (Proc.devRef .tc main_v13_3) = P.ow ∧ X (Proc.devRef .tc main_v13_4) = P.ob) ∧
  X (Proc.devRef .tc main_v13_5) = constantI S_ 32 (BitVec.ofNat 32 k) ∧ X (Proc.devRef .tc main_v13_6) = s.h ∧
  X (Proc.devRef .tc main_v13_7) = s.tok ∧ X (Proc.devRef .tc main_v13_8) = s.toks ∧ X (Proc.devRef .tc main_v13_9) = s.probs

/-- What the condition's operations write. -/
abbrev condW : List (Ref sig .tc) := [main_while0c_c_15, main_while0c_v41]

theorem cond_keep (X : Valuation τ sig (Elt F)) {r : Ref sig .tc} (hr : r ∉ condW) : after (condOps (F := F)) X (no_index (Proc.devRef .tc r)) = X (Proc.devRef .tc r) :=
  after_of_writes_sub _ X (forall_writes_sub_of_map (W := condW) rfl) hr

theorem count_succ (k : ℕ) : (addi (constantI S_ 32 (BitVec.ofNat 32 k)) (constantI S_ 32 1#32) : Vec F S_ .i32) = constantI S_ 32 (BitVec.ofNat 32 (k + 1)) := by
  funext i
  show BitVec.ofNat 32 k + 1#32 = BitVec.ofNat 32 (k + 1)
  exact (BitVec.ofNat_add k 1).symm

theorem holds_step (P : Params F) (s : Carried F) (k : ℕ) (X : Valuation τ sig (Elt F)) (h : Holds P s k X) :
    Holds P (advance P k s) (k + 1) (afterL bodyI (after condOps X)) := by
  obtain ⟨⟨h0, h1, h2, h3, h4⟩, h5, h6, h7, h8, h9⟩ := h
  simp only [Holds, bodyI, afterL_cons, afterL_nil]
  refine ⟨⟨?_, ?_, ?_, ?_, ?_⟩, ?_, ?_, ?_, ?_, ?_⟩
  all_goals
    simp (disch := decide) only [bProj_bv48, bProj_bv52, bGate_bv65, bGate_bv72, bGate_bv55, bGate_bv58, bCell_bv80, bLog_bv91, bLog_bv92, bSoft_bv95, bArg_bv96, bHot_bv97, bTok_bv98, bProb_bv99, bBack_v13_5, bBack_v13_6, bBack_v13_7, bBack_v13_8, bBack_v13_9, bProj_keep, bGate_keep, bCell_keep, bLog_keep, bSoft_keep, bArg_keep, bHot_keep, bTok_keep, bProb_keep, bBack_keep, cond_keep, h0, h1, h2, h3, h4, h5, h6, h7, h8, h9, count_succ]
  all_goals rfl

/-- The loop's kept values, of the launch contents. -/
def params (m : (ℓ : Loc nD τ sig) → Buf (Elt F) ℓ) (c : Dev nD) : Params F where
  gb := m ((c : Thread nD τ).loc main_arg5)
  gk := m ((c : Thread nD τ).loc main_arg3)
  gr := m ((c : Thread nD τ).loc main_arg4)
  ow := m ((c : Thread nD τ).loc main_arg6)
  ob := m ((c : Thread nD τ).loc main_arg7)

/-- The carried values before the first trip, of the launch contents. -/
def initial (m : (ℓ : Loc nD τ sig) → Buf (Elt F) ℓ) (c : Dev nD) : Carried F where
  h := silu (startH (m ((c : Thread nD τ).loc main_arg0)) (m ((c : Thread nD τ).loc main_arg1)) (m ((c : Thread nD τ).loc main_arg2)))
  tok := startTok (hotRow (constantI S_ 32 513#32))
  toks := broadcastInDim S32x1024x514 ![] bcast_S_S32x1024x514 (constant (F := F) S_ .f32 0x00000000#32)
  probs := broadcastInDim S32x1024x513 ![] bcast_S_S32x1024x513 (constant (F := F) S_ .f32 0x00000000#32)

theorem holds_entry (m : (ℓ : Loc nD τ sig) → Buf (Elt F) ℓ) (c : Dev nD) : Holds (params m c) (initial m c) 0 (entryContents preI m c) := by
  simp only [Holds, preI, afterL_cons, afterL_nil, entryContents]
  refine ⟨⟨?_, ?_, ?_, ?_, ?_⟩, ?_, ?_, ?_, ?_, ?_⟩
  all_goals
    simp (disch := decide) only [pProj_v3, pSilu_v4, pEos_c, pHotA_v5, pStart_v9, pStart_c_0, pHotB_v10, pInit_v13_0, pInit_v13_1, pInit_v13_2, pInit_v13_3, pInit_v13_4, pInit_v13_5, pInit_v13_6, pInit_v13_7, pInit_v13_8, pInit_v13_9, pProj_keep, pSilu_keep, pEos_keep, pHotA_keep, pStart_keep, pHotB_keep, pInit_keep]
  all_goals rfl

theorem holds_trip (m : (ℓ : Loc nD τ sig) → Buf (Elt F) ℓ) (c : Dev nD) (k : ℕ) :
    Holds (params m c) (carried (params m c) (initial m c) k) k (atTrip condOps bodyI (entryContents preI m) k c) := by
  induction k with
  | zero => exact holds_entry m c
  | succ k ih => rw [atTrip_succ]; exact holds_step _ _ _ _ ih

end Cert.ReferenceIdeal.Gen

end
-- ==== Proof.RI.Run.lean ====
module

public import proofs.«01_k».proof.Proof.RI.Trip
public import Idealize.ShloMosaic.Lib.Scf.ExitTest
public import Idealize.ShloMosaic.Lib.Scf.Counter
public import Idealize.ShloMosaic.Lib.Quiescent
public import Idealize.ShloMosaic.Lib.StableHlo.RunHlo

@[expose] public section

set_option maxRecDepth 16384

noncomputable section

namespace Cert.ReferenceIdeal.Gen

open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (sub_ucRefs ucRefs)

variable {F : FTy → Type} [FloatOps F]

/-! The reference's run: the loop's condition, the loop, and the results. -/

theorem count_below (k : ℕ) (hk : k ≤ 32) : IntOp.cmpi .slt (BitVec.ofNat 32 k) 32#32 = 1#1 ↔ k < 32 := by
  have h : ∀ j : Fin 33, IntOp.cmpi .slt (BitVec.ofNat 32 j.val) 32#32 = 1#1 ↔ j.val < 32 := by decide
  exact h ⟨k, Nat.lt_succ_of_le hk⟩

set_option backward.isDefEq.respectTransparency.types false in
theorem cond_spec (m : (ℓ : Loc nD τ sig) → Buf (Elt F) ℓ) :
    CondSpec pcfgs defs₀ loops main_while0_cond condOps bodyI (entryContents (preI (F := F)) m) 32 := by
  intro k hk c bd
  have hctr := (holds_trip m c k).2.1
  simp only [main_while0_cond, bind_pure]
  rw [wp_bind]
  iintro ⟨Hb, Hh⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condOps bodyI (entryContents preI m) k c) main_v13_5 HostLoop.idx0)
        (HloOp.result _ (atTrip condOps bodyI (entryContents preI m) k c) main_while0c_c_15 HostLoop.idx0) = 1#1) (k < 32)
    rw [StableHlo.nullary_result_ne _ _ _ _ (by decide), StableHlo.nullary_result, hctr]
    exact count_below k hk
  isplitl [Hb]; · iexact Hb
  rw [StableHlo.after_cons, StableHlo.after_cons, StableHlo.after_nil]; iexact Hh

/-- The records after the loop. -/
def final (m : (ℓ : Loc nD τ sig) → Buf (Elt F) ℓ) (c : Dev nD) : Carried F := carried (params m c) (initial m c) 32

/-- The one-hot rows, the batch first. -/
def outTok (m : (ℓ : Loc nD τ sig) → Buf (Elt F) ℓ) (c : Dev nD) : Vec F S1024x32x514 .f32 := rowsTok (final m c).toks

/-- Finished at or before a trip. -/
def ended (m : (ℓ : Loc nD τ sig) → Buf (Elt F) ℓ) (c : Dev nD) : Vec F S1024x32 .i1 :=
  done (running (isEnd (outTok m c) (hotRow (constantI S_ 32 512#32))))

/-- The result `main_v34`: the symbols. -/
def resSym (m : (ℓ : Loc nD τ sig) → Buf (Elt F) ℓ) (c : Dev nD) : Vec F S1024x32 .i32 :=
  muli (symbols (outTok m c)) (extui 32 (noti (before (ended m c))) natLt_1_32)

/-- The result `main_v38`: the one-hot rows. -/
def resTok (m : (ℓ : Loc nD τ sig) → Buf (Elt F) ℓ) (c : Dev nD) : Vec F S1024x32x514 .f32 := mulf (outTok m c) (marks (noti (ended m c)))

/-- The result `main_v40`: the probabilities. -/
def resProb (m : (ℓ : Loc nD τ sig) → Buf (Elt F) ℓ) (c : Dev nD) : Vec F S1024x32 .f32 :=
  mulf (shapeCast S1024x32 (entries (rowsProb (final m c).probs) (broadcastInDim S1024x32x1 ![0, 1] bcast_S1024x32_S1024x32x1_0_1 (symbols (outTok m c)))) shapeCasts_S1024x32x1_S1024x32)
    (uitofp .f32 (noti (before (ended m c))))

/-- A reference that no stretch of the loop's trip writes keeps its contents through the loop. -/
theorem trip_keep (m : (ℓ : Loc nD τ sig) → Buf (Elt F) ℓ) (c : Dev nD) {r : Ref sig .tc} (hc : r ∉ condW)
    (h0 : r ∉ bProjW) (h1 : r ∉ bGateW) (h2 : r ∉ bCellW) (h3 : r ∉ bLogW) (h4 : r ∉ bSoftW) (h5 : r ∉ bArgW) (h6 : r ∉ bHotW) (h7 : r ∉ bTokW) (h8 : r ∉ bProbW) (h9 : r ∉ bBackW) (k : ℕ) :
    atTrip condOps bodyI (entryContents (preI (F := F)) m) k c (Proc.devRef .tc r) = entryContents preI m c (Proc.devRef .tc r) := by
  induction k with
  | zero => rfl
  | succ k ih =>
    rw [atTrip_succ]
    refine Eq.trans ?_ ih
    simp only [bodyI, afterL_cons, afterL_nil]
    rw [bBack_keep _ h9, bProb_keep _ h8, bTok_keep _ h7, bHot_keep _ h6, bArg_keep _ h5, bSoft_keep _ h4, bLog_keep _ h3, bCell_keep _ h2, bGate_keep _ h1, bProj_keep _ h0, cond_keep _ hc]

theorem hotB_entry (m : (ℓ : Loc nD τ sig) → Buf (Elt F) ℓ) (c : Dev nD) :
    atTrip condOps bodyI (entryContents (preI (F := F)) m) 32 c (Proc.devRef .tc main_v10) = hotRow (constantI S_ 32 512#32) := by
  rw [trip_keep m c (by decide) (by decide) (by decide) (by decide) (by decide) (by decide) (by decide) (by decide) (by decide) (by decide) (by decide)]
  simp (disch := decide) only [preI, afterL_cons, afterL_nil, entryContents, pProj_v3, pSilu_v4, pEos_c, pHotA_v5, pStart_v9, pStart_c_0, pHotB_v10, pInit_v13_0, pInit_v13_1, pInit_v13_2, pInit_v13_3, pInit_v13_4, pInit_v13_5, pInit_v13_6, pInit_v13_7, pInit_v13_8, pInit_v13_9, pProj_keep, pSilu_keep, pEos_keep, pHotA_keep, pStart_keep, pHotB_keep, pInit_keep]

theorem arg_entry (m : (ℓ : Loc nD τ sig) → Buf (Elt F) ℓ) (c : Dev nD) {r : Ref sig .tc}
    (hc : r ∉ condW) (hpProj : r ∉ pProjW) (hpSilu : r ∉ pSiluW) (hpEos : r ∉ pEosW) (hpHotA : r ∉ pHotAW) (hpStart : r ∉ pStartW) (hpHotB : r ∉ pHotBW) (hpInit : r ∉ pInitW) (hbProj : r ∉ bProjW) (hbGate : r ∉ bGateW) (hbCell : r ∉ bCellW) (hbLog : r ∉ bLogW) (hbSoft : r ∉ bSoftW) (hbArg : r ∉ bArgW) (hbHot : r ∉ bHotW) (hbTok : r ∉ bTokW) (hbProb : r ∉ bProbW) (hbBack : r ∉ bBackW) (hqEnd : r ∉ qEndW) (hqSum : r ∉ qSumW) (hqFin : r ∉ qFinW) (hqArg : r ∉ qArgW) (hqNot : r ∉ qNotW) (hqTake : r ∉ qTakeW) (hqOut : r ∉ qOutW) :
    finalContents condOps (preI (F := F)) bodyI postI 32 m c (Proc.devRef .tc r) = m ((c : Thread nD τ).loc r) := by
  simp only [finalContents, postI, afterL_cons, afterL_nil]
  rw [qOut_keep _ hqOut, qTake_keep _ hqTake, qNot_keep _ hqNot, qArg_keep _ hqArg, qFin_keep _ hqFin, qSum_keep _ hqSum, qEnd_keep _ hqEnd, cond_keep _ hc, trip_keep m c hc hbProj hbGate hbCell hbLog hbSoft hbArg hbHot hbTok hbProb hbBack]
  simp only [entryContents, preI, afterL_cons, afterL_nil]
  rw [pInit_keep _ hpInit, pHotB_keep _ hpHotB, pStart_keep _ hpStart, pHotA_keep _ hpHotA, pEos_keep _ hpEos, pSilu_keep _ hpSilu, pProj_keep _ hpProj]

theorem final_sym (m : (ℓ : Loc nD τ sig) → Buf (Elt F) ℓ) (c : Dev nD) :
    finalContents condOps (preI (F := F)) bodyI postI 32 m c (Proc.devRef .tc main_v34) = resSym m c := by
  obtain ⟨-, -, -, -, h8, h9⟩ := holds_trip m c 32
  have h10 := hotB_entry m c
  simp (disch := decide) only [finalContents, postI, afterL_cons, afterL_nil, qEnd_v14, qEnd_v15, qEnd_v20, qSum_v21, qFin_v23, qFin_v26, qArg_v27, qNot_v28, qNot_v29, qNot_v30, qTake_v31, qOut_v34, qOut_v38, qOut_v40, qEnd_keep, qSum_keep, qFin_keep, qArg_keep, qNot_keep, qTake_keep, qOut_keep, cond_keep, h8, h9, h10]
  rfl

theorem final_tok (m : (ℓ : Loc nD τ sig) → Buf (Elt F) ℓ) (c : Dev nD) :
    finalContents condOps (preI (F := F)) bodyI postI 32 m c (Proc.devRef .tc main_v38) = resTok m c := by
  obtain ⟨-, -, -, -, h8, h9⟩ := holds_trip m c 32
  have h10 := hotB_entry m c
  simp (disch := decide) only [finalContents, postI, afterL_cons, afterL_nil, qEnd_v14, qEnd_v15, qEnd_v20, qSum_v21, qFin_v23, qFin_v26, qArg_v27, qNot_v28, qNot_v29, qNot_v30, qTake_v31, qOut_v34, qOut_v38, qOut_v40, qEnd_keep, qSum_keep, qFin_keep, qArg_keep, qNot_keep, qTake_keep, qOut_keep, cond_keep, h8, h9, h10]
  rfl

theorem final_prob (m : (ℓ : Loc nD τ sig) → Buf (Elt F) ℓ) (c : Dev nD) :
    finalContents condOps (preI (F := F)) bodyI postI 32 m c (Proc.devRef .tc main_v40) = resProb m c := by
  obtain ⟨-, -, -, -, h8, h9⟩ := holds_trip m c 32
  have h10 := hotB_entry m c
  simp (disch := decide) only [finalContents, postI, afterL_cons, afterL_nil, qEnd_v14, qEnd_v15, qEnd_v20, qSum_v21, qFin_v23, qFin_v26, qArg_v27, qNot_v28, qNot_v29, qNot_v30, qTake_v31, qOut_v34, qOut_v38, qOut_v40, qEnd_keep, qSum_keep, qFin_keep, qArg_keep, qNot_keep, qTake_keep, qOut_keep, cond_keep, h8, h9, h10]
  rfl

/-- The reference's run: it ends, its arguments unchanged, its results as named, every counter at zero. -/
theorem run_values [∀ e, Nonempty (Elt F e)] (m : (ℓ : Loc nD τ sig) → Buf (Elt F) ℓ) (ρ : Dev nD → PrngReg) :
    θ_run (defs (F := F)) (onTc (main (F := F))) ⟨m, fun _ => 0, ρ⟩ (fun r => (∀ c : Dev nD, (r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6) ∧ r.2.mem ((c : Thread nD τ).loc main_arg7) = m ((c : Thread nD τ).loc main_arg7)) ∧
      r.2.mem ((c : Thread nD τ).loc main_v34) = resSym m c ∧ r.2.mem ((c : Thread nD τ).loc main_v38) = resTok m c ∧
      r.2.mem ((c : Thread nD τ).loc main_v40) = resProb m c) ∧ r.2.sem = fun _ => 0) := by
  refine (θ_run defs _ _).mono ?_ (run_loop pcfgs defs₀ loops main 0 main_while0_cond main_while0_body rfl preI bodyI postI condOps
    plain_pre plain_body plain_post main_chain body_chain 32 m ρ (cond_spec m))
  intro r h
  refine ⟨fun c => ⟨⟨?_, ?_, ?_, ?_, ?_, ?_, ?_, ?_⟩, ?_, ?_, ?_⟩, Idealize.ShloMosaic.sem_eq_zero_of_no_sems (by decide) r.2⟩
  · exact (h c main_arg0 rfl).trans (arg_entry m c (by decide) (by decide) (by decide) (by decide) (by decide) (by decide) (by decide) (by decide) (by decide) (by decide) (by decide) (by decide) (by decide) (by decide) (by decide) (by decide) (by decide) (by decide) (by decide) (by decide) (by decide) (by decide) (by decide) (by decide) (by decide))
  · exact (h c main_arg1 rfl).trans (arg_entry m c (by decide) (by decide) (by decide) (by decide) (by decide) (by decide) (by decide) (by decide) (by decide) (by decide) (by decide) (by decide) (by decide) (by decide) (by decide) (by decide) (by decide) (by decide) (by decide) (by decide) (by decide) (by decide) (by decide) (by decide) (by decide))
  · exact (h c main_arg2 rfl).trans (arg_entry m c (by decide) (by decide) (by decide) (by decide) (by decide) (by decide) (by decide) (by decide) (by decide) (by decide) (by decide) (by decide) (by decide) (by decide) (by decide) (by decide) (by decide) (by decide) (by decide) (by decide) (by decide) (by decide) (by decide) (by decide) (by decide))
  · exact (h c main_arg3 rfl).trans (arg_entry m c (by decide) (by decide) (by decide) (by decide) (by decide) (by decide) (by decide) (by decide) (by decide) (by decide) (by decide) (by decide) (by decide) (by decide) (by decide) (by decide) (by decide) (by decide) (by decide) (by decide) (by decide) (by decide) (by decide) (by decide) (by decide))
  · exact (h c main_arg4 rfl).trans (arg_entry m c (by decide) (by decide) (by decide) (by decide) (by decide) (by decide) (by decide) (by decide) (by decide) (by decide) (by decide) (by decide) (by decide) (by decide) (by decide) (by decide) (by decide) (by decide) (by decide) (by decide) (by decide) (by decide) (by decide) (by decide) (by decide))
  · exact (h c main_arg5 rfl).trans (arg_entry m c (by decide) (by decide) (by decide) (by decide) (by decide) (by decide) (by decide) (by decide) (by decide) (by decide) (by decide) (by decide) (by decide) (by decide) (by decide) (by decide) (by decide) (by decide) (by decide) (by decide) (by decide) (by decide) (by decide) (by decide) (by decide))
  · exact (h c main_arg6 rfl).trans (arg_entry m c (by decide) (by decide) (by decide) (by decide) (by decide) (by decide) (by decide) (by decide) (by decide) (by decide) (by decide) (by decide) (by decide) (by decide) (by decide) (by decide) (by decide) (by decide) (by decide) (by decide) (by decide) (by decide) (by decide) (by decide) (by decide))
  · exact (h c main_arg7 rfl).trans (arg_entry m c (by decide) (by decide) (by decide) (by decide) (by decide) (by decide) (by decide) (by decide) (by decide) (by decide) (by decide) (by decide) (by decide) (by decide) (by decide) (by decide) (by decide) (by decide) (by decide) (by decide) (by decide) (by decide) (by decide) (by decide) (by decide))
  · exact (h c main_v34 rfl).trans (final_sym m c)
  · exact (h c main_v38 rfl).trans (final_tok m c)
  · exact (h c main_v40 rfl).trans (final_prob m c)

end Cert.ReferenceIdeal.Gen

end
-- ==== Proof.Frames.lean ====
module

public import proofs.«01_k».proof.Proof.KI.Run
public import proofs.«01_k».proof.Proof.RI.Run
public import proofs.«01_k».proof.Proof.Gen.Kernel
public import proofs.«01_k».proof.Defs
public import proofs.«01_k».proof.Proof.Gen.KernelIdeal
public import proofs.«01_k».proof.Proof.Gen.ReferenceIdeal

@[expose] public section

set_option maxRecDepth 16384

noncomputable section

namespace Cert.Frames

open Idealize.ShloMosaic Idealize.SL.Sem

/-- Reading a named constant as its own word makes the rewritten program the original one. -/
@[instance_reducible] def wordNamed : Named Bits := ⟨fun _ _ {φ} bits => Scalar.ofBits φ bits⟩

theorem sig_eq : Cert.Kernel.sig = Cert.KernelIdeal.sig := rfl

attribute [local instance] wordNamed

theorem body_eq : @Cert.Kernel.cc0__loop_kernel Bits _ _ = @Cert.KernelIdeal.cc0__loop_kernel Bits _ wordNamed _ := rfl

theorem pcfgs_eq : Cert.Kernel.pcfgs (F := Bits) = Cert.KernelIdeal.pcfgs (F := Bits) := rfl

theorem defs0_eq : Cert.Kernel.defs₀ (F := Bits) = Cert.KernelIdeal.defs₀ (F := Bits) := by
  unfold Cert.Kernel.defs₀ Cert.KernelIdeal.defs₀
  congr 1
  funext a b
  rcases a with ⟨_ | _, h⟩
  · rfl
  · exact absurd h (Nat.not_lt.2 (Nat.le_add_left _ _))

theorem main_eq : Cert.Kernel.main (F := Bits) = Cert.KernelIdeal.main (F := Bits) := rfl

theorem defs_eq : Cert.Kernel.defs (F := Bits) = Cert.KernelIdeal.defs (F := Bits) :=
  congrArg (Pipeline.defs (Cert.KernelIdeal.pcfgs (F := Bits))) defs0_eq

/-- The kernel runs, its arguments end unchanged and the counters are back at zero. -/
theorem frame_p : Cert.quiescent_Kernel := fun m g _ => by
  rw [defs_eq, main_eq]
  exact (θ_run _ _ _).mono (fun r h => ⟨fun c => (h.1 c).1, h.2⟩) (Cert.KernelIdeal.Gen.run_values (F := Bits) m g)

/-- The kernel over the extended reals runs, its arguments end unchanged and the counters are back at zero. -/
theorem frame_pi : Cert.quiescent_KernelIdeal := fun m g _ =>
  (θ_run _ _ _).mono (fun r h => ⟨fun c => (h.1 c).1, h.2⟩) (Cert.KernelIdeal.Gen.run_values (F := Ideal) m g)

/-- The reference runs, its arguments end unchanged and the counters are back at zero. -/
theorem frame_ri : Cert.quiescent_ReferenceIdeal := fun m g _ =>
  (θ_run _ _ _).mono (fun r h => ⟨fun c => (h.1 c).1, h.2⟩) (Cert.ReferenceIdeal.Gen.run_values (F := Ideal) m g)

/-- The named constant is the table's value. -/
theorem preserves : Cert.preserves_Kernel_KernelIdeal :=
  IdealRules.named_const.statement _ _ _ _ _ rfl

end Cert.Frames

end
-- ==== Proof.VM.First.lean ====
module

public import Idealize.ShloMosaic.Lib.Pipeline.ValueKit
public import Idealize.ShloMosaic.PureOps.Ideal.Laws
public import Idealize.ShloMosaic.PureOps.Reduce

@[expose] public section

noncomputable section

namespace Cert.Greedy

open Idealize.ShloMosaic

/-! The first position of a row's largest entry, and the two programs' ways to find it. -/

/-- `p` is the first position at which the row attains its maximum. -/
def IsFirst {n : ℕ} (l : Fin n → EReal) (p : Fin n) : Prop := (∀ j, l j ≤ l p) ∧ ∀ j, l j = l p → p ≤ j

theorem IsFirst.unique {n : ℕ} {l : Fin n → EReal} {p q : Fin n} (hp : IsFirst l p) (hq : IsFirst l q) : p = q :=
  le_antisymm (hp.2 q (le_antisymm (hp.1 q) (hq.1 p))) (hq.2 p (le_antisymm (hq.1 p) (hp.1 q)))

theorem exists_isFirst {n : ℕ} (hn : 0 < n) (l : Fin n → EReal) : ∃ p, IsFirst l p := by
  classical
  haveI : Nonempty (Fin n) := ⟨⟨0, hn⟩⟩
  obtain ⟨m, hm⟩ := Finite.exists_max l
  have hne : (Finset.univ.filter fun j => l j = l m).Nonempty := ⟨m, by simp⟩
  have h := Finset.min'_mem _ hne
  rw [Finset.mem_filter] at h
  refine ⟨(Finset.univ.filter fun j => l j = l m).min' hne, fun j => ?_, fun j hj => ?_⟩
  · rw [h.2]; exact hm j
  · exact Finset.min'_le _ _ (by rw [Finset.mem_filter]; exact ⟨Finset.mem_univ _, hj.trans h.2⟩)

/-- The first position of the maximum. -/
def first {n : ℕ} (l : Fin (n + 1) → EReal) : Fin (n + 1) := Classical.choose (exists_isFirst n.succ_pos l)

theorem first_spec {n : ℕ} (l : Fin (n + 1) → EReal) : IsFirst l (first l) := Classical.choose_spec (exists_isFirst n.succ_pos l)

theorem first_eq {n : ℕ} {l : Fin (n + 1) → EReal} {p : Fin (n + 1)} (h : IsFirst l p) : first l = p := (first_spec l).unique h

/-- The maximum by folding. -/
theorem fold_max_first {n : ℕ} {l : Fin n → EReal} {p : Fin n} (h : IsFirst l p) :
    (Finset.univ : Finset (Fin n)).fold max ⊥ l = l p := by
  apply le_antisymm
  · rw [Finset.fold_max_le]; exact ⟨bot_le, fun j _ => h.1 j⟩
  · rw [Finset.le_fold_max]; exact Or.inr ⟨p, Finset.mem_univ _, le_rfl⟩

theorem toInt_ofNat {k : ℕ} (h : k < 2 ^ 31) : (BitVec.ofNat 32 k).toInt = k := by
  rw [BitVec.toInt_eq_toNat_of_lt (by simp [BitVec.toNat_ofNat]; omega), BitVec.toNat_ofNat, Nat.mod_eq_of_lt (by omega)]

/-- A fold of the signed minimum is below every entry, and is one of them. -/
theorem fold_minsi_spec {ι : Type} (S : Finset ι) (f : ι → BitVec 32) (z : BitVec 32) :
    (S.fold IKind.minsi.op z f).toInt ≤ z.toInt ∧ (∀ k ∈ S, (S.fold IKind.minsi.op z f).toInt ≤ (f k).toInt) ∧
      (S.fold IKind.minsi.op z f = z ∨ ∃ k ∈ S, S.fold IKind.minsi.op z f = f k) := by
  classical
  have key : ∀ a b : BitVec 32, (IKind.minsi.op a b = a ∧ a.toInt ≤ b.toInt) ∨ (IKind.minsi.op a b = b ∧ b.toInt ≤ a.toInt) := by
    intro a b
    simp only [IKind.op, IntOp.minsi, BitVec.slt]
    by_cases h : a.toInt < b.toInt
    · left; simp [h]; omega
    · by_cases h' : b.toInt < a.toInt
      · right; simp [h, h']; omega
      · have e : a = b := BitVec.eq_of_toInt_eq (by omega)
        subst e; left; simp
  induction S using Finset.induction with
  | empty => simp
  | insert a S ha ih =>
    rw [Finset.fold_insert ha]
    obtain ⟨h1, h2, h3⟩ := ih
    rcases key (f a) (S.fold IKind.minsi.op z f) with ⟨e, hle⟩ | ⟨e, hle⟩
    · rw [e]
      refine ⟨hle.trans h1, fun k hk => ?_, Or.inr ⟨a, Finset.mem_insert_self _ _, rfl⟩⟩
      rcases Finset.mem_insert.1 hk with rfl | hk
      · exact le_rfl
      · exact hle.trans (h2 k hk)
    · rw [e]
      refine ⟨h1, fun k hk => ?_, ?_⟩
      · rcases Finset.mem_insert.1 hk with rfl | hk
        · exact hle
        · exact h2 k hk
      · rcases h3 with h3 | ⟨k, hk, h3⟩
        · exact Or.inl h3
        · exact Or.inr ⟨k, Finset.mem_insert_of_mem hk, h3⟩

/-- The least position that attains the maximum, by the signed minimum of the positions with a large word elsewhere. -/
theorem fold_minsi_first {n : ℕ} (hn : n ≤ 2 ^ 30) {l : Fin n → EReal} {p : Fin n} (h : IsFirst l p) (f : Fin n → BitVec 32)
    (hf : ∀ k, f k = if l k = l p then BitVec.ofNat 32 k.val else 1073741824#32) :
    (Finset.univ : Finset (Fin n)).fold IKind.minsi.op 2147483647#32 f = BitVec.ofNat 32 p.val := by
  obtain ⟨h1, h2, h3⟩ := fold_minsi_spec Finset.univ f 2147483647#32
  have hp := h2 p (Finset.mem_univ _)
  rw [hf p, if_pos rfl, toInt_ofNat (by have := p.isLt; omega)] at hp
  have hpl := p.isLt
  rcases h3 with h3 | ⟨k, -, h3⟩
  · rw [h3] at hp
    have e : (2147483647#32 : BitVec 32).toInt = 2147483647 := by decide
    omega
  · rw [h3] at hp ⊢
    rw [hf k] at hp ⊢
    split_ifs at hp ⊢ with hk
    · rw [toInt_ofNat (by have := k.isLt; omega)] at hp
      have := h.2 k hk
      have : k = p := le_antisymm (by rw [Fin.le_def]; omega) this
      rw [this]
    · have e : (1073741824#32 : BitVec 32).toInt = 1073741824 := by decide
      omega

/-- What a fold of an arg-max body leaves: a pair no entry exceeds and, among equals, none precedes. -/
theorem foldl_arg_spec (f : EReal × BitVec 32 → EReal × BitVec 32 → EReal × BitVec 32)
    (hfst : ∀ a b, b.1 < a.1 → f a b = a) (hsnd : ∀ a b, a.1 < b.1 → f a b = b)
    (htie : ∀ a b, a.1 = b.1 → f a b = if a.2.toInt < b.2.toInt then a else b)
    (L : List (EReal × BitVec 32)) (z : EReal × BitVec 32) :
    (L.foldl f z = z ∨ L.foldl f z ∈ L) ∧
      ∀ a, a = z ∨ a ∈ L → a.1 ≤ (L.foldl f z).1 ∧ (a.1 = (L.foldl f z).1 → (L.foldl f z).2.toInt ≤ a.2.toInt) := by
  have key : ∀ a b, (f a b = a ∨ f a b = b) ∧ (∀ c, c = a ∨ c = b → c.1 ≤ (f a b).1 ∧ (c.1 = (f a b).1 → (f a b).2.toInt ≤ c.2.toInt)) := by
    intro a b
    rcases lt_trichotomy a.1 b.1 with h | h | h
    · rw [hsnd a b h]
      refine ⟨Or.inr rfl, ?_⟩
      rintro c (rfl | rfl)
      · exact ⟨h.le, fun e => absurd e h.ne⟩
      · exact ⟨le_rfl, fun _ => le_rfl⟩
    · rw [htie a b h]
      split_ifs with hi
      · refine ⟨Or.inl rfl, ?_⟩
        rintro c (rfl | rfl)
        · exact ⟨le_rfl, fun _ => le_rfl⟩
        · exact ⟨h.ge, fun _ => hi.le⟩
      · refine ⟨Or.inr rfl, ?_⟩
        rintro c (rfl | rfl)
        · exact ⟨h.le, fun _ => not_lt.1 hi⟩
        · exact ⟨le_rfl, fun _ => le_rfl⟩
    · rw [hfst a b h]
      refine ⟨Or.inl rfl, ?_⟩
      rintro c (rfl | rfl)
      · exact ⟨le_rfl, fun _ => le_rfl⟩
      · exact ⟨h.le, fun e => absurd e h.ne⟩
  induction L generalizing z with
  | nil => simp
  | cons b L ih =>
    obtain ⟨k1, k2⟩ := key z b
    obtain ⟨i1, i2⟩ := ih (f z b)
    rw [List.foldl_cons]
    constructor
    · rcases i1 with i1 | i1
      · rw [i1]
        rcases k1 with k1 | k1
        · exact Or.inl k1
        · rw [k1]; exact Or.inr List.mem_cons_self
      · exact Or.inr (List.mem_cons_of_mem _ i1)
    · have step : ∀ a, a = z ∨ a = b → a.1 ≤ (L.foldl f (f z b)).1 ∧
          (a.1 = (L.foldl f (f z b)).1 → (L.foldl f (f z b)).2.toInt ≤ a.2.toInt) := by
        intro a ha
        obtain ⟨u1, u2⟩ := k2 a ha
        obtain ⟨w1, w2⟩ := i2 (f z b) (Or.inl rfl)
        refine ⟨u1.trans w1, fun e => ?_⟩
        have e1 : (f z b).1 = (L.foldl f (f z b)).1 := le_antisymm w1 (e ▸ u1)
        exact (w2 e1).trans (u2 (e.trans e1.symm))
      rintro a (ha | ha)
      · exact step a (Or.inl ha)
      · rcases List.mem_cons.1 ha with ha | ha
        · exact step a (Or.inr ha)
        · exact i2 a (Or.inr ha)

/-- The host's arg-max along one axis, from minus infinity, at a row whose maximum is above minus infinity. -/
theorem argReduce_first {s t u : Shape} {a : Fin s.rank} (f : EReal × BitVec 32 → EReal × BitVec 32 → EReal × BitVec 32)
    (hfst : ∀ a b, b.1 < a.1 → f a b = a) (hsnd : ∀ a b, a.1 < b.1 → f a b = b)
    (htie : ∀ a b, a.1 = b.1 → f a b = if a.2.toInt < b.2.toInt then a else b)
    (x : FVec Ideal s .f32) (y : s.Idx → BitVec 32) (ix : u.Idx → Ideal .f32) (iy : u.Idx → BitVec 32)
    (h : s.ReducesTo [a] t) (h' : s.Reduces [a] t) (hu : 0 < u.numel) (hix : ix (Shape.Idx.first hu) = ⊥) (j : t.Idx)
    (hs : s.size a ≤ 2 ^ 31) (hy : ∀ k : Fin (s.size a), y (h'.lift j k) = BitVec.ofNat 32 k.val) (p : Fin (s.size a))
    (hp : IsFirst (fun k => x (h'.lift j k)) p) (hb : (⊥ : EReal) < x (h'.lift j p)) :
    (Host.argReduce f x y ix iy h hu j).2 = BitVec.ofNat 32 p.val := by
  rw [Ideal.argReduce_eq_reduce2, Host.reduce2_eq_foldl_fiber, hix]
  obtain ⟨s1, s2⟩ := foldl_arg_spec f hfst hsnd htie (Host.argReduceFiber x y h j) (⊥, iy (Shape.Idx.first hu))
  have mem : ∀ k : Fin (s.size a), (x (h'.lift j k), BitVec.ofNat 32 k.val) ∈ Host.argReduceFiber x y h j := by
    intro k
    unfold Host.argReduceFiber
    rw [List.mem_map]
    refine ⟨s.rowMajor (h'.lift j k), ?_, ?_⟩
    · rw [List.mem_filter]
      refine ⟨List.mem_finRange _, ?_⟩
      rw [Equiv.symm_apply_apply, decide_eq_true_eq, Shape.ReducesTo.drop_eq_drop h h', h'.drop_lift]
    · rw [Equiv.symm_apply_apply, hy]
  have mem' : ∀ r ∈ Host.argReduceFiber x y h j, ∃ k : Fin (s.size a), r = (x (h'.lift j k), BitVec.ofNat 32 k.val) := by
    intro r hr
    unfold Host.argReduceFiber at hr
    rw [List.mem_map] at hr
    obtain ⟨n, hn, rfl⟩ := hr
    rw [List.mem_filter, decide_eq_true_eq, Shape.ReducesTo.drop_eq_drop h h'] at hn
    have e : h'.lift j (s.rowMajor.symm n a) = s.rowMajor.symm n := by rw [← hn.2, h'.lift_drop]
    exact ⟨s.rowMajor.symm n a, by rw [← hy, e]⟩
  obtain ⟨b1, b2⟩ := s2 _ (Or.inr (mem p))
  rcases s1 with s1 | s1
  · rw [s1] at b1
    exact absurd b1 (not_le.2 hb)
  · obtain ⟨k, hk⟩ := mem' _ s1
    rw [hk] at b1 b2 ⊢
    have e : x (h'.lift j p) = x (h'.lift j k) := le_antisymm b1 (hp.1 k)
    have hle := b2 e
    simp only [] at hle
    rw [toInt_ofNat (by have := k.isLt; omega), toInt_ofNat (by have := p.isLt; omega)] at hle
    have hkp : k = p := le_antisymm (by rw [Fin.le_def]; omega) (hp.2 k e.symm)
    rw [hkp]

/-- The same with the reduced fiber given by its indices. -/
theorem argReduce_fiber {s t u : Shape} {a : Fin s.rank} {n : ℕ} (hn : s.size a = n) (f : EReal × BitVec 32 → EReal × BitVec 32 → EReal × BitVec 32)
    (hfst : ∀ a b, b.1 < a.1 → f a b = a) (hsnd : ∀ a b, a.1 < b.1 → f a b = b)
    (htie : ∀ a b, a.1 = b.1 → f a b = if a.2.toInt < b.2.toInt then a else b)
    (x : FVec Ideal s .f32) (y : s.Idx → BitVec 32) (ix : u.Idx → Ideal .f32) (iy : u.Idx → BitVec 32)
    (h : s.ReducesTo [a] t) (h' : s.Reduces [a] t) (hu : 0 < u.numel) (hix : ix (Shape.Idx.first hu) = ⊥) (j : t.Idx)
    (g : Fin n → s.Idx) (hg : ∀ k, h'.lift j k = g (k.cast hn)) (hs : n ≤ 2 ^ 31) (hy : ∀ k : Fin n, y (g k) = BitVec.ofNat 32 k.val) (p : Fin n)
    (hp : IsFirst (fun k => x (g k)) p) (hb : (⊥ : EReal) < x (g p)) :
    (Host.argReduce f x y ix iy h hu j).2 = BitVec.ofNat 32 p.val := by
  subst hn
  obtain rfl : (fun k => h'.lift j k) = g := funext hg
  exact argReduce_first f hfst hsnd htie x y ix iy h h' hu hix j hs hy p hp hb

end Cert.Greedy

end
-- ==== Proof.VM.Row.lean ====
module

public import proofs.«01_k».proof.Proof.VM.First

@[expose] public section

noncomputable section

namespace Cert.Greedy

open Idealize.ShloMosaic

/-! The decoder on one row of the batch, over the extended reals. -/

/-- A value that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem coe_sum {ι : Type} (S : Finset ι) (r : ι → ℝ) : ((∑ i ∈ S, r i : ℝ) : EReal) = ∑ i ∈ S, (r i : EReal) := by
  classical
  induction S using Finset.induction with
  | empty => simp
  | insert a S ha ih => rw [Finset.sum_insert ha, Finset.sum_insert ha, EReal.coe_add, ih]

theorem IsReal.sum {ι : Type} (S : Finset ι) {f : ι → EReal} (h : ∀ i, IsReal (f i)) : IsReal (∑ i ∈ S, f i) := by
  choose r hr using h
  exact ⟨∑ i ∈ S, r i, by rw [coe_sum]; exact Finset.sum_congr rfl fun i _ => hr i⟩

theorem IsReal.one : IsReal 1 := ⟨1, rfl⟩

theorem isReal_tanh (x : EReal) : IsReal (Ideal.tanh x) := by
  induction x using EReal.rec with
  | bot => exact ⟨-1, rfl⟩
  | top => exact ⟨1, rfl⟩
  | coe r => exact ⟨Real.tanh r, rfl⟩

theorem isReal_logistic (x : EReal) : IsReal (Ideal.logistic x) := by
  have key : ∀ r : ℝ, 0 ≤ r → IsReal (Ideal.div 1 (1 + (r : EReal))) := by
    intro r hr
    have e : (1 : EReal) + (r : EReal) = ((1 + r : ℝ) : EReal) := by rw [EReal.coe_add]; rfl
    rw [e, Ideal.div_coe (by positivity)]
    exact IsReal.one.mul ⟨_, rfl⟩
  unfold Ideal.logistic
  induction x using EReal.rec with
  | bot =>
    rw [EReal.neg_bot, Ideal.exp_top]
    have e : (1 : EReal) + ⊤ = ⊤ := EReal.add_top_of_ne_bot (by decide)
    rw [e, Ideal.div, if_neg (by decide), EReal.inv_top, mul_zero]
    exact ⟨0, rfl⟩
  | top =>
    rw [EReal.neg_top, Ideal.exp_bot]
    exact key 0 le_rfl
  | coe r =>
    exact key (Real.exp (-r)) (Real.exp_pos _).le

/-- A row times a matrix. -/
def dotv {n m : ℕ} (h : Fin n → EReal) (w : Fin n → Fin m → EReal) : Fin m → EReal := fun c => ∑ k, h k * w k c

theorem isReal_dotv {n m : ℕ} {h : Fin n → EReal} {w : Fin n → Fin m → EReal} (hh : ∀ k, IsReal (h k)) (hw : ∀ k c, IsReal (w k c))
    (c : Fin m) : IsReal (dotv h w c) := IsReal.sum _ fun k => (hh k).mul (hw k c)

/-- The three columns of a gate row. -/
abbrev at0 (j : Fin 256) : Fin 768 := ⟨j.val, by omega⟩
@[inherit_doc at0] abbrev at1 (j : Fin 256) : Fin 768 := ⟨256 + j.val, by omega⟩
@[inherit_doc at0] abbrev at2 (j : Fin 256) : Fin 768 := ⟨512 + j.val, by omega⟩

/-- The new state from the gates' two halves. -/
def gate (xz hz : Fin 768 → EReal) (h : Fin 256 → EReal) (j : Fin 256) : EReal :=
  Ideal.logistic (xz (at0 j) + hz (at0 j)) * h j + (1 - Ideal.logistic (xz (at0 j) + hz (at0 j))) *
    Ideal.tanh (xz (at2 j) + Ideal.logistic (xz (at1 j) + hz (at1 j)) * hz (at2 j))

theorem isReal_gate (xz hz : Fin 768 → EReal) {h : Fin 256 → EReal} (hh : ∀ k, IsReal (h k)) (j : Fin 256) : IsReal (gate xz hz h j) :=
  ((isReal_logistic _).mul (hh j)).add ((IsReal.one.sub (isReal_logistic _)).mul (isReal_tanh _))

/-- The recurrence's weights. -/
structure Net where
  gk : Fin 514 → Fin 768 → EReal
  gr : Fin 256 → Fin 768 → EReal
  ow : Fin 256 → Fin 513 → EReal

/-- One row's state and last symbol. -/
structure St where
  h : Fin 256 → EReal
  s : Fin 514

/-- The row a run starts from. -/
def seed (x : Fin 256 → EReal) (e : Fin 256 → Fin 256 → EReal) : St :=
  ⟨fun j => dotv x e j * Ideal.logistic (dotv x e j), ⟨513, by decide⟩⟩

theorem isReal_seed {x : Fin 256 → EReal} {e : Fin 256 → Fin 256 → EReal} (hx : ∀ k, IsReal (x k)) (he : ∀ k l, IsReal (e k l)) (j : Fin 256) :
    IsReal ((seed x e).h j) := (isReal_dotv hx he j).mul (isReal_logistic _)

/-- The state after a step. -/
def hid (N : Net) (x : St) : Fin 256 → EReal := gate (N.gk x.s) (dotv x.h N.gr) x.h
/-- The scores of a step. -/
def logit (N : Net) (x : St) : Fin 513 → EReal := dotv (hid N x) N.ow
/-- The symbol a step chooses. -/
def pick (N : Net) (x : St) : Fin 513 := first (n := 512) (logit N x)
/-- A step. -/
def adv (N : Net) (x : St) : St := ⟨hid N x, (pick N x).castSucc⟩
/-- The row after `n` steps. -/
def traj (N : Net) (x : St) : ℕ → St
  | 0 => x
  | n + 1 => adv N (traj N x n)
/-- The sum of the exponentials of a step's scores less their maximum. -/
def mass (N : Net) (x : St) : EReal := ∑ j, Ideal.exp (logit N x j - logit N x (pick N x))
/-- The row has chosen the last symbol in one of the first `n` steps. -/
def Ended (N : Net) (x : St) (n : ℕ) : Prop := ∃ u, u < n ∧ (pick N (traj N x u)).val = 512

theorem ended_succ (N : Net) (x : St) (n : ℕ) : Ended N x (n + 1) ↔ Ended N x n ∨ (pick N (traj N x n)).val = 512 := by
  constructor
  · rintro ⟨u, hu, h⟩
    rcases Nat.lt_succ_iff_lt_or_eq.1 hu with hu | rfl
    · exact Or.inl ⟨u, hu, h⟩
    · exact Or.inr h
  · rintro (⟨u, hu, h⟩ | h)
    · exact ⟨u, Nat.lt_succ_of_lt hu, h⟩
    · exact ⟨n, Nat.lt_succ_self n, h⟩

theorem not_ended_zero (N : Net) (x : St) : ¬ Ended N x 0 := fun ⟨_, h, _⟩ => absurd h (Nat.not_lt_zero _)

theorem isReal_traj (N : Net) (x : St) (hx : ∀ k, IsReal (x.h k)) (n : ℕ) : ∀ k, IsReal ((traj N x n).h k) := by
  induction n with
  | zero => exact hx
  | succ n ih => exact isReal_gate _ _ ih

theorem isReal_logit (N : Net) (hw : ∀ k c, IsReal (N.ow k c)) (x : St) (hx : ∀ k, IsReal (x.h k)) (c : Fin 513) : IsReal (logit N x c) :=
  isReal_dotv (isReal_gate _ _ hx) hw c

/-- The softmax of real scores: its first maximum is the scores', and what it is there. -/
theorem soft_first {n : ℕ} {l : Fin n → EReal} (hl : ∀ k, IsReal (l k)) {p : Fin n} (hp : IsFirst l p) :
    IsFirst (fun k => Ideal.div (Ideal.exp (l k - l p)) (∑ j, Ideal.exp (l j - l p))) p ∧
      (⊥ : EReal) < Ideal.div (Ideal.exp (l p - l p)) (∑ j, Ideal.exp (l j - l p)) ∧
      Ideal.div (Ideal.exp (l p - l p)) (∑ j, Ideal.exp (l j - l p)) = Ideal.div 1 (∑ j, Ideal.exp (l j - l p)) := by
  choose r hr using hl
  obtain rfl : l = fun k => (r k : EReal) := funext hr
  have e : ∀ k, Ideal.exp ((r k : EReal) - (r p : EReal)) = ((Real.exp (r k - r p) : ℝ) : EReal) := by
    intro k; rw [← EReal.coe_sub, Ideal.exp_coe]
  simp only [e, ← coe_sum]
  have hT : (0 : ℝ) < ∑ j, Real.exp (r j - r p) :=
    Finset.sum_pos (fun j _ => Real.exp_pos _) ⟨p, Finset.mem_univ _⟩
  have d : ∀ a : ℝ, Ideal.div (a : EReal) ((∑ j, Real.exp (r j - r p) : ℝ) : EReal)
      = ((a * (1 / ∑ j, Real.exp (r j - r p)) : ℝ) : EReal) := by
    intro a; rw [Ideal.div_coe hT.ne', ← EReal.coe_mul]
  have ht : (0 : ℝ) < 1 / ∑ j, Real.exp (r j - r p) := one_div_pos.2 hT
  refine ⟨⟨fun k => ?_, fun k hk => hp.2 k ?_⟩, ?_, ?_⟩
  · beta_reduce
    rw [d, d, EReal.coe_le_coe_iff]
    have := EReal.coe_le_coe_iff.1 (hp.1 k)
    exact mul_le_mul_of_nonneg_right (Real.exp_le_exp.2 (by linarith)) ht.le
  · beta_reduce at hk ⊢
    rw [d, d, EReal.coe_eq_coe_iff] at hk
    have := Real.exp_injective (mul_right_cancel₀ ht.ne' hk)
    rw [EReal.coe_eq_coe_iff]; linarith
  · rw [d]; exact EReal.bot_lt_coe _
  · rw [sub_self, Real.exp_zero]; rfl

/-- Entries at minus infinity after a row of real ones change neither its first maximum … -/
theorem first_pad {n m : ℕ} {l : Fin n → EReal} (hl : ∀ k, IsReal (l k)) {p : Fin n} (hp : IsFirst l p) {L : Fin m → EReal} (hnm : n ≤ m)
    (h1 : ∀ k : Fin n, L (k.castLE hnm) = l k) (h2 : ∀ k : Fin m, n ≤ k.val → L k = ⊥) : IsFirst L (p.castLE hnm) := by
  have cs : ∀ k : Fin m, (∃ j : Fin n, k = j.castLE hnm) ∨ n ≤ k.val := by
    intro k
    by_cases hk : k.val < n
    · exact Or.inl ⟨⟨k.val, hk⟩, rfl⟩
    · exact Or.inr (not_lt.1 hk)
  refine ⟨fun k => ?_, fun k hk => ?_⟩
  · rcases cs k with ⟨j, rfl⟩ | h
    · rw [h1, h1]; exact hp.1 j
    · rw [h2 k h]; exact bot_le
  · rcases cs k with ⟨j, rfl⟩ | h
    · rw [h1, h1] at hk
      exact hp.2 j hk
    · rw [h2 k h, h1] at hk
      obtain ⟨r, hr⟩ := hl p
      rw [hr] at hk
      exact absurd hk (EReal.bot_ne_coe r)

/-- … nor the sum of its exponentials. -/
theorem mass_pad {n m : ℕ} {l : Fin n → EReal} (x : EReal) (hx : IsReal x) {L : Fin m → EReal} (hnm : n ≤ m)
    (h1 : ∀ k : Fin n, L (k.castLE hnm) = l k) (h2 : ∀ k : Fin m, n ≤ k.val → L k = ⊥) :
    ∑ k, Ideal.exp (L k - x) = ∑ k, Ideal.exp (l k - x) := by
  obtain ⟨d, rfl⟩ := Nat.exists_eq_add_of_le hnm
  rw [Fin.sum_univ_add]
  obtain ⟨r, rfl⟩ := hx
  have z : ∑ k : Fin d, Ideal.exp (L (Fin.natAdd n k) - (r : EReal)) = 0 := by
    refine Finset.sum_eq_zero fun k _ => ?_
    rw [h2 _ (by simp), EReal.bot_sub]
    rfl
  rw [z, add_zero]
  exact Finset.sum_congr rfl fun k _ => by rw [← h1 k]; rfl

/-- A one-hot row times a matrix is the matrix's row. -/
theorem hot_dot {n : ℕ} (s : Fin n) (w : Fin n → EReal) : ∑ k, (if k = s then (1 : EReal) else 0) * w k = w s := by
  simp [ite_mul]

/-- The same with the last row taken apart. -/
theorem hot_dot_last (p : Fin 513) (w : Fin 514 → EReal) :
    (∑ k : Fin 512, (if k.val = p.val then (1 : EReal) else 0) * w ⟨k.val, by omega⟩) + (if p.val = 512 then w ⟨512, by omega⟩ else 0) = w p.castSucc := by
  by_cases hp : p.val = 512
  · rw [if_pos hp, Finset.sum_eq_zero fun k _ => ?_, zero_add]
    · congr 1; exact Fin.ext hp.symm
    · rw [if_neg (by have := k.isLt; omega), zero_mul]
  · rw [if_neg hp, add_zero]
    have hlt : p.val < 512 := by have := p.isLt; omega
    have := hot_dot (⟨p.val, hlt⟩ : Fin 512) (fun k => w ⟨k.val, by omega⟩)
    simp only [Fin.ext_iff] at this
    rw [this]; rfl

end Cert.Greedy

end
-- ==== Proof.KV.Entry.lean ====
module

public import proofs.«01_k».proof.Proof.KI.Step
public import proofs.«01_k».proof.Proof.VM.Row
public import Idealize.ShloMosaic.Lib.Pointwise

@[expose] public section

set_option maxRecDepth 16384

noncomputable section

namespace Cert.KernelIdeal.Gen

open Idealize.ShloMosaic Cert.Greedy

/-! The kernel's steps, entry by entry, over the extended reals. -/

theorem fold_bits {n : ℕ} (f : Fin n → EReal) :
    (Finset.univ : Finset (Fin n)).fold max (Ideal.ofBits .f32 0xFF800000#32) f = Finset.univ.fold max ⊥ f := by
  have e : Ideal.ofBits .f32 0xFF800000#32 = (⊥ : EReal) := by simp [Ideal.ofBits, Ideal.ieee]
  rw [e]

theorem half_bits : Ideal.ofBits .f32 0x3F000000#32 = ((1 / 2 : ℝ) : EReal) := by
  simp [Ideal.ofBits, Ideal.ieee]
  rw [← EReal.coe_mul]
  norm_num

theorem flag_word (a b : BitVec 32) : FloatOps.sitofp (F := Ideal) FTy.f32 (BitVec.setWidth 32 (IntOp.cmpi .eq a b)) = (if a = b then (1 : EReal) else 0) := by
  by_cases h : a = b
  · simp [h, IntOp.cmpi, FloatOps.sitofp]
  · have e : (a == b) = false := beq_eq_false_iff_ne.2 h
    simp [h, e, IntOp.cmpi, FloatOps.sitofp]

theorem select_word {α : Type} (a b : BitVec 32) (x y : α) : Scalar.select (IntOp.cmpi .eq a b) x y = if a = b then x else y := by
  by_cases h : a = b
  · simp [h, IntOp.cmpi, Scalar.select]
  · have e : (a == b) = false := beq_eq_false_iff_ne.2 h
    simp [h, e, IntOp.cmpi, Scalar.select]

theorem select_two {α : Type} (a b : BitVec 32) (q : Prop) [Decidable q] (x y : α) :
    Scalar.select (IntOp.andi (IntOp.cmpi .eq a b) (BitVec.ofBool (decide q))) x y = if a = b ∧ q then x else y := by
  by_cases h : a = b
  · by_cases hq : q <;> simp [h, hq, Scalar.select, IntOp.cmpi, IntOp.andi]
  · have e : (a == b) = false := beq_eq_false_iff_ne.2 h
    by_cases hq : q <;> simp [h, e, hq, Scalar.select, IntOp.cmpi, IntOp.andi]

theorem h_entry (h : FVec Ideal S512x256 .f32) (xz hz : FVec Ideal S512x768 .f32) (i : Fin 512) (j : Fin 256) :
    (k0_pay9 (F := Ideal) h xz hz (ix2 i j) : EReal) = gate (fun c => xz (ix2 i c)) (fun c => hz (ix2 i c)) (fun k => h (ix2 i k)) j := by
  pointwise [k0_pay9, gate]

theorem comb_entry (h : FVec Ideal S512x256 .f32) (xz hz : FVec Ideal S512x768 .f32) (C : FVec Ideal S256x1408 .bf16) (i : Fin 512) (c : Fin 1408) :
    (k0_pay10 (F := Ideal) h xz hz C (ix2 i c) : EReal) = ∑ k : Fin 256, (k0_pay9 (F := Ideal) h xz hz (ix2 i k) : EReal) * C (ix2 k c) := by
  pointwise [k0_pay10]

theorem lgts_entry (W : Wts Ideal) (s : Carry Ideal) (i : Fin 512) (c : Fin 640) :
    lgts W s (ix2 i c) = k0_pay10 s.h s.xz s.hz W.C (ix2 i ⟨c.val, by omega⟩) + W.pm (ix2 0 c) * ⊥ := by
  have e : Named.named (F := Ideal) (φ := .f32) κ "mask" 4048155338#32 = (⊥ : EReal) := by simp [Named.named, κ]
  pointwise [lgts, k0_pay11]
  rw [e]

theorem lmax_entry (W : Wts Ideal) (s : Carry Ideal) (i : Fin 512) :
    lmax W s (ix1 i) = (Finset.univ : Finset (Fin 640)).fold max ⊥ fun c => lgts W s (ix2 i c) := by
  pointwise [lmax, lgts, k0_pay13]
  exact fold_bits _

theorem symb_entry (W : Wts Ideal) (s : Carry Ideal) (i : Fin 512) :
    symb W s (ix2 i 0) = (Finset.univ : Finset (Fin 640)).fold IKind.minsi.op 2147483647#32
      fun c => if lgts W s (ix2 i c) = lmax W s (ix1 i) then BitVec.ofNat 32 c.val else 1073741824#32 := by
  pointwise [symb, k0_pay15, k0_pay14]

theorem hz_entry (W : Wts Ideal) (s : Carry Ideal) (i : Fin 512) (c : Fin 768) :
    (step W s).hz (ix2 i c) = k0_pay10 s.h s.xz s.hz W.C (ix2 i ⟨640 + c.val, by omega⟩) := by
  pointwise [step, k0_pay12]

theorem fin_entry (W : Wts Ideal) (s : Carry Ideal) (i : Fin 512) :
    (step W s).fin (ix2 i 0) = max (s.fin (ix2 i 0)) (if symb W s (ix2 i 0) = 512#32 then 1 else 0) := by
  pointwise [step, k0_pay22, k0_pay21, k0_pay20, symb]
  rw [flag_word]
  rfl

theorem xz_entry (W : Wts Ideal) (s : Carry Ideal) (i : Fin 512) (c : Fin 768) :
    (step W s).xz (ix2 i c) = (∑ k : Fin 512, (if BitVec.ofNat 32 k.val = symb W s (ix2 i 0) then (1 : EReal) else 0) * W.K (ix2 k c))
      + (if symb W s (ix2 i 0) = 512#32 then W.kx (ix2 0 c) else 0) := by
  pointwise [step, eosb, symb, k0_pay25, k0_pay23, k0_pay20]
  simp only [flag_word, select_word]
  rfl

theorem tok_entry (W : Wts Ideal) (s : Carry Ideal) (i : Fin 512) (c : Fin 514) :
    tokRow W s (ix3 i 0 c) = if BitVec.ofNat 32 c.val = symb W s (ix2 i 0) ∧ (step W s).fin (ix2 i 0) < ((1/2 : ℝ) : EReal) then 1 else 0 := by
  pointwise [step, tokRow, symb, k0_pay24, k0_pay23]
  rw [half_bits, select_two]
  rfl

theorem symV_entry (W : Wts Ideal) (s : Carry Ideal) (i : Fin 512) :
    symV W s (ix2 i 0) = if s.fin (ix2 i 0) < ((1/2 : ℝ) : EReal) then symb W s (ix2 i 0) else 0#32 := by
  pointwise [symV, k0_pay16]
  rw [half_bits]

theorem probV_entry (W : Wts Ideal) (s : Carry Ideal) (i : Fin 512) :
    probV W s (ix2 i 0) = if s.fin (ix2 i 0) < ((1/2 : ℝ) : EReal) then
      Ideal.div 1 (∑ c : Fin 640, Ideal.exp (lgts W s (ix2 i c) - lmax W s (ix1 i))) else 0 := by
  pointwise [probV, probOf, k0_pay16, k0_pay14]
  rw [half_bits]

theorem start_h (x0 : FVec Ideal S512x256 .f32) (x1 : FVec Ideal S256x256 .bf16) (x3 : FVec Ideal S2x768 .bf16) (x4 : FVec Ideal S256x1408 .bf16)
    (i : Fin 512) (j : Fin 256) :
    (start x0 x1 x3 x4).h (ix2 i j) = dotv (fun k => x0 (ix2 i k)) (fun k l => x1 (ix2 k l)) j
      * Ideal.logistic (dotv (fun k => x0 (ix2 i k)) (fun k l => x1 (ix2 k l)) j) := by
  pointwise [start, k0_pay5, k0_pay4, dotv]

theorem start_hz (x0 : FVec Ideal S512x256 .f32) (x1 : FVec Ideal S256x256 .bf16) (x3 : FVec Ideal S2x768 .bf16) (x4 : FVec Ideal S256x1408 .bf16)
    (i : Fin 512) (c : Fin 768) :
    (start x0 x1 x3 x4).hz (ix2 i c) = ∑ k : Fin 256, ((start x0 x1 x3 x4).h (ix2 i k) : EReal) * x4 (ix2 k ⟨640 + c.val, by omega⟩) := by
  pointwise [start, k0_pay5, k0_pay6]

theorem start_xz (x0 : FVec Ideal S512x256 .f32) (x1 : FVec Ideal S256x256 .bf16) (x3 : FVec Ideal S2x768 .bf16) (x4 : FVec Ideal S256x1408 .bf16)
    (i : Fin 512) (c : Fin 768) : (start x0 x1 x3 x4).xz (ix2 i c) = x3 (ix2 1 c) := by
  pointwise [start, k0_pay7]

theorem start_fin (x0 : FVec Ideal S512x256 .f32) (x1 : FVec Ideal S256x256 .bf16) (x3 : FVec Ideal S2x768 .bf16) (x4 : FVec Ideal S256x1408 .bf16)
    (i : Fin 512) : (start x0 x1 x3 x4).fin (ix2 i 0) = (0 : EReal) := by
  pointwise [start, k0_pay8]

end Cert.KernelIdeal.Gen

end
-- ==== Proof.KV.Host.lean ====
module

public import proofs.«01_k».proof.Proof.KI.Run
public import proofs.«01_k».proof.Proof.KV.Entry
public import Idealize.ShloMosaic.Lib.StableHlo.RunClose
public import Idealize.ShloMosaic.Lib.Routing.OpsSet

@[expose] public section

set_option maxRecDepth 16384

noncomputable section

namespace Cert.KernelIdeal.Gen

open Idealize.ShloMosaic Idealize.ShloMosaic.TcCoe Idealize.ShloMosaic.Tactic Cert.Greedy

variable (m : (ℓ : Loc nD τ sig) → Buf (Elt Ideal) ℓ) (c : Dev nD)

/-! What the kernel's prepared operands hold, entry by entry. -/

theorem emb_read (i : Fin 256) (j : Fin 256) : V m c main_v7 (ix2 i j) = m ((c.tc : Thread nD τ).loc main_arg1) (ix2 i j) := by
  simp only [V, List.flatten_cons, List.flatten_nil, hostOps0, hostOps0_1, hostOps0_2, StableHlo.TRef.unary, StableHlo.TRef.binary, List.cons_append, List.nil_append]
  after_results_simp_entrywise
  pointwise

theorem gk_read (i : Fin 512) (j : Fin 768) :
    V m c main_v4 (ix2 i j) = m ((c.tc : Thread nD τ).loc main_arg3) (ix2 (⟨i.val, by omega⟩ : Fin 514) j) := by
  simp only [V, List.flatten_cons, List.flatten_nil, hostOps0, hostOps0_1, hostOps0_2, StableHlo.TRef.unary, StableHlo.TRef.binary, List.cons_append, List.nil_append]
  after_results_simp_entrywise
  pointwise

theorem gk_tail_read (i : Fin 2) (j : Fin 768) :
    V m c main_v6 (ix2 i j) = m ((c.tc : Thread nD τ).loc main_arg3) (ix2 (⟨512 + i.val, by omega⟩ : Fin 514) j) := by
  simp only [V, List.flatten_cons, List.flatten_nil, hostOps0, hostOps0_1, hostOps0_2, StableHlo.TRef.unary, StableHlo.TRef.binary, List.cons_append, List.nil_append]
  after_results_simp_entrywise
  pointwise

theorem ow_read (i : Fin 256) (j : Fin 513) :
    V m c main_v2 (ix2 i (⟨j.val, by omega⟩ : Fin 1408)) = m ((c.tc : Thread nD τ).loc main_arg6) (ix2 i j) := by
  simp only [V, List.flatten_cons, List.flatten_nil, hostOps0, hostOps0_1, hostOps0_2, StableHlo.TRef.unary, StableHlo.TRef.binary, List.cons_append, List.nil_append]
  after_results_simp_entrywise
  pointwise
  rw [dif_pos (by omega)]
  after_results_simp_entrywise
  simp only [StableHlo.TRef.toBuf, StableHlo.TRef.ofBuf, cast_eq]
  pointwise

theorem gr_read (i : Fin 256) (j : Fin 768) :
    V m c main_v2 (ix2 i (⟨640 + j.val, by omega⟩ : Fin 1408)) = m ((c.tc : Thread nD τ).loc main_arg4) (ix2 i j) := by
  simp only [V, List.flatten_cons, List.flatten_nil, hostOps0, hostOps0_1, hostOps0_2, StableHlo.TRef.unary, StableHlo.TRef.binary, List.cons_append, List.nil_append]
  after_results_simp_entrywise
  pointwise
  after_results_simp_entrywise

theorem scatter_start (k : S1x513.Idx) (a : Fin 2) :
    scatter_S1x640_S1_S1x513_01_n_1_0.start k (fun _ : S1.Idx => 0#32) a = 0 := by
  unfold ScatterDims.start
  split <;> rfl

theorem scatter_window (k : S1x513.Idx) (a : Fin 2) : scatter_S1x640_S1_S1x513_01_n_1_0.window k a = (k a).val := by
  match a with
  | ⟨0, _⟩ => rfl
  | ⟨1, _⟩ => rfl

theorem scatter_lands (k : S1x513.Idx) (j : Fin 640) :
    scatter_S1x640_S1_S1x513_01_n_1_0.resultIdx? k (fun _ : S1.Idx => 0#32) = some (ix2 (0 : Fin 1) j) ↔ (k 1).val = j.val := by
  have h0 : (k 0).val < 1 := (k 0).isLt
  have h1 : (k 1).val < 513 := (k 1).isLt
  have hb : ∀ a : Fin 2, 0 ≤ scatter_S1x640_S1_S1x513_01_n_1_0.start k (fun _ : S1.Idx => 0#32) a + (scatter_S1x640_S1_S1x513_01_n_1_0.window k a : Int)
      ∧ scatter_S1x640_S1_S1x513_01_n_1_0.start k (fun _ : S1.Idx => 0#32) a + (scatter_S1x640_S1_S1x513_01_n_1_0.window k a : Int) < S1x640.size a := by
    intro a
    rw [scatter_start, scatter_window]
    match a with
    | ⟨0, _⟩ => exact ⟨by positivity, by show (0 : Int) + ((k 0).val : Int) < 1; omega⟩
    | ⟨1, _⟩ => exact ⟨by positivity, by show (0 : Int) + ((k 1).val : Int) < 640; omega⟩
  unfold ScatterDims.resultIdx?
  rw [dif_pos hb, Option.some.injEq]
  constructor
  · intro h
    have := congrArg Fin.val (congrFun h 1)
    refine Eq.trans ?_ this
    show (k 1).val = (scatter_S1x640_S1_S1x513_01_n_1_0.start k (fun _ : S1.Idx => 0#32) 1 + (scatter_S1x640_S1_S1x513_01_n_1_0.window k 1 : Int)).toNat
    rw [scatter_start, scatter_window]
    omega
  · intro h
    funext a
    apply Fin.ext
    show (scatter_S1x640_S1_S1x513_01_n_1_0.start k (fun _ : S1.Idx => 0#32) a + (scatter_S1x640_S1_S1x513_01_n_1_0.window k a : Int)).toNat = _
    rw [scatter_start, scatter_window]
    match a with
    | ⟨0, _⟩ => show ((0 : Int) + ((k 0).val : Int)).toNat = 0; omega
    | ⟨1, _⟩ => show ((0 : Int) + ((k 1).val : Int)).toNat = j.val; omega

theorem pm_read (j : Fin 640) :
    V m c main_v11 (ix2 0 j) = if j.val < 513 then (0 : EReal) else 1 := by
  simp only [V, List.flatten_cons, List.flatten_nil, hostOps0, hostOps0_1, hostOps0_2, StableHlo.TRef.unary, StableHlo.TRef.binary, List.cons_append, List.nil_append]
  after_results_simp_entrywise
  by_cases h : j.val < 513
  · rw [if_pos h]
    refine Routing.scatter_set_hit _ _ _ _ _ (0 : EReal) (fun k _ => ?_) (ix2 (0 : Fin 1) (⟨j.val, h⟩ : Fin 513)) ((scatter_lands _ j).2 rfl)
    exact Ideal.ofBits_zero_f32
  · rw [if_neg h]
    refine (Routing.scatter_set_miss _ _ _ _ _ fun k hk => h ?_).trans Ideal.ofBits_one_f32
    have := (scatter_lands k j).1 hk
    have : (k 1).val < 513 := (k 1).isLt
    omega

end Cert.KernelIdeal.Gen

end
-- ==== Proof.KV.Row.lean ====
module

public import proofs.«01_k».proof.Proof.KV.Entry

@[expose] public section

set_option maxRecDepth 16384

noncomputable section

namespace Cert.KernelIdeal.Gen

open Idealize.ShloMosaic Cert.Greedy

/-! The kernel's steps follow the row's. -/

/-- The kernel's weights are a net's. -/
structure Fits (W : Wts Ideal) (N : Net) : Prop where
  ow : ∀ (k : Fin 256) (c : Fin 513), W.C (ix2 k (⟨c.val, by omega⟩ : Fin 1408)) = N.ow k c
  gr : ∀ (k : Fin 256) (c : Fin 768), W.C (ix2 k (⟨640 + c.val, by omega⟩ : Fin 1408)) = N.gr k c
  pm : ∀ c : Fin 640, W.pm (ix2 0 c) = if c.val < 513 then (0 : EReal) else 1
  gk : ∀ (k : Fin 512) (c : Fin 768), W.K (ix2 k c) = N.gk ⟨k.val, by omega⟩ c
  kx : ∀ c : Fin 768, W.kx (ix2 0 c) = N.gk ⟨512, by decide⟩ c
  real : ∀ k c, IsReal (N.ow k c)

/-- Row `i` of the kernel's carry is a row's. -/
structure At (N : Net) (s : Carry Ideal) (i : Fin 512) (x : St) : Prop where
  h : ∀ j, s.h (ix2 i j) = x.h j
  xz : ∀ c, s.xz (ix2 i c) = N.gk x.s c
  hz : ∀ c, s.hz (ix2 i c) = dotv x.h N.gr c
  real : ∀ j, IsReal (x.h j)

variable {W : Wts Ideal} {N : Net} (F : Fits W N) {s : Carry Ideal} {i : Fin 512} {x : St} (A : At N s i x)

include A in
theorem At.next (j : Fin 256) : (k0_pay9 (F := Ideal) s.h s.xz s.hz (ix2 i j) : EReal) = hid N x j := by
  rw [h_entry]
  unfold hid
  congr 1
  · exact funext A.xz
  · exact funext A.hz
  · exact funext A.h

include F A in
theorem At.score (c : Fin 513) : lgts W s (ix2 i (⟨c.val, by omega⟩ : Fin 640)) = logit N x c := by
  rw [lgts_entry, comb_entry, F.pm, if_pos c.isLt, zero_mul, add_zero]
  unfold logit dotv
  exact Finset.sum_congr rfl fun k _ => congrArg₂ (· * ·) (A.next k) (F.ow k c)

include F in
theorem At.pad (c : Fin 640) (hc : 513 ≤ c.val) : lgts W s (ix2 i c) = (⊥ : EReal) := by
  rw [lgts_entry, F.pm, if_neg (by omega), one_mul, EReal.add_bot]

include F A in
theorem At.top : IsFirst (fun c => (lgts W s (ix2 i c) : EReal)) ((pick N x).castLE (by decide : 513 ≤ 640)) :=
  first_pad (isReal_logit N F.real x A.real) (first_spec _) (by decide) (fun k => A.score F k) (fun k hk => At.pad F k hk)

include F A in
theorem At.peak : lmax W s (ix1 i) = logit N x (pick N x) := by
  rw [lmax_entry, fold_max_first (A.top F)]
  exact A.score F _

include F A in
theorem At.sym : symb W s (ix2 i 0) = BitVec.ofNat 32 (pick N x).val := by
  rw [symb_entry]
  refine fold_minsi_first (by decide) (A.top F) _ fun k => ?_
  rw [A.peak F, ← A.score F (pick N x)]
  rfl

theorem word_eq {a b : ℕ} (ha : a < 1024) (hb : b < 1024) : BitVec.ofNat 32 a = BitVec.ofNat 32 b ↔ a = b := by
  constructor
  · intro h
    have := congrArg BitVec.toNat h
    rw [BitVec.toNat_ofNat, BitVec.toNat_ofNat] at this
    omega
  · rintro rfl; rfl

include F A in
theorem At.last : symb W s (ix2 i 0) = 512#32 ↔ (pick N x).val = 512 := by
  rw [A.sym F]
  exact word_eq (by have := (pick N x).isLt; omega) (by decide)

include F A in
theorem At.go : At N (step W s) i (adv N x) where
  h := A.next
  xz c := by
    have e : ∀ k : Fin 512, BitVec.ofNat 32 k.val = symb W s (ix2 i 0) ↔ k.val = (pick N x).val := fun k => by
      rw [A.sym F]
      exact word_eq (by have := k.isLt; omega) (by have := (pick N x).isLt; omega)
    rw [xz_entry]
    simp only [e, A.last F, F.gk, F.kx]
    exact hot_dot_last (pick N x) fun k => N.gk k c
  hz c := by
    rw [hz_entry, comb_entry]
    unfold dotv
    exact Finset.sum_congr rfl fun k _ => congrArg₂ (· * ·) (A.next k) (F.gr k c)
  real := isReal_gate _ _ A.real

include F A in
theorem At.run (n : ℕ) : At N (steps W s n) i (traj N x n) := by
  induction n with
  | zero => exact A
  | succ n ih => exact ih.go F

include F A in
theorem At.total : ∑ c : Fin 640, Ideal.exp (lgts W s (ix2 i c) - lmax W s (ix1 i)) = mass N x := by
  rw [A.peak F]
  exact mass_pad (m := 640) _ (isReal_logit N F.real x A.real _) (by decide) (fun k => A.score F k) (fun k hk => At.pad F k hk)

open Classical in
include F A in
theorem At.flag (h0 : s.fin (ix2 i 0) = (0 : EReal)) (n : ℕ) : (steps W s n).fin (ix2 i 0) = if Ended N x n then (1 : EReal) else 0 := by
  induction n with
  | zero => rw [if_neg (not_ended_zero N x)]; exact h0
  | succ n ih =>
    show (step W (steps W s n)).fin (ix2 i 0) = _
    rw [fin_entry, ih]
    simp only [(A.run F n).last F, ended_succ]
    by_cases h1 : Ended N x n <;> by_cases h2 : (pick N (traj N x n)).val = 512 <;> simp [h1, h2]

theorem flag_lt (p : Prop) [Decidable p] : (if p then (1 : EReal) else 0) < ((1 / 2 : ℝ) : EReal) ↔ ¬ p := by
  by_cases h : p
  · rw [if_pos h]
    refine iff_of_false (not_lt.2 ?_) (not_not.2 h)
    rw [← EReal.coe_one, EReal.coe_le_coe_iff]; norm_num
  · rw [if_neg h]
    refine iff_of_true ?_ h
    rw [← EReal.coe_zero, EReal.coe_lt_coe_iff]; norm_num

open Classical in
include F A in
/-- The symbol of step `n`. -/
theorem At.symbol (h0 : s.fin (ix2 i 0) = (0 : EReal)) (n : ℕ) :
    symV W (steps W s n) (ix2 i 0) = if Ended N x n then 0#32 else BitVec.ofNat 32 (pick N (traj N x n)).val := by
  rw [symV_entry, A.flag F h0, (A.run F n).sym F]
  exact (if_congr (flag_lt _) rfl rfl).trans (ite_not ..)

open Classical in
include F A in
/-- Its probability. -/
theorem At.prob (h0 : s.fin (ix2 i 0) = (0 : EReal)) (n : ℕ) :
    probV W (steps W s n) (ix2 i 0) = if Ended N x n then (0 : EReal) else Ideal.div 1 (mass N (traj N x n)) := by
  rw [probV_entry, A.flag F h0, (A.run F n).total F]
  exact (if_congr (flag_lt _) rfl rfl).trans (ite_not ..)

open Classical in
include F A in
/-- Its one-hot row. -/
theorem At.token (h0 : s.fin (ix2 i 0) = (0 : EReal)) (n : ℕ) (k : Fin 514) :
    tokRow W (steps W s n) (ix3 i 0 k) = if k.val = (pick N (traj N x n)).val ∧ ¬ Ended N x (n + 1) then (1 : EReal) else 0 := by
  rw [tok_entry]
  refine if_congr (and_congr ?_ ?_) rfl rfl
  · rw [(A.run F n).sym F]
    exact word_eq (by have := k.isLt; omega) (by have := (pick N (traj N x n)).isLt; omega)
  · show (steps W s (n + 1)).fin (ix2 i 0) < _ ↔ _
    rw [A.flag F h0]
    exact flag_lt _

end Cert.KernelIdeal.Gen

end
-- ==== Proof.KV.Final.lean ====
module

public import proofs.«01_k».proof.Proof.KV.Host
public import proofs.«01_k».proof.Proof.KV.Row

@[expose] public section

set_option maxRecDepth 16384

noncomputable section

namespace Cert.KernelIdeal.Gen

open Idealize.ShloMosaic Idealize.ShloMosaic.TcCoe Idealize.ShloMosaic.Tactic Cert.Greedy

variable (m : (ℓ : Loc nD τ sig) → Buf (Elt Ideal) ℓ) (c : Dev nD)

/-! The kernel's results, entry by entry. -/

/-- The net of the launched weights. -/
def net : Net where
  gk k l := m ((c.tc : Thread nD τ).loc main_arg3) (ix2 k l)
  gr k l := m ((c.tc : Thread nD τ).loc main_arg4) (ix2 k l)
  ow k l := m ((c.tc : Thread nD τ).loc main_arg6) (ix2 k l)

/-- The row that row `I` of the batch starts from. -/
def row (I : Fin 1024) : St := seed (fun k => m ((c.tc : Thread nD τ).loc main_arg0) (ix2 I k)) (fun k l => m ((c.tc : Thread nD τ).loc main_arg1) (ix2 k l))

/-- The launched arrays the claim is about are real. -/
structure Reals : Prop where
  state : ∀ i j, IsReal (m ((c.tc : Thread nD τ).loc main_arg0) (ix2 (i : Fin 1024) (j : Fin 256)))
  emb : ∀ i j, IsReal (m ((c.tc : Thread nD τ).loc main_arg1) (ix2 (i : Fin 256) (j : Fin 256)))
  out : ∀ i j, IsReal (m ((c.tc : Thread nD τ).loc main_arg6) (ix2 (i : Fin 256) (j : Fin 513)))

variable (R : Reals m c)

theorem kx_read (x2 : FVec Ideal S512x768 .bf16) (x3 : FVec Ideal S2x768 .bf16) (x4 : FVec Ideal S256x1408 .bf16) (x5 : FVec Ideal S1x640 .f32)
    (j : Fin 768) : (wts x2 x3 x4 x5).kx (ix2 0 j) = x3 (ix2 0 j) := by
  pointwise [wts]

include R in
theorem fits : Fits (WT m c) (net m c) where
  ow k l := ow_read m c k l
  gr k l := gr_read m c k l
  pm l := pm_read m c l
  gk k l := gk_read m c k l
  kx l := (kx_read _ _ _ _ l).trans (gk_tail_read m c 0 l)
  real := R.out

theorem rows_read (q : Fin 2) (i : Fin 512) (j : Fin 256) :
    rowsQ m c q.val q.isLt (ix2 i j) = m ((c.tc : Thread nD τ).loc main_arg0) (ix2 (⟨512 * q.val + i.val, by omega⟩ : Fin 1024) j) :=
  congrFun (V_main_arg0 m c) _

theorem start_row (q : Fin 2) (i : Fin 512) (j : Fin 256) :
    (ST m c q).h (ix2 i j) = (row m c ⟨512 * q.val + i.val, by omega⟩).h j := by
  unfold ST
  rw [start_h]
  have e : dotv (fun k => rowsQ m c q.val q.isLt (ix2 i k)) (fun k l => V m c main_v7 (ix2 k l)) j
      = dotv (fun k => m ((c.tc : Thread nD τ).loc main_arg0) (ix2 (⟨512 * q.val + i.val, by omega⟩ : Fin 1024) k))
        (fun k l => m ((c.tc : Thread nD τ).loc main_arg1) (ix2 k l)) j :=
    Finset.sum_congr rfl fun k _ => congrArg₂ (· * ·) (rows_read m c q i k) (emb_read m c k j)
  rw [e]
  rfl

include R in
theorem starts (q : Fin 2) (i : Fin 512) : At (net m c) (ST m c q) i (row m c ⟨512 * q.val + i.val, by omega⟩) where
  h := start_row m c q i
  xz l := (start_xz _ _ _ _ i l).trans (gk_tail_read m c 1 l)
  hz l := (start_hz _ _ _ _ i l).trans (Finset.sum_congr rfl fun k _ => congrArg₂ (· * ·) (start_row m c q i k) (gr_read m c k l))
  real := isReal_seed (R.state _) R.emb

theorem row_split (I : Fin 1024) : (⟨512 * (qRow I).val + (inRow I).val, by have := (qRow I).isLt; have := (inRow I).isLt; omega⟩ : Fin 1024) = I :=
  Fin.ext (Nat.div_add_mod I.val 512)

include R in
theorem begins (I : Fin 1024) : At (net m c) (ST m c (qRow I)) (inRow I) (row m c I) := by
  have := starts m c R (qRow I) (inRow I)
  rwa [row_split] at this

theorem fresh (q : Fin 2) (i : Fin 512) : (ST m c q).fin (ix2 i 0) = (0 : EReal) := start_fin _ _ _ _ i

open Classical in
include R in
theorem sym_value (I : Fin 1024) (t : Fin 32) : symArr m c (ix2 I t) =
    if Ended (net m c) (row m c I) t.val then 0#32 else BitVec.ofNat 32 (pick (net m c) (traj (net m c) (row m c I) t.val)).val :=
  (begins m c R I).symbol (fits m c R) (fresh m c _ _) t.val

open Classical in
include R in
theorem prob_value (I : Fin 1024) (t : Fin 32) : probArr m c (ix2 I t) =
    if Ended (net m c) (row m c I) t.val then (0 : EReal) else Ideal.div 1 (mass (net m c) (traj (net m c) (row m c I) t.val)) :=
  (begins m c R I).prob (fits m c R) (fresh m c _ _) t.val

open Classical in
include R in
theorem tok_value (I : Fin 1024) (t : Fin 32) (k : Fin 514) : tokArr m c (ix3 I t k) =
    if k.val = (pick (net m c) (traj (net m c) (row m c I) t.val)).val ∧ ¬ Ended (net m c) (row m c I) (t.val + 1) then (1 : EReal) else 0 :=
  (begins m c R I).token (fits m c R) (fresh m c _ _) t.val k

end Cert.KernelIdeal.Gen

end
-- ==== Proof.RV.Entry.lean ====
module

public import proofs.«01_k».proof.Proof.RI.Model
public import proofs.«01_k».proof.Proof.VM.Row
public import Idealize.ShloMosaic.Lib.Pointwise

@[expose] public section

set_option maxRecDepth 16384

noncomputable section

namespace Cert.ReferenceIdeal.Gen

open Idealize.ShloMosaic Cert.Greedy

/-! The reference's stretches, entry by entry, over the extended reals. -/

theorem bot_bits : Ideal.ofBits .f32 0xFF800000#32 = (⊥ : EReal) := by simp [Ideal.ofBits, Ideal.ieee]

theorem mark_word (a b : BitVec 32) : FloatOps.uitofp (F := Ideal) FTy.f32 (IntOp.cmpi .eq a b) = (if a = b then (1 : EReal) else 0) := by
  by_cases h : a = b
  · simp [h, IntOp.cmpi, FloatOps.uitofp]
  · have e : (a == b) = false := beq_eq_false_iff_ne.2 h
    simp [h, e, IntOp.cmpi, FloatOps.uitofp]

theorem fold_and {n : ℕ} (f : Fin n → Prop) [DecidablePred f] :
    (Finset.univ : Finset (Fin n)).fold IntOp.andi 1#1 (fun k => BitVec.ofBool (decide (f k))) = BitVec.ofBool (decide (∀ k, f k)) := by
  have key : ∀ S : Finset (Fin n), S.fold IntOp.andi 1#1 (fun k => BitVec.ofBool (decide (f k))) = BitVec.ofBool (decide (∀ k ∈ S, f k)) := by
    intro S
    induction S using Finset.induction with
    | empty => simp
    | insert a S ha ih =>
      rw [Finset.fold_insert ha, ih]
      have e : ∀ a b : Bool, IntOp.andi (BitVec.ofBool a) (BitVec.ofBool b) = BitVec.ofBool (a && b) := by decide
      rw [e]
      congr 1
      simp only [Finset.forall_mem_insert, Bool.decide_and]
  rw [key]
  simp

theorem sigm_entry (x : Vec Ideal S1024x256 .f32) (I : Fin 1024) (j : Fin 256) : (sigm x (ix2 I j) : EReal) = Ideal.logistic (x (ix2 I j)) := by
  pointwise [sigm, ones, Ideal.logistic]

theorem startH_entry (s : Vec Ideal S1024x256 .f32) (w : Vec Ideal S256x256 .f32) (b : Vec Ideal S256 .f32) (I : Fin 1024) (j : Fin 256) :
    (startH s w b (ix2 I j) : EReal) = dotv (fun k => s (ix2 I k)) (fun k l => w (ix2 k l)) j + b (ix1 j) := by
  pointwise [startH, dotv]

theorem silu_entry (x : Vec Ideal S1024x256 .f32) (I : Fin 1024) (j : Fin 256) :
    (silu x (ix2 I j) : EReal) = x (ix2 I j) * Ideal.logistic (x (ix2 I j)) := by
  rw [← sigm_entry]
  rfl

theorem hotRow_entry (c : BitVec 32) (k : Fin 514) : (hotRow (F := Ideal) (constantI S_ 32 c) (ix1 k) : EReal) = if c = BitVec.ofNat 32 k.val then 1 else 0 := by
  pointwise [hotRow]
  exact mark_word _ _

theorem startTok_entry (r : Vec Ideal S514 .f32) (I : Fin 1024) (k : Fin 514) : startTok r (ix2 I k) = r (ix1 k) := by
  pointwise [startTok]

theorem projX_entry (tok : Vec Ideal S1024x514 .f32) (w : Vec Ideal S514x768 .f32) (b : Vec Ideal S2x768 .f32) (I : Fin 1024) (l : Fin 768) :
    (projX tok w b (ix2 I l) : EReal) = dotv (fun k => tok (ix2 I k)) (fun k l => w (ix2 k l)) l + b (ix2 0 l) := by
  pointwise [projX, biasRows, dotv]

theorem projH_entry (h : Vec Ideal S1024x256 .f32) (w : Vec Ideal S256x768 .f32) (b : Vec Ideal S2x768 .f32) (I : Fin 1024) (l : Fin 768) :
    (projH h w b (ix2 I l) : EReal) = dotv (fun k => h (ix2 I k)) (fun k l => w (ix2 k l)) l + b (ix2 1 l) := by
  pointwise [projH, biasRows, dotv]

theorem blend_entry (x y : Vec Ideal S1024x768 .f32) (h : Vec Ideal S1024x256 .f32) (I : Fin 1024) (j : Fin 256) :
    (blend (sigm (addf (colA x) (colA y))) (sigm (addf (colB x) (colB y))) (colC x) (colC y) h (ix2 I j) : EReal)
      = gate (fun l => x (ix2 I l)) (fun l => y (ix2 I l)) (fun k => h (ix2 I k)) j := by
  pointwise [blend, sigm, ones, colA, colB, colC, gate, Ideal.logistic]

theorem scores_entry (h : Vec Ideal S1024x256 .f32) (w : Vec Ideal S256x513 .f32) (b : Vec Ideal S513 .f32) (I : Fin 1024) (l : Fin 513) :
    (scores h w b (ix2 I l) : EReal) = dotv (fun k => h (ix2 I k)) (fun k l => w (ix2 k l)) l + b (ix1 l) := by
  pointwise [scores, dotv]

theorem soft_entry (x : Vec Ideal S1024x513 .f32) (I : Fin 1024) (l : Fin 513) :
    (soft x (ix2 I l) : EReal) = Ideal.div (expo x (ix2 I l)) (∑ k : Fin 513, expo x (ix2 I k)) := by
  pointwise [soft, total, spread]

theorem expo_entry (x : Vec Ideal S1024x513 .f32) (I : Fin 1024) (l : Fin 513) :
    (expo x (ix2 I l) : EReal) = Ideal.exp (x (ix2 I l) - max ⊥ ((Finset.univ : Finset (Fin 513)).fold max ⊥ fun k => x (ix2 I k))) := by
  pointwise [expo, spread]
  rw [bot_bits]

theorem hots_entry (s : Vec Ideal S1024 .i32) (I : Fin 1024) (k : Fin 514) :
    (hots (F := Ideal) s (ix2 I k) : EReal) = if s (ix1 I) = BitVec.ofNat 32 k.val then 1 else 0 := by
  pointwise [hots]
  exact mark_word _ _

theorem put_at (n : Fin 32) : putAt (F := Ideal) (constantI S_ 32 (BitVec.ofNat 32 n.val)) = fun k => if k = 0 then (n.val : Int) else 0 := by
  funext k
  match k with
  | ⟨0, _⟩ => exact toInt_ofNat (by have := n.isLt; omega)
  | ⟨1, _⟩ => rfl
  | ⟨2, _⟩ => rfl

theorem putTok_entry (x : Vec Ideal S32x1024x514 .f32) (u : Vec Ideal S1024x514 .f32) (n t : Fin 32) (I : Fin 1024) (k : Fin 514) :
    (putTok x u (constantI S_ 32 (BitVec.ofNat 32 n.val)) (ix3 t I k) : EReal) = if t = n then u (ix2 I k) else x (ix3 t I k) := by
  have h0 : Host.clampedStart S32x1024x514 S1x1024x514 rfl (putAt (F := Ideal) (constantI S_ 32 (BitVec.ofNat 32 n.val))) 0 = n.val :=
    Host.clampedStart_of_le _ _ _ _ (by rw [put_at]; rfl) (by have := n.isLt; show n.val + 1 ≤ 32; omega)
  have h1 : Host.clampedStart S32x1024x514 S1x1024x514 rfl (putAt (F := Ideal) (constantI S_ 32 (BitVec.ofNat 32 n.val))) 1 = 0 :=
    Host.clampedStart_of_le _ _ _ _ (by rw [put_at]; rfl) (by decide)
  have h2 : Host.clampedStart S32x1024x514 S1x1024x514 rfl (putAt (F := Ideal) (constantI S_ 32 (BitVec.ofNat 32 n.val))) 2 = 0 :=
    Host.clampedStart_of_le _ _ _ _ (by rw [put_at]; rfl) (by decide)
  pointwise [putTok]
  simp only [h0, h1, h2, Nat.sub_zero, Nat.zero_le, and_true]
  by_cases h : t = n
  · rw [if_pos h, dif_pos (by subst h; omega)]
  · rw [if_neg h, dif_neg (fun q => h (Fin.ext (by omega)))]

theorem putProb_entry (x : Vec Ideal S32x1024x513 .f32) (u : Vec Ideal S1024x513 .f32) (n t : Fin 32) (I : Fin 1024) (k : Fin 513) :
    (putProb x u (constantI S_ 32 (BitVec.ofNat 32 n.val)) (ix3 t I k) : EReal) = if t = n then u (ix2 I k) else x (ix3 t I k) := by
  have h0 : Host.clampedStart S32x1024x513 S1x1024x513 rfl (putAt (F := Ideal) (constantI S_ 32 (BitVec.ofNat 32 n.val))) 0 = n.val :=
    Host.clampedStart_of_le _ _ _ _ (by rw [put_at]; rfl) (by have := n.isLt; show n.val + 1 ≤ 32; omega)
  have h1 : Host.clampedStart S32x1024x513 S1x1024x513 rfl (putAt (F := Ideal) (constantI S_ 32 (BitVec.ofNat 32 n.val))) 1 = 0 :=
    Host.clampedStart_of_le _ _ _ _ (by rw [put_at]; rfl) (by decide)
  have h2 : Host.clampedStart S32x1024x513 S1x1024x513 rfl (putAt (F := Ideal) (constantI S_ 32 (BitVec.ofNat 32 n.val))) 2 = 0 :=
    Host.clampedStart_of_le _ _ _ _ (by rw [put_at]; rfl) (by decide)
  pointwise [putProb]
  simp only [h0, h1, h2, Nat.sub_zero, Nat.zero_le, and_true]
  by_cases h : t = n
  · rw [if_pos h, dif_pos (by subst h; omega)]
  · rw [if_neg h, dif_neg (fun q => h (Fin.ext (by omega)))]

theorem rowsTok_entry (x : Vec Ideal S32x1024x514 .f32) (t : Fin 32) (I : Fin 1024) (k : Fin 514) : rowsTok x (ix3 I t k) = x (ix3 t I k) := by
  pointwise [rowsTok]

theorem rowsProb_entry (x : Vec Ideal S32x1024x513 .f32) (t : Fin 32) (I : Fin 1024) (k : Fin 513) : rowsProb x (ix3 I t k) = x (ix3 t I k) := by
  pointwise [rowsProb]

open Classical in
theorem isEnd_entry (x : Vec Ideal S1024x32x514 .f32) (e : Vec Ideal S514 .f32) (I : Fin 1024) (t : Fin 32) :
    isEnd x e (ix2 I t) = if ∀ k : Fin 514, x (ix3 I t k) = e (ix1 k) then 1#32 else 0#32 := by
  pointwise [isEnd]
  refine (congrArg (BitVec.setWidth 32) (fold_and fun k => x (ix3 I t k) = e (ix1 k))).trans ?_
  by_cases h : ∀ k : Fin 514, x (ix3 I t k) = e (ix1 k)
  · rw [if_pos h, decide_eq_true h]; rfl
  · rw [if_neg h, decide_eq_false h]; rfl

theorem marks_entry (x : Vec Ideal S1024x32 .i1) (I : Fin 1024) (t : Fin 32) (k : Fin 514) :
    (marks x (ix3 I t k) : EReal) = FloatOps.uitofp (F := Ideal) .f32 (x (ix2 I t)) := by
  pointwise [marks]

theorem before_entry (x : Vec Ideal S1024x32 .i1) (I : Fin 1024) (t : Fin 32) :
    before x (ix2 I t) = if h : t.val < 1 then 0#1 else x (ix2 I (⟨t.val - 1, by omega⟩ : Fin 32)) := by
  pointwise [before]

/-- The symbol that an entry of the record is read at. -/
def wrapWord (w : BitVec 32) : BitVec 32 := Scalar.select (IntOp.cmpi .slt w 0#32) (IntOp.addi w 513#32) w

theorem wrapped_entry (s : Vec Ideal S1024x32 .i32) (I : Fin 1024) (t : Fin 32) :
    wrapped (F := Ideal) (broadcastInDim S1024x32x1 ![0, 1] bcast_S1024x32_S1024x32x1_0_1 s) (ix4 I t 0 0) = wrapWord (s (ix2 I t)) := by
  pointwise [wrapped, wrapWord]

theorem inside_entry (s : Vec Ideal S1024x32x1x1 .i32) (I : Fin 1024) (t : Fin 32) :
    inside (F := Ideal) s (ix3 I t 0) = (Finset.univ : Finset (Fin 1)).fold IntOp.andi 1#1
      (fun k => IntOp.andi (IntOp.cmpi .sge (s (ix4 I t 0 k)) 0#32) (IntOp.cmpi .sle (s (ix4 I t 0 k)) 512#32)) := by
  pointwise [inside]

theorem wrapWord_ofNat {p : ℕ} (hp : p < 513) : wrapWord (BitVec.ofNat 32 p) = BitVec.ofNat 32 p := by
  have h : (BitVec.ofNat 32 p).slt 0#32 = false := by
    rw [BitVec.slt_eq_decide, toInt_ofNat (by omega)]
    simp
  simp [wrapWord, IntOp.cmpi, h, Scalar.select]

theorem within {p : ℕ} (hp : p < 513) :
    IntOp.andi (IntOp.cmpi .sge (BitVec.ofNat 32 p) 0#32) (IntOp.cmpi .sle (BitVec.ofNat 32 p) 512#32) = 1#1 := by
  have h1 : (0#32).sle (BitVec.ofNat 32 p) = true := by
    have e := toInt_ofNat (k := p) (by omega)
    rw [BitVec.sle_eq_decide]
    simp [e]
  have h2 : (BitVec.ofNat 32 p).sle 512#32 = true := by
    rw [BitVec.sle_eq_decide, toInt_ofNat (by omega)]
    simp; omega
  simp [IntOp.andi, IntOp.cmpi, h1, h2]

theorem gather_idx (idx : IVec S1024x32x1x1 32) (I : Fin 1024) (t : Fin 32) {p : ℕ} (hp : p < 513) (h : idx (ix4 I t 0 0) = BitVec.ofNat 32 p) :
    gather_S1024x32x513_S1024x32x1x1_S1024x32x1_n_2_01_01_2_3_111.operandIdx (ix3 I t 0) idx = ix3 I t (⟨p, hp⟩ : Fin 513) := by
  have hi : ∀ q, gather_S1024x32x513_S1024x32x1x1_S1024x32x1_n_2_01_01_2_3_111.siIdx (ix3 I t (0 : Fin 1)) q = ix4 I t 0 0 := by
    intro q
    funext a
    match a with
    | ⟨0, _⟩ => rfl
    | ⟨1, _⟩ => rfl
    | ⟨2, _⟩ => rfl
    | ⟨3, _⟩ => exact Subsingleton.elim (α := Fin 1) _ _
  funext a
  apply Fin.ext
  match a with
  | ⟨0, _⟩ => exact (Nat.add_zero _).trans (Nat.zero_add _)
  | ⟨1, _⟩ => exact (Nat.add_zero _).trans (Nat.zero_add _)
  | ⟨2, _⟩ =>
    show min (idx (gather_S1024x32x513_S1024x32x1x1_S1024x32x1_n_2_01_01_2_3_111.siIdx (ix3 I t (0 : Fin 1)) _)).toInt.toNat 512 + 0 + 0 = p
    rw [hi, h, toInt_ofNat (by omega)]
    omega

theorem entries_entry (x : Vec Ideal S1024x32x513 .f32) (s : Vec Ideal S1024x32 .i32) (I : Fin 1024) (t : Fin 32) (p : Fin 513)
    (h : s (ix2 I t) = BitVec.ofNat 32 p.val) :
    shapeCast S1024x32 (entries x (broadcastInDim S1024x32x1 ![0, 1] bcast_S1024x32_S1024x32x1_0_1 s)) shapeCasts_S1024x32x1_S1024x32 (ix2 I t)
      = x (ix3 I t p) := by
  have hw : wrapped (F := Ideal) (broadcastInDim S1024x32x1 ![0, 1] bcast_S1024x32_S1024x32x1_0_1 s) (ix4 I t 0 0) = BitVec.ofNat 32 p.val := by
    rw [wrapped_entry, h, wrapWord_ofNat p.isLt]
  have hin : inside (F := Ideal) (wrapped (F := Ideal) (broadcastInDim S1024x32x1 ![0, 1] bcast_S1024x32_S1024x32x1_0_1 s)) (ix3 I t 0) = 1#1 := by
    rw [inside_entry]
    refine (Finset.fold_congr fun k _ => ?_).trans (Finset.fold_singleton (a := (0 : Fin 1)) (b := 1#1) (f := fun _ => 1#1) (op := IntOp.andi))
    obtain rfl : k = 0 := Subsingleton.elim _ _
    rw [hw]
    exact within p.isLt
  have hg : Host.gather gather_S1024x32x513_S1024x32x1x1_S1024x32x1_n_2_01_01_2_3_111 x
      (wrapped (F := Ideal) (broadcastInDim S1024x32x1 ![0, 1] bcast_S1024x32_S1024x32x1_0_1 s)) (ix3 I t 0) = x (ix3 I t p) :=
    congrArg x (gather_idx _ I t p.isLt hw)
  pointwise [entries]
  rw [hin, hg]
  rfl

end Cert.ReferenceIdeal.Gen

end
-- ==== Proof.RV.Arg.lean ====
module

public import proofs.«01_k».proof.Proof.RI.Model
public import proofs.«01_k».proof.Proof.VM.Row
public import Idealize.ShloMosaic.Lib.Pointwise
public import Idealize.ShloMosaic.Lib.IdealHost

@[expose] public section

set_option maxRecDepth 16384

noncomputable section

namespace Cert.ReferenceIdeal.Gen

open Idealize.ShloMosaic Cert.Greedy

/-! The reference's two arg-max reductions choose the first maximum. -/

theorem arg_fst (a b : EReal × BitVec 32) (h : b.1 < a.1) : reducer_argmax_f32_i32 (F := Ideal) a b = a := by
  obtain ⟨a1, a2⟩ := a
  obtain ⟨b1, b2⟩ := b
  have h' : b1 < a1 := h
  have e : FloatOps.cmpf (F := Ideal) (φ := .f32) .ogt a1 b1 = 1#1 := by
    show BitVec.ofBool (decide (b1 < a1)) = 1#1
    rw [decide_eq_true h']; rfl
  have o : ∀ v : BitVec 1, 1#1 ||| v = 1#1 := by decide
  simp [reducer_argmax_f32_i32, e, o, IntOp.ori, Scalar.select]

theorem arg_snd (a b : EReal × BitVec 32) (h : a.1 < b.1) : reducer_argmax_f32_i32 (F := Ideal) a b = b := by
  obtain ⟨a1, a2⟩ := a
  obtain ⟨b1, b2⟩ := b
  have h' : a1 < b1 := h
  have e : FloatOps.cmpf (F := Ideal) (φ := .f32) .ogt a1 b1 = 0#1 := by
    show BitVec.ofBool (decide (b1 < a1)) = 0#1
    rw [decide_eq_false h'.not_gt]; rfl
  have e2 : FloatOps.cmpf (F := Ideal) (φ := .f32) .une a1 a1 = 0#1 := by
    show BitVec.ofBool (decide (a1 ≠ a1)) = 0#1
    simp
  have e3 : FloatOps.cmpf (F := Ideal) (φ := .f32) .oeq a1 b1 = 0#1 := by
    show BitVec.ofBool (decide (a1 = b1)) = 0#1
    rw [decide_eq_false h'.ne]; rfl
  simp [reducer_argmax_f32_i32, e, e2, e3, IntOp.ori, IntOp.andi, Scalar.select]

theorem arg_tie (a b : EReal × BitVec 32) (h : a.1 = b.1) :
    reducer_argmax_f32_i32 (F := Ideal) a b = if a.2.toInt < b.2.toInt then a else b := by
  obtain ⟨a1, a2⟩ := a
  obtain ⟨b1, b2⟩ := b
  obtain rfl : a1 = b1 := h
  have e : FloatOps.cmpf (F := Ideal) (φ := .f32) .ogt a1 a1 = 0#1 := by
    show BitVec.ofBool (decide (a1 < a1)) = 0#1
    simp
  have e2 : FloatOps.cmpf (F := Ideal) (φ := .f32) .une a1 a1 = 0#1 := by
    show BitVec.ofBool (decide (a1 ≠ a1)) = 0#1
    simp
  have e3 : FloatOps.cmpf (F := Ideal) (φ := .f32) .oeq a1 a1 = 1#1 := by
    show BitVec.ofBool (decide (a1 = a1)) = 1#1
    simp
  have e4 : IntOp.cmpi .slt a2 b2 = BitVec.ofBool (decide (a2.toInt < b2.toInt)) := by
    show BitVec.ofBool (a2.slt b2) = _
    rw [BitVec.slt_eq_decide]
  by_cases q : a2.toInt < b2.toInt
  · rw [if_pos q]
    rw [decide_eq_true q] at e4
    simp [reducer_argmax_f32_i32, e, e2, e3, e4, IntOp.ori, IntOp.andi, Scalar.select]
  · rw [if_neg q]
    rw [decide_eq_false q] at e4
    simp [reducer_argmax_f32_i32, e, e2, e3, e4, IntOp.ori, IntOp.andi, Scalar.select]

theorem start_word : constant (F := Ideal) S_ .f32 0xFF800000#32 (Shape.Idx.first h_S_) = (⊥ : EReal) :=
  (show Ideal.ofBits .f32 0xFF800000#32 = (⊥ : EReal) by simp [Ideal.ofBits, Ideal.ieee])

theorem row_reduces : S1024x513.Reduces [1] S1024 := by decide

theorem plane_reduces : S1024x32x514.Reduces [2] S1024x32 := by decide

theorem lift_row (h : S1024x513.Reduces [1] S1024) (I : Fin 1024) (k : Fin (S1024x513.size 1)) :
    h.lift (ix1 I) k = ix2 I (k.cast (show S1024x513.size 1 = 513 from rfl)) := by
  funext c; apply Fin.ext
  fin_cases c <;> rfl

theorem lift_plane (h : S1024x32x514.Reduces [2] S1024x32) (I : Fin 1024) (t : Fin 32) (k : Fin (S1024x32x514.size 2)) :
    h.lift (ix2 I t) k = ix3 I t (k.cast (show S1024x32x514.size 2 = 514 from rfl)) := by
  funext c; apply Fin.ext
  fin_cases c <;> rfl

theorem snd_eq {T : Shape} {α β : Type} (A : T.Idx → α × β) (B : T.Idx → β) (h : B = fun j => (A j).2) (j : T.Idx) (v : β)
    (hv : (A j).2 = v) : B j = v := by
  rw [h]; exact hv

theorem best_first (x : Vec Ideal S1024x513 .f32) (I : Fin 1024) (p : Fin 513) (hp : IsFirst (fun k => (x (ix2 I k) : EReal)) p)
    (hb : (⊥ : EReal) < x (ix2 I p)) : best x (ix1 I) = BitVec.ofNat 32 p.val :=
  snd_eq (T := S1024) (β := BitVec 32) (Host.argReduce (reducer_argmax_f32_i32 (F := Ideal)) x (iotaInDim S1024x513 32 1)
      (constant (F := Ideal) S_ .f32 0xFF800000#32) (constantI S_ 32 0#32) reducesTo_S1024x513_S1024_d1 h_S_) (best x) rfl (ix1 I) _
    (argReduce_fiber (s := S1024x513) (t := S1024) (a := 1) (n := 513) rfl (reducer_argmax_f32_i32 (F := Ideal)) arg_fst arg_snd arg_tie x _ _ _ _
      row_reduces _ start_word (ix1 I) (fun k => ix2 I k) (lift_row _ I) (by norm_num) (fun k => ValueIdx.iotaInDim_apply 32 1 (ix2 I k)) p hp hb)

theorem symbols_first (x : Vec Ideal S1024x32x514 .f32) (I : Fin 1024) (t : Fin 32) (p : Fin 514) (hp : IsFirst (fun k => (x (ix3 I t k) : EReal)) p)
    (hb : (⊥ : EReal) < x (ix3 I t p)) : symbols x (ix2 I t) = BitVec.ofNat 32 p.val :=
  snd_eq (T := S1024x32) (β := BitVec 32) (Host.argReduce (reducer_argmax_f32_i32 (F := Ideal)) x (iotaInDim S1024x32x514 32 2)
      (constant (F := Ideal) S_ .f32 0xFF800000#32) (constantI S_ 32 0#32) reducesTo_S1024x32x514_S1024x32_d2 h_S_) (symbols x) rfl (ix2 I t) _
    (argReduce_fiber (s := S1024x32x514) (t := S1024x32) (a := 2) (n := 514) rfl (reducer_argmax_f32_i32 (F := Ideal)) arg_fst arg_snd arg_tie x _ _ _ _
      plane_reduces _ start_word (ix2 I t) (fun k => ix3 I t k) (lift_plane _ I t) (by norm_num)
      (fun k => ValueIdx.iotaInDim_apply 32 2 (ix3 I t k)) p hp hb)

end Cert.ReferenceIdeal.Gen

end
-- ==== Proof.RV.Row.lean ====
module

public import proofs.«01_k».proof.Proof.RV.Entry
public import proofs.«01_k».proof.Proof.RV.Arg
public import proofs.«01_k».proof.Proof.RI.Trip

@[expose] public section

set_option maxRecDepth 16384

noncomputable section

namespace Cert.ReferenceIdeal.Gen

open Idealize.ShloMosaic Cert.Greedy

/-! The reference's trips follow the row's. -/

/-- The loop's weights are a net's, and its biases are zero. -/
structure Fits (P : Params Ideal) (N : Net) : Prop where
  ow : ∀ k c, P.ow (ix2 k c) = N.ow k c
  gr : ∀ k c, P.gr (ix2 k c) = N.gr k c
  gk : ∀ k c, P.gk (ix2 k c) = N.gk k c
  gb : ∀ q c, P.gb (ix2 q c) = (0 : EReal)
  ob : ∀ c, P.ob (ix1 c) = (0 : EReal)
  real : ∀ k c, IsReal (N.ow k c)

/-- Row `I` of the carried values is a row's. -/
structure At (s : Carried Ideal) (I : Fin 1024) (x : St) : Prop where
  h : ∀ j, s.h (ix2 I j) = x.h j
  tok : ∀ k, s.tok (ix2 I k) = if k = x.s then (1 : EReal) else 0
  real : ∀ j, IsReal (x.h j)

/-- A step's probabilities. -/
def chance (N : Net) (x : St) (l : Fin 513) : EReal := Ideal.div (Ideal.exp (logit N x l - logit N x (pick N x))) (mass N x)

variable {P : Params Ideal} {N : Net} (F : Fits P N) {s : Carried Ideal} {I : Fin 1024} {x : St} (A : At s I x)

include F A in
theorem At.next (j : Fin 256) : (nextH P s (ix2 I j) : EReal) = hid N x j := by
  unfold nextH
  rw [blend_entry]
  unfold hid
  congr 1
  · funext l
    rw [projX_entry, F.gb, add_zero]
    exact (Finset.sum_congr rfl fun k _ => congrArg₂ (· * ·) (A.tok k) (F.gk k l)).trans (hot_dot x.s fun k => N.gk k l)
  · funext l
    rw [projH_entry, F.gb, add_zero]
    exact Finset.sum_congr rfl fun k _ => congrArg₂ (· * ·) (A.h k) (F.gr k l)
  · exact funext A.h

include F A in
theorem At.score (l : Fin 513) : (scores (nextH P s) P.ow P.ob (ix2 I l) : EReal) = logit N x l := by
  rw [scores_entry, F.ob, add_zero]
  exact Finset.sum_congr rfl fun k _ => congrArg₂ (· * ·) (A.next F k) (F.ow k l)

include F A in
theorem At.power (l : Fin 513) :
    (expo (scores (nextH P s) P.ow P.ob) (ix2 I l) : EReal) = Ideal.exp (logit N x l - logit N x (pick N x)) := by
  have hp : IsFirst (logit N x) (pick N x) := first_spec _
  rw [expo_entry, A.score F]
  simp only [A.score F]
  rw [fold_max_first hp, max_eq_right bot_le]

include F A in
theorem At.prob (l : Fin 513) : (nextP P s (ix2 I l) : EReal) = chance N x l := by
  unfold nextP
  rw [soft_entry, A.power F]
  simp only [A.power F]
  rfl

include F A in
theorem At.chosen : best (nextP P s) (ix1 I) = BitVec.ofNat 32 (pick N x).val := by
  have hp : IsFirst (logit N x) (pick N x) := first_spec _
  obtain ⟨h1, h2, -⟩ := soft_first (isReal_logit N F.real x A.real) hp
  refine best_first _ _ _ ?_ ?_
  · simp only [A.prob F]
    exact h1
  · rw [A.prob F]
    exact h2

theorem word_eq {a b : ℕ} (ha : a < 1024) (hb : b < 1024) : BitVec.ofNat 32 a = BitVec.ofNat 32 b ↔ a = b := by
  refine ⟨fun h => ?_, fun h => by rw [h]⟩
  have := congrArg BitVec.toNat h
  simp only [BitVec.toNat_ofNat] at this
  omega

include F A in
theorem At.hot (k : Fin 514) : (hots (F := Ideal) (best (nextP P s)) (ix2 I k) : EReal) = if k = (pick N x).castSucc then 1 else 0 := by
  rw [hots_entry, A.chosen F]
  refine if_congr ?_ rfl rfl
  rw [word_eq (by have := (pick N x).isLt; omega) (by have := k.isLt; omega), Fin.ext_iff]
  exact eq_comm

include F A in
theorem At.go (k : ℕ) : At (advance P k s) I (adv N x) where
  h := A.next F
  tok := A.hot F
  real := isReal_gate _ _ A.real

include F A in
theorem At.run (n : ℕ) : At (carried P s n) I (traj N x n) := by
  induction n with
  | zero => exact A
  | succ n ih => exact ih.go F n

include F A in
/-- What the records hold of trip `t`. -/
theorem At.kept (t : Fin 32) (n : ℕ) (hn : n ≤ 32) (ht : t.val < n) :
    (∀ k, ((carried P s n).toks (ix3 t I k) : EReal) = if k = (pick N (traj N x t.val)).castSucc then 1 else 0) ∧
      ∀ l, ((carried P s n).probs (ix3 t I l) : EReal) = chance N (traj N x t.val) l := by
  induction n with
  | zero => exact absurd ht (Nat.not_lt_zero _)
  | succ n ih =>
    have e1 := fun k => putTok_entry (carried P s n).toks (hots (best (nextP P (carried P s n)))) ⟨n, hn⟩ t I k
    have e2 := fun l => putProb_entry (carried P s n).probs (nextP P (carried P s n)) ⟨n, hn⟩ t I l
    by_cases q : t.val = n
    · have q' : t = ⟨n, hn⟩ := Fin.ext q
      refine ⟨fun k => (e1 k).trans ?_, fun l => (e2 l).trans ?_⟩
      · rw [if_pos q', q]
        exact (A.run F n).hot F k
      · rw [if_pos q', q]
        exact (A.run F n).prob F l
    · have q' : ¬ t = ⟨n, hn⟩ := fun h => q (congrArg Fin.val h)
      obtain ⟨i1, i2⟩ := ih (by omega) (by omega)
      refine ⟨fun k => (e1 k).trans ?_, fun l => (e2 l).trans ?_⟩
      · rw [if_neg q']
        exact i1 k
      · rw [if_neg q']
        exact i2 l

end Cert.ReferenceIdeal.Gen

end
-- ==== Proof.RV.Running.lean ====
module

public import proofs.«01_k».proof.Proof.RI.Model
public import proofs.«01_k».proof.Proof.VM.Row
public import Idealize.ShloMosaic.Lib.Pointwise

@[expose] public section

set_option maxRecDepth 16384

noncomputable section

namespace Cert.ReferenceIdeal.Gen

open Idealize.ShloMosaic Cert.Greedy

/-! The running sum of marks is positive from the first mark on. -/

/-- A sum of zeros and ones, with its bound, and when it is positive. -/
theorem sum_marks {α : Type} (g : α → BitVec 32) (hg : ∀ a, g a = 0#32 ∨ g a = 1#32) (l : List α) : ∀ v : ℕ,
    ∃ w : ℕ, l.foldl (fun r a => IntOp.addi r (g a)) (BitVec.ofNat 32 v) = BitVec.ofNat 32 w ∧ w ≤ v + l.length
      ∧ (0 < w ↔ 0 < v ∨ ∃ a ∈ l, g a = 1#32) := by
  induction l with
  | nil => intro v; exact ⟨v, rfl, le_rfl, by simp⟩
  | cons a l ih =>
    intro v
    rcases hg a with h | h
    · obtain ⟨w, h1, h2, h3⟩ := ih v
      refine ⟨w, ?_, by rw [List.length_cons]; omega, ?_⟩
      · rw [List.foldl_cons, h, ← h1]
        congr 1
        exact BitVec.add_zero _
      · rw [h3]; simp [h]
    · obtain ⟨w, h1, h2, h3⟩ := ih (v + 1)
      refine ⟨w, ?_, by rw [List.length_cons]; omega, ?_⟩
      · rw [List.foldl_cons, h, ← h1]
        congr 1
        exact (BitVec.ofNat_add v 1).symm
      · rw [h3]; simp [h]

/-- The window of the running sum. -/
abbrev Win : Shape := ⟨2, ![1, 32]⟩

/-- What the running sum adds at a position of the window: the operand's entry, zero before the first. -/
def term (x : Vec Ideal S1024x32 .i32) (I : Fin 1024) (t : Fin 32) (n : Fin Win.numel) : BitVec 32 :=
  if h : 31 ≤ t.val + (Win.rowMajor.symm n 1).val then
    x (ix2 I (⟨t.val + (Win.rowMajor.symm n 1).val - 31, by have : (Win.rowMajor.symm n 1).val < 32 := (Win.rowMajor.symm n 1).isLt; omega⟩ : Fin 32))
  else 0#32

theorem running_term (x : Vec Ideal S1024x32 .i32) (I : Fin 1024) (t : Fin 32) :
    running (F := Ideal) x (ix2 I t) = (List.finRange Win.numel).foldl (fun r n => IntOp.addi r (term x I t n)) (BitVec.ofNat 32 0) := by
  unfold running Host.reduceWindow
  refine congrArg (fun f => List.foldl f (BitVec.ofNat 32 0) (List.finRange Win.numel)) (funext fun r => funext fun n => ?_)
  have h0 : (Win.rowMajor.symm n 0).val < 1 := (Win.rowMajor.symm n 0).isLt
  have h1 : (Win.rowMajor.symm n 1).val < 32 := (Win.rowMajor.symm n 1).isLt
  have hI := I.isLt
  have ht := t.isLt
  dsimp only
  congr 1
  unfold term
  split
  · next hin =>
    have h := hin 1
    change 31 ≤ t.val * 1 + (Win.rowMajor.symm n 1).val ∧ t.val * 1 + (Win.rowMajor.symm n 1).val - 31 < 32 at h
    rw [dif_pos (by omega)]
    refine congrArg x (funext fun a => Fin.ext ?_)
    match a with
    | ⟨0, _⟩ => show I.val * 1 + (Win.rowMajor.symm n 0).val - 0 = I.val; omega
    | ⟨1, _⟩ => show t.val * 1 + (Win.rowMajor.symm n 1).val - 31 = t.val + (Win.rowMajor.symm n 1).val - 31; omega
  · next hin =>
    rw [dif_neg fun h => hin fun a => by
      match a with
      | ⟨0, _⟩ =>
        show 0 ≤ I.val * 1 + (Win.rowMajor.symm n 0).val ∧ I.val * 1 + (Win.rowMajor.symm n 0).val - 0 < 1024
        omega
      | ⟨1, _⟩ =>
        show 31 ≤ t.val * 1 + (Win.rowMajor.symm n 1).val ∧ t.val * 1 + (Win.rowMajor.symm n 1).val - 31 < 32
        omega]
    rfl

theorem term_marks (x : Vec Ideal S1024x32 .i32) (I : Fin 1024) (hx : ∀ t : Fin 32, x (ix2 I t) = 0#32 ∨ x (ix2 I t) = 1#32) (t : Fin 32) :
    (∀ n, term x I t n = 0#32 ∨ term x I t n = 1#32) ∧
      ((∃ n ∈ List.finRange Win.numel, term x I t n = 1#32) ↔ ∃ u : Fin 32, u.val ≤ t.val ∧ x (ix2 I u) = 1#32) := by
  have ht := t.isLt
  refine ⟨fun n => ?_, ?_, ?_⟩
  · unfold term
    split
    · exact hx _
    · exact Or.inl rfl
  · rintro ⟨n, -, h⟩
    have h1 : (Win.rowMajor.symm n 1).val < 32 := (Win.rowMajor.symm n 1).isLt
    unfold term at h
    split at h
    · exact ⟨_, by show t.val + (Win.rowMajor.symm n 1).val - 31 ≤ t.val; omega, h⟩
    · exact absurd h (by decide)
  · rintro ⟨u, hu, h⟩
    refine ⟨Win.rowMajor (ix2 (0 : Fin 1) (⟨31 - t.val + u.val, by omega⟩ : Fin 32)), List.mem_finRange _, ?_⟩
    have e : (Win.rowMajor.symm (Win.rowMajor (ix2 (0 : Fin 1) (⟨31 - t.val + u.val, by omega⟩ : Fin 32))) 1).val = 31 - t.val + u.val := by
      rw [Equiv.symm_apply_apply]; rfl
    unfold term
    rw [dif_pos (by rw [e]; omega), ← h]
    refine congrArg (fun v : Fin 32 => x (ix2 I v)) (Fin.ext ?_)
    show t.val + (Win.rowMajor.symm _ 1).val - 31 = u.val
    rw [e]; omega

theorem positive {w : ℕ} (h : w < 2 ^ 31) : IntOp.cmpi .sgt (BitVec.ofNat 32 w) 0#32 = 1#1 ↔ 0 < w := by
  have e := toInt_ofNat h
  have : (0#32).slt (BitVec.ofNat 32 w) = decide (0 < w) := by
    rw [BitVec.slt_eq_decide, e]
    simp
  show BitVec.ofBool ((0#32).slt (BitVec.ofNat 32 w)) = 1#1 ↔ 0 < w
  rw [this]
  by_cases h : 0 < w <;> simp [h]

theorem done_running (x : Vec Ideal S1024x32 .i32) (I : Fin 1024) (hx : ∀ t : Fin 32, x (ix2 I t) = 0#32 ∨ x (ix2 I t) = 1#32) (t : Fin 32) :
    done (F := Ideal) (running (F := Ideal) x) (ix2 I t) = 1#1 ↔ ∃ u : Fin 32, u.val ≤ t.val ∧ x (ix2 I u) = 1#32 := by
  obtain ⟨h1, h2⟩ := term_marks x I hx t
  obtain ⟨w, e, hw, hp⟩ := sum_marks (term x I t) h1 (List.finRange Win.numel) 0
  have hl : (List.finRange Win.numel).length = 32 := (List.length_finRange).trans (by decide)
  show IntOp.cmpi .sgt (running (F := Ideal) x (ix2 I t)) 0#32 = 1#1 ↔ _
  rw [running_term, e, positive (by omega), hp, ← h2]
  simp

end Cert.ReferenceIdeal.Gen

end
-- ==== Proof.RV.Final.lean ====
module

public import proofs.«01_k».proof.Proof.RV.Row
public import proofs.«01_k».proof.Proof.RV.Running
public import proofs.«01_k».proof.Proof.RI.Run

@[expose] public section

set_option maxRecDepth 16384

noncomputable section

namespace Cert.ReferenceIdeal.Gen

open Idealize.ShloMosaic Idealize.ShloMosaic.TcCoe Cert.Greedy

variable (m : (ℓ : Loc nD τ sig) → Buf (Elt Ideal) ℓ) (c : Dev nD)

/-! The reference's results, entry by entry. -/

/-- The net of the launched weights. -/
def net : Net where
  gk k l := m ((c : Thread nD τ).loc main_arg3) (ix2 k l)
  gr k l := m ((c : Thread nD τ).loc main_arg4) (ix2 k l)
  ow k l := m ((c : Thread nD τ).loc main_arg6) (ix2 k l)

/-- The row that row `I` of the batch starts from. -/
def row (I : Fin 1024) : St := seed (fun k => m ((c : Thread nD τ).loc main_arg0) (ix2 I k)) (fun k l => m ((c : Thread nD τ).loc main_arg1) (ix2 k l))

/-- The launched arrays the claim is about are real, or zero. -/
structure Ready : Prop where
  state : ∀ i j, IsReal (m ((c : Thread nD τ).loc main_arg0) (ix2 (i : Fin 1024) (j : Fin 256)))
  emb : ∀ i j, IsReal (m ((c : Thread nD τ).loc main_arg1) (ix2 (i : Fin 256) (j : Fin 256)))
  out : ∀ i j, IsReal (m ((c : Thread nD τ).loc main_arg6) (ix2 (i : Fin 256) (j : Fin 513)))
  embZero : ∀ j, m ((c : Thread nD τ).loc main_arg2) (ix1 (j : Fin 256)) = (0 : EReal)
  gruZero : ∀ q j, m ((c : Thread nD τ).loc main_arg5) (ix2 (q : Fin 2) (j : Fin 768)) = (0 : EReal)
  outZero : ∀ j, m ((c : Thread nD τ).loc main_arg7) (ix1 (j : Fin 513)) = (0 : EReal)

variable (R : Ready m c)

include R in
theorem fits : Fits (params m c) (net m c) where
  ow _ _ := rfl
  gr _ _ := rfl
  gk _ _ := rfl
  gb := R.gruZero
  ob := R.outZero
  real := R.out

include R in
theorem starts (I : Fin 1024) : At (initial m c) I (row m c I) where
  h j := by
    refine (silu_entry (startH _ _ _) I j).trans ?_
    rw [startH_entry, R.embZero, add_zero]
    rfl
  tok k := by
    show (startTok (hotRow (F := Ideal) (constantI S_ 32 513#32)) (ix2 I k) : EReal) = _
    rw [startTok_entry, hotRow_entry]
    refine if_congr ?_ rfl rfl
    rw [show (513#32) = BitVec.ofNat 32 513 from rfl, word_eq (by decide) (by have := k.isLt; omega)]
    exact ⟨fun h => Fin.ext h.symm, fun h => (congrArg Fin.val h).symm⟩
  real := isReal_seed (R.state _) R.emb

include R in
theorem out_entry (I : Fin 1024) (t : Fin 32) (k : Fin 514) :
    (outTok m c (ix3 I t k) : EReal) = if k = (pick (net m c) (traj (net m c) (row m c I) t.val)).castSucc then 1 else 0 :=
  (rowsTok_entry _ t I k).trans (((starts m c R I).kept (fits m c R) t 32 le_rfl t.isLt).1 k)

include R in
theorem out_prob (I : Fin 1024) (t : Fin 32) (l : Fin 513) :
    (rowsProb (final m c).probs (ix3 I t l) : EReal) = chance (net m c) (traj (net m c) (row m c I) t.val) l :=
  (rowsProb_entry _ t I l).trans (((starts m c R I).kept (fits m c R) t 32 le_rfl t.isLt).2 l)

theorem hot_first {n : ℕ} (p : Fin n) : IsFirst (fun k => if k = p then (1 : EReal) else 0) p := by
  refine ⟨fun k => ?_, fun k hk => ?_⟩
  · show (if k = p then (1 : EReal) else 0) ≤ if p = p then 1 else 0
    rw [if_pos rfl]
    split
    · exact le_rfl
    · exact zero_le_one
  · by_contra q
    have hk' : (if k = p then (1 : EReal) else 0) = if p = p then 1 else 0 := hk
    rw [if_pos rfl, if_neg fun w => q (le_of_eq w.symm)] at hk'
    exact zero_ne_one hk'

include R in
theorem out_symbol (I : Fin 1024) (t : Fin 32) :
    symbols (outTok m c) (ix2 I t) = BitVec.ofNat 32 (pick (net m c) (traj (net m c) (row m c I) t.val)).val := by
  refine symbols_first _ I t (pick (net m c) (traj (net m c) (row m c I) t.val)).castSucc ?_ ?_
  · simp only [out_entry m c R]
    exact hot_first _
  · rw [out_entry m c R, if_pos rfl]
    exact EReal.bot_lt_coe 1

open Classical in
include R in
theorem end_entry (I : Fin 1024) (t : Fin 32) : isEnd (outTok m c) (hotRow (constantI S_ 32 512#32)) (ix2 I t)
    = if (pick (net m c) (traj (net m c) (row m c I) t.val)).val = 512 then 1#32 else 0#32 := by
  rw [isEnd_entry]
  refine if_congr ?_ rfl rfl
  simp only [out_entry m c R, hotRow_entry]
  have e : ∀ k : Fin 514, (512#32 = BitVec.ofNat 32 k.val) ↔ 512 = k.val := fun k => word_eq (by decide) (by have := k.isLt; omega)
  simp only [e]
  constructor
  · intro h
    have h1 := h (pick (net m c) (traj (net m c) (row m c I) t.val)).castSucc
    rw [if_pos rfl] at h1
    by_contra q
    rw [if_neg fun w => q w.symm] at h1
    exact one_ne_zero h1
  · intro h k
    refine if_congr ?_ rfl rfl
    rw [Fin.ext_iff]
    show k.val = _ ↔ _
    rw [show ((pick (net m c) (traj (net m c) (row m c I) t.val)).castSucc).val = 512 from h]
    exact eq_comm

theorem bit_cases {b : BitVec 1} {p : Prop} [Decidable p] (h : b = 1#1 ↔ p) : b = if p then 1#1 else 0#1 := by
  by_cases hp : p
  · rw [if_pos hp]; exact h.2 hp
  · rw [if_neg hp]
    have key : ∀ v : BitVec 1, v ≠ 1#1 → v = 0#1 := by decide
    exact key b fun w => hp (h.1 w)

open Classical in
include R in
theorem ended_entry (I : Fin 1024) (t : Fin 32) : ended m c (ix2 I t) = if Ended (net m c) (row m c I) (t.val + 1) then 1#1 else 0#1 := by
  refine bit_cases ((done_running _ I (fun u => ?_) t).trans ?_)
  · rw [end_entry m c R]
    split
    · exact Or.inr rfl
    · exact Or.inl rfl
  · constructor
    · rintro ⟨u, hu, h⟩
      rw [end_entry m c R] at h
      refine ⟨u.val, Nat.lt_succ_of_le hu, ?_⟩
      by_contra q
      rw [if_neg q] at h
      exact absurd h (by decide)
    · rintro ⟨u, hu, h⟩
      have hu' : u < 32 := by have := t.isLt; omega
      refine ⟨⟨u, hu'⟩, Nat.le_of_lt_succ hu, ?_⟩
      rw [end_entry m c R, if_pos h]

open Classical in
include R in
theorem earlier_entry (I : Fin 1024) (t : Fin 32) : before (ended m c) (ix2 I t) = if Ended (net m c) (row m c I) t.val then 1#1 else 0#1 := by
  rw [before_entry]
  by_cases h : t.val < 1
  · rw [dif_pos h, if_neg]
    rw [show t.val = 0 by omega]
    exact not_ended_zero _ _
  · rw [dif_neg h, ended_entry m c R]
    rw [show t.val - 1 + 1 = t.val by omega]

open Classical in
include R in
theorem sym_value (I : Fin 1024) (t : Fin 32) : resSym m c (ix2 I t) =
    if Ended (net m c) (row m c I) t.val then 0#32 else BitVec.ofNat 32 (pick (net m c) (traj (net m c) (row m c I) t.val)).val := by
  have e : resSym m c (ix2 I t) = symbols (outTok m c) (ix2 I t) * (~~~ (before (ended m c) (ix2 I t))).setWidth 32 := rfl
  rw [e, out_symbol m c R, earlier_entry m c R]
  split
  · rw [show (~~~ 1#1).setWidth 32 = 0#32 from by decide, BitVec.mul_zero]
  · rw [show (~~~ 0#1).setWidth 32 = 1#32 from by decide, BitVec.mul_one]

theorem keep_zero : FloatOps.uitofp (F := Ideal) (w := 1) .f32 (~~~ 1#1) = (0 : EReal) := by
  simp [FloatOps.uitofp]

theorem keep_one : FloatOps.uitofp (F := Ideal) (w := 1) .f32 (~~~ 0#1) = (1 : EReal) := by
  simp [FloatOps.uitofp]

open Classical in
include R in
theorem prob_value (I : Fin 1024) (t : Fin 32) : resProb m c (ix2 I t) =
    if Ended (net m c) (row m c I) t.val then (0 : EReal) else Ideal.div 1 (mass (net m c) (traj (net m c) (row m c I) t.val)) := by
  have e : (resProb m c (ix2 I t) : EReal)
      = (shapeCast S1024x32 (entries (rowsProb (final m c).probs) (broadcastInDim S1024x32x1 ![0, 1] bcast_S1024x32_S1024x32x1_0_1 (symbols (outTok m c))))
          shapeCasts_S1024x32x1_S1024x32 (ix2 I t) : EReal) * FloatOps.uitofp (F := Ideal) .f32 (~~~ (before (ended m c) (ix2 I t))) := rfl
  rw [e, entries_entry _ _ I t _ (out_symbol m c R I t), out_prob m c R, earlier_entry m c R]
  split
  · rw [keep_zero, mul_zero]
  · rw [keep_one, mul_one]
    exact (soft_first (isReal_logit _ R.out _ (isReal_traj _ _ (isReal_seed (R.state _) R.emb) _)) (first_spec _)).2.2

open Classical in
include R in
theorem tok_value (I : Fin 1024) (t : Fin 32) (k : Fin 514) : resTok m c (ix3 I t k) =
    if k.val = (pick (net m c) (traj (net m c) (row m c I) t.val)).val ∧ ¬ Ended (net m c) (row m c I) (t.val + 1) then (1 : EReal) else 0 := by
  have e : (resTok m c (ix3 I t k) : EReal) = (outTok m c (ix3 I t k) : EReal) * marks (noti (ended m c)) (ix3 I t k) := rfl
  have n : noti (ended m c) (ix2 I t) = ~~~ (ended m c (ix2 I t)) := rfl
  rw [e, marks_entry, n, out_entry m c R, ended_entry m c R]
  have v : k = (pick (net m c) (traj (net m c) (row m c I) t.val)).castSucc ↔ k.val = (pick (net m c) (traj (net m c) (row m c I) t.val)).val := Fin.ext_iff
  by_cases h : Ended (net m c) (row m c I) (t.val + 1)
  · rw [if_pos h, keep_zero, mul_zero, if_neg fun w => w.2 h]
  · rw [if_neg h, keep_one, mul_one]
    exact if_congr (v.trans (and_iff_left h).symm) rfl rfl

end Cert.ReferenceIdeal.Gen

end
-- ==== Proof.Trained.lean ====
module

public import proofs.«01_k».proof.Pre_trained
public import proofs.«01_k».proof.Proof.VM.Row
public import Idealize.ShloMosaic.Lib.ReduceAll

@[expose] public section

set_option maxRecDepth 16384

noncomputable section

namespace Cert.Trained

open Idealize.ShloMosaic Cert.Greedy Cert.Pre_trained

/-! What the precondition says of the arrays. -/

/-- The precondition's shape facts. -/
instance facts : Cert.Pre_trained.Facts where
  bcast_S_S1024x256 := by decide
  reducesTo_S1024x256_S_d0_1 := by decide
  h_S_ := by decide
  bcast_S_S256x256 := by decide
  reducesTo_S256x256_S_d0_1 := by decide
  bcast_S_S256x513 := by decide
  reducesTo_S256x513_S_d0_1 := by decide
  bcast_S_S256 := by decide
  reducesTo_S256_S_d0 := by decide
  bcast_S_S2x768 := by decide
  reducesTo_S2x768_S_d0_1 := by decide
  bcast_S_S513 := by decide
  reducesTo_S513_S_d0 := by decide

theorem both {a b : BitVec 1} (h : IntOp.andi a b = 1#1) : a = 1#1 ∧ b = 1#1 := by
  have key : ∀ v w : BitVec 1, v &&& w = 1#1 → v = 1#1 ∧ w = 1#1 := by decide
  exact key a b h

theorem top_bits : Ideal.ofBits .f32 0x7F800000#32 = (⊤ : EReal) := by simp [Ideal.ofBits, Ideal.ieee]

theorem real_of_below (x : EReal) (h : FloatOps.cmpf (F := Ideal) (φ := .f32) .olt (FloatOps.absf (F := Ideal) (φ := .f32) x) (Ideal.ofBits .f32 0x7F800000#32) = 1#1) :
    IsReal x := by
  rw [top_bits] at h
  induction x using EReal.rec with
  | bot => exact absurd h (by simp [FloatOps.cmpf, FloatOps.absf, Ideal.cmp])
  | top => exact absurd h (by simp [FloatOps.cmpf, FloatOps.absf, Ideal.cmp])
  | coe r => exact ⟨r, rfl⟩

theorem zero_of_equal (x : EReal) (h : FloatOps.cmpf (F := Ideal) (φ := .f32) .oeq x (Ideal.ofBits .f32 0x00000000#32) = 1#1) : x = 0 := by
  have z : Ideal.ofBits .f32 0x00000000#32 = (0 : EReal) := by simp [Ideal.ofBits, Ideal.ieee]
  rw [z] at h
  by_contra q
  have e : FloatOps.cmpf (F := Ideal) (φ := .f32) .oeq x (0 : EReal) = 0#1 := by
    show BitVec.ofBool (decide (x = 0)) = 0#1
    rw [decide_eq_false q]; rfl
  rw [e] at h
  exact absurd h (by decide)

instance : Subsingleton S_.Idx := ⟨fun a b => funext fun k => k.elim0⟩

theorem decode (a0 : FVec Ideal S1024x256 .f32) (a1 : FVec Ideal S256x256 .f32) (a2 : FVec Ideal S256 .f32) (a3 : FVec Ideal S514x768 .f32)
    (a4 : FVec Ideal S256x768 .f32) (a5 : FVec Ideal S2x768 .f32) (a6 : FVec Ideal S256x513 .f32) (a7 : FVec Ideal S513 .f32)
    (h : fn (F := Ideal) a0 a1 a2 a3 a4 a5 a6 a7 = fun _ => 1#1) :
    (∀ i, IsReal (a0 i)) ∧ (∀ i, IsReal (a1 i)) ∧ (∀ i, IsReal (a6 i)) ∧ (∀ i, a2 i = (0 : EReal)) ∧ (∀ i, a5 i = (0 : EReal)) ∧ ∀ i, a7 i = (0 : EReal) := by
  have e := congrFun h (fun k => k.elim0)
  obtain ⟨e, h7⟩ := both e
  obtain ⟨e, h5⟩ := both e
  obtain ⟨e, h2⟩ := both e
  obtain ⟨e, h6⟩ := both e
  obtain ⟨h0, h1⟩ := both e
  exact ⟨fun i => real_of_below _ (Host.reduce_andi_all _ _ _ _ _ h0 i), fun i => real_of_below _ (Host.reduce_andi_all _ _ _ _ _ h1 i),
    fun i => real_of_below _ (Host.reduce_andi_all _ _ _ _ _ h6 i), fun i => zero_of_equal _ (Host.reduce_andi_all _ _ _ _ _ h2 i),
    fun i => zero_of_equal _ (Host.reduce_andi_all _ _ _ _ _ h5 i), fun i => zero_of_equal _ (Host.reduce_andi_all _ _ _ _ _ h7 i)⟩

end Cert.Trained

end
-- ==== Proof.Value.lean ====
module

public import proofs.«01_k».proof.Proof.KV.Final
public import proofs.«01_k».proof.Proof.RV.Final
public import proofs.«01_k».proof.Proof.KI.Run
public import proofs.«01_k».proof.Proof.Trained
public import proofs.«01_k».proof.Defs

@[expose] public section

set_option maxRecDepth 16384

noncomputable section

namespace Cert.Value

open Idealize.ShloMosaic Idealize.ShloMosaic.TcCoe Idealize.SL.Sem Cert.Greedy

/-! The two programs' results are equal. -/

/-- A kernel's memory and a reference's. -/
abbrev KMem := (ℓ : Loc Cert.KernelIdeal.nD Cert.KernelIdeal.τ Cert.KernelIdeal.sig) → Buf (Elt Ideal) ℓ
@[inherit_doc KMem] abbrev RMem := (ℓ : Loc Cert.ReferenceIdeal.nD Cert.ReferenceIdeal.τ Cert.ReferenceIdeal.sig) → Buf (Elt Ideal) ℓ

/-- The two launches' arguments are the same on a device. -/
def Agree (m : KMem) (m' : RMem) (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)

variable {m : KMem} {m' : RMem} {c : Dev Cert.KernelIdeal.nD}

theorem reals (h : Pre_KernelIdeal_trained m) : Cert.KernelIdeal.Gen.Reals m c := by
  obtain ⟨h0, h1, h6, -, -, -⟩ := Cert.Trained.decode _ _ _ _ _ _ _ _ (h c)
  exact ⟨fun i j => h0 _, fun i j => h1 _, fun i j => h6 _⟩

theorem ready (h : Pre_KernelIdeal_trained m) (A : Agree m m' c) : Cert.ReferenceIdeal.Gen.Ready m' c := by
  obtain ⟨h0, h1, h6, h2, h5, h7⟩ := Cert.Trained.decode _ _ _ _ _ _ _ _ (h c)
  obtain ⟨a0, a1, a2, -, -, a5, a6, a7⟩ := A
  refine ⟨fun i j => ?_, fun i j => ?_, fun i j => ?_, fun j => ?_, fun q j => ?_, fun j => ?_⟩
  · exact (congrArg IsReal (congrFun a0 _)).mpr (h0 _)
  · exact (congrArg IsReal (congrFun a1 _)).mpr (h1 _)
  · exact (congrArg IsReal (congrFun a6 _)).mpr (h6 _)
  · exact (congrFun a2 _).trans (h2 _)
  · exact (congrFun a5 _).trans (h5 _)
  · exact (congrFun a7 _).trans (h7 _)

theorem net_eq (A : Agree m m' c) : Cert.ReferenceIdeal.Gen.net m' c = Cert.KernelIdeal.Gen.net m c := by
  obtain ⟨-, -, -, a3, a4, -, a6, -⟩ := A
  unfold Cert.ReferenceIdeal.Gen.net Cert.KernelIdeal.Gen.net
  congr 1
  · exact funext fun k => funext fun l => congrFun a3 _
  · exact funext fun k => funext fun l => congrFun a4 _
  · exact funext fun k => funext fun l => congrFun a6 _

theorem row_eq (A : Agree m m' c) (I : Fin 1024) : Cert.ReferenceIdeal.Gen.row m' c I = Cert.KernelIdeal.Gen.row m c I := by
  obtain ⟨a0, a1, -, -, -, -, -, -⟩ := A
  unfold Cert.ReferenceIdeal.Gen.row Cert.KernelIdeal.Gen.row
  congr 1
  · exact funext fun k => congrFun a0 _
  · exact funext fun k => funext fun l => congrFun a1 _

theorem sym_at (h : Pre_KernelIdeal_trained m) (A : Agree m m' c) (I : Fin 1024) (t : Fin 32) :
    Cert.ReferenceIdeal.Gen.resSym m' c (ix2 I t) = Cert.KernelIdeal.Gen.symArr m c (ix2 I t) := by
  refine (Cert.ReferenceIdeal.Gen.sym_value m' c (ready h A) I t).trans (Eq.trans ?_ (Cert.KernelIdeal.Gen.sym_value m c (reals h) I t).symm)
  rw [net_eq A, row_eq A]

theorem sym_eq (h : Pre_KernelIdeal_trained m) (A : Agree m m' c) : Cert.ReferenceIdeal.Gen.resSym m' c = Cert.KernelIdeal.Gen.symArr m c := by
  funext i
  rw [ValueIdx.eq_ix2 i]
  exact sym_at h A (i 0) (i 1)

theorem prob_at (h : Pre_KernelIdeal_trained m) (A : Agree m m' c) (I : Fin 1024) (t : Fin 32) :
    Cert.ReferenceIdeal.Gen.resProb m' c (ix2 I t) = Cert.KernelIdeal.Gen.probArr m c (ix2 I t) := by
  refine (Cert.ReferenceIdeal.Gen.prob_value m' c (ready h A) I t).trans (Eq.trans ?_ (Cert.KernelIdeal.Gen.prob_value m c (reals h) I t).symm)
  rw [net_eq A, row_eq A]

theorem prob_eq (h : Pre_KernelIdeal_trained m) (A : Agree m m' c) : Cert.ReferenceIdeal.Gen.resProb m' c = Cert.KernelIdeal.Gen.probArr m c := by
  funext i
  rw [ValueIdx.eq_ix2 i]
  exact prob_at h A (i 0) (i 1)

theorem tok_at (h : Pre_KernelIdeal_trained m) (A : Agree m m' c) (I : Fin 1024) (t : Fin 32) (k : Fin 514) :
    Cert.ReferenceIdeal.Gen.resTok m' c (ix3 I t k) = Cert.KernelIdeal.Gen.tokArr m c (ix3 I t k) := by
  refine (Cert.ReferenceIdeal.Gen.tok_value m' c (ready h A) I t k).trans (Eq.trans ?_ (Cert.KernelIdeal.Gen.tok_value m c (reals h) I t k).symm)
  rw [net_eq A, row_eq A]

theorem tok_eq (h : Pre_KernelIdeal_trained m) (A : Agree m m' c) : Cert.ReferenceIdeal.Gen.resTok m' c = Cert.KernelIdeal.Gen.tokArr m c := by
  funext i
  rw [ValueIdx.eq_ix3 i]
  exact tok_at h A (i 0) (i 1) (i 2)

theorem algebraic : Cert.algebraic_KernelIdeal_ReferenceIdeal_pre_trained := by
  intro m g m' g' h A
  refine ⟨fun c => Cert.KernelIdeal.Gen.symArr m c, fun c => Cert.KernelIdeal.Gen.tokArr m c, fun c => Cert.KernelIdeal.Gen.probArr m c, ?_, ?_⟩
  · refine (θ_run _ _ _).mono ?_ (Cert.KernelIdeal.Gen.run_values m g)
    intro r q c
    obtain ⟨⟨q0, q1, q2, q3, q4, q5, q6, q7⟩, s, t, p⟩ := q.1 c
    exact ⟨s, t, p, q0, q1, q2, q3, q4, q5, q6, q7⟩
  · refine (θ_run _ _ _).mono ?_ (Cert.ReferenceIdeal.Gen.run_values m' g')
    intro r q c
    obtain ⟨⟨q0, q1, q2, q3, q4, q5, q6, q7⟩, s, t, p⟩ := q.1 c
    exact ⟨s.trans (sym_eq h (A c)), t.trans (tok_eq h (A c)), p.trans (prob_eq h (A c)), q0, q1, q2, q3, q4, q5, q6, q7⟩

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Trained.facts,
    Cert.Frames.frame_p, Cert.Frames.frame_pi, fun m g _ => Cert.Frames.frame_pi m g trivial, Cert.Frames.frame_ri,
    fun m g _ => Cert.Frames.frame_ri m g trivial, Cert.Frames.preserves, Cert.Value.algebraic⟩

end Cert.Proof

end
